-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v78_0)) (v1 : (c : Dev Cert.Kernel7Ideal.nD) → Buf (Elt Ideal) ((c.tc : Thread Cert.Kernel7Ideal.nD Cert.Kernel7Ideal.τ).loc Cert.Kernel7Ideal.main_v78_1)) (v2 : (c : Dev Cert.Kernel7Ideal.nD) → Buf (Elt Ideal) ((c.tc : Thread Cert.Kernel7Ideal.nD Cert.Kernel7Ideal.τ).loc Cert.Kernel7Ideal.main_v78_2)) (v3 : (c : Dev Cert.Kernel7Ideal.nD) → Buf (Elt Ideal) ((c.tc : Thread Cert.Kernel7Ideal.nD Cert.Kernel7Ideal.τ).loc Cert.Kernel7Ideal.main_v78_3)) (v4 : (c : Dev Cert.Kernel7Ideal.nD) → Buf (Elt Ideal) ((c.tc : Thread Cert.Kernel7Ideal.nD Cert.Kernel7Ideal.τ).loc Cert.Kernel7Ideal.main_v78_4)) (v5 : (c : Dev Cert.Kernel7Ideal.nD) → Buf (Elt Ideal) ((c.tc : Thread Cert.Kernel7Ideal.nD Cert.Kernel7Ideal.τ).loc Cert.Kernel7Ideal.main_v78_5)) (v6 : (c : Dev Cert.Kernel7Ideal.nD) → Buf (Elt Ideal) ((c.tc : Thread Cert.Kernel7Ideal.nD Cert.Kernel7Ideal.τ).loc Cert.Kernel7Ideal.main_v78_6)) (v7 : (c : Dev Cert.Kernel7Ideal.nD) → Buf (Elt Ideal) ((c.tc : Thread Cert.Kernel7Ideal.nD Cert.Kernel7Ideal.τ).loc Cert.Kernel7Ideal.main_v78_7)) (v8 : (c : Dev Cert.Kernel7Ideal.nD) → Buf (Elt Ideal) ((c.tc : Thread Cert.Kernel7Ideal.nD Cert.Kernel7Ideal.τ).loc Cert.Kernel7Ideal.main_v78_8)) (v9 : (c : Dev Cert.Kernel7Ideal.nD) → Buf (Elt Ideal) ((c.tc : Thread Cert.Kernel7Ideal.nD Cert.Kernel7Ideal.τ).loc Cert.Kernel7Ideal.main_v78_9)) (v10 : (c : Dev Cert.Kernel7Ideal.nD) → Buf (Elt Ideal) ((c.tc : Thread Cert.Kernel7Ideal.nD Cert.Kernel7Ideal.τ).loc Cert.Kernel7Ideal.main_v78_10)) (v11 : (c : Dev Cert.Kernel7Ideal.nD) → Buf (Elt Ideal) ((c.tc : Thread Cert.Kernel7Ideal.nD Cert.Kernel7Ideal.τ).loc Cert.Kernel7Ideal.main_v78_11)) (v12 : (c : Dev Cert.Kernel7Ideal.nD) → Buf (Elt Ideal) ((c.tc : Thread Cert.Kernel7Ideal.nD Cert.Kernel7Ideal.τ).loc Cert.Kernel7Ideal.main_v78_12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v78_0) = v0 c
          ∧ r.2.mem ((c.tc : Thread Cert.Kernel7Ideal.nD Cert.Kernel7Ideal.τ).loc Cert.Kernel7Ideal.main_v78_1) = v1 c
          ∧ r.2.mem ((c.tc : Thread Cert.Kernel7Ideal.nD Cert.Kernel7Ideal.τ).loc Cert.Kernel7Ideal.main_v78_2) = v2 c
          ∧ r.2.mem ((c.tc : Thread Cert.Kernel7Ideal.nD Cert.Kernel7Ideal.τ).loc Cert.Kernel7Ideal.main_v78_3) = v3 c
          ∧ r.2.mem ((c.tc : Thread Cert.Kernel7Ideal.nD Cert.Kernel7Ideal.τ).loc Cert.Kernel7Ideal.main_v78_4) = v4 c
          ∧ r.2.mem ((c.tc : Thread Cert.Kernel7Ideal.nD Cert.Kernel7Ideal.τ).loc Cert.Kernel7Ideal.main_v78_5) = v5 c
          ∧ r.2.mem ((c.tc : Thread Cert.Kernel7Ideal.nD Cert.Kernel7Ideal.τ).loc Cert.Kernel7Ideal.main_v78_6) = v6 c
          ∧ r.2.mem ((c.tc : Thread Cert.Kernel7Ideal.nD Cert.Kernel7Ideal.τ).loc Cert.Kernel7Ideal.main_v78_7) = v7 c
          ∧ r.2.mem ((c.tc : Thread Cert.Kernel7Ideal.nD Cert.Kernel7Ideal.τ).loc Cert.Kernel7Ideal.main_v78_8) = v8 c
          ∧ r.2.mem ((c.tc : Thread Cert.Kernel7Ideal.nD Cert.Kernel7Ideal.τ).loc Cert.Kernel7Ideal.main_v78_9) = v9 c
          ∧ r.2.mem ((c.tc : Thread Cert.Kernel7Ideal.nD Cert.Kernel7Ideal.τ).loc Cert.Kernel7Ideal.main_v78_10) = v10 c
          ∧ r.2.mem ((c.tc : Thread Cert.Kernel7Ideal.nD Cert.Kernel7Ideal.τ).loc Cert.Kernel7Ideal.main_v78_11) = v11 c
          ∧ r.2.mem ((c.tc : Thread Cert.Kernel7Ideal.nD Cert.Kernel7Ideal.τ).loc Cert.Kernel7Ideal.main_v78_12) = v12 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v132) = v0 c
          ∧ r.2.mem ((c.tc : Thread Cert.Reference7Ideal.nD Cert.Reference7Ideal.τ).loc Cert.Reference7Ideal.main_v133) = v1 c
          ∧ r.2.mem ((c.tc : Thread Cert.Reference7Ideal.nD Cert.Reference7Ideal.τ).loc Cert.Reference7Ideal.main_v15) = v2 c
          ∧ r.2.mem ((c.tc : Thread Cert.Reference7Ideal.nD Cert.Reference7Ideal.τ).loc Cert.Reference7Ideal.main_v16) = v3 c
          ∧ r.2.mem ((c.tc : Thread Cert.Reference7Ideal.nD Cert.Reference7Ideal.τ).loc Cert.Reference7Ideal.main_v93) = v4 c
          ∧ r.2.mem ((c.tc : Thread Cert.Reference7Ideal.nD Cert.Reference7Ideal.τ).loc Cert.Reference7Ideal.main_v18) = v5 c
          ∧ r.2.mem ((c.tc : Thread Cert.Reference7Ideal.nD Cert.Reference7Ideal.τ).loc Cert.Reference7Ideal.main_v129) = v6 c
          ∧ r.2.mem ((c.tc : Thread Cert.Reference7Ideal.nD Cert.Reference7Ideal.τ).loc Cert.Reference7Ideal.main_v20) = v7 c
          ∧ r.2.mem ((c.tc : Thread Cert.Reference7Ideal.nD Cert.Reference7Ideal.τ).loc Cert.Reference7Ideal.main_v131) = v8 c
          ∧ r.2.mem ((c.tc : Thread Cert.Reference7Ideal.nD Cert.Reference7Ideal.τ).loc Cert.Reference7Ideal.main_v137) = v9 c
          ∧ r.2.mem ((c.tc : Thread Cert.Reference7Ideal.nD Cert.Reference7Ideal.τ).loc Cert.Reference7Ideal.main_v141) = v10 c
          ∧ r.2.mem ((c.tc : Thread Cert.Reference7Ideal.nD Cert.Reference7Ideal.τ).loc Cert.Reference7Ideal.main_v145) = v11 c
          ∧ r.2.mem ((c.tc : Thread Cert.Reference7Ideal.nD Cert.Reference7Ideal.τ).loc Cert.Reference7Ideal.main_v149) = v12 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v148_0)) (v1 : (c : Dev Cert.Kernel8Ideal.nD) → Buf (Elt Ideal) ((c.tc : Thread Cert.Kernel8Ideal.nD Cert.Kernel8Ideal.τ).loc Cert.Kernel8Ideal.main_v148_1)) (v2 : (c : Dev Cert.Kernel8Ideal.nD) → Buf (Elt Ideal) ((c.tc : Thread Cert.Kernel8Ideal.nD Cert.Kernel8Ideal.τ).loc Cert.Kernel8Ideal.main_v148_2)) (v3 : (c : Dev Cert.Kernel8Ideal.nD) → Buf (Elt Ideal) ((c.tc : Thread Cert.Kernel8Ideal.nD Cert.Kernel8Ideal.τ).loc Cert.Kernel8Ideal.main_v148_3)) (v4 : (c : Dev Cert.Kernel8Ideal.nD) → Buf (Elt Ideal) ((c.tc : Thread Cert.Kernel8Ideal.nD Cert.Kernel8Ideal.τ).loc Cert.Kernel8Ideal.main_v148_4)) (v5 : (c : Dev Cert.Kernel8Ideal.nD) → Buf (Elt Ideal) ((c.tc : Thread Cert.Kernel8Ideal.nD Cert.Kernel8Ideal.τ).loc Cert.Kernel8Ideal.main_v148_5)) (v6 : (c : Dev Cert.Kernel8Ideal.nD) → Buf (Elt Ideal) ((c.tc : Thread Cert.Kernel8Ideal.nD Cert.Kernel8Ideal.τ).loc Cert.Kernel8Ideal.main_v148_6)) (v7 : (c : Dev Cert.Kernel8Ideal.nD) → Buf (Elt Ideal) ((c.tc : Thread Cert.Kernel8Ideal.nD Cert.Kernel8Ideal.τ).loc Cert.Kernel8Ideal.main_v148_7)) (v8 : (c : Dev Cert.Kernel8Ideal.nD) → Buf (Elt Ideal) ((c.tc : Thread Cert.Kernel8Ideal.nD Cert.Kernel8Ideal.τ).loc Cert.Kernel8Ideal.main_v148_8)) (v9 : (c : Dev Cert.Kernel8Ideal.nD) → Buf (Elt Ideal) ((c.tc : Thread Cert.Kernel8Ideal.nD Cert.Kernel8Ideal.τ).loc Cert.Kernel8Ideal.main_v148_9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v148_0) = v0 c
          ∧ r.2.mem ((c.tc : Thread Cert.Kernel8Ideal.nD Cert.Kernel8Ideal.τ).loc Cert.Kernel8Ideal.main_v148_1) = v1 c
          ∧ r.2.mem ((c.tc : Thread Cert.Kernel8Ideal.nD Cert.Kernel8Ideal.τ).loc Cert.Kernel8Ideal.main_v148_2) = v2 c
          ∧ r.2.mem ((c.tc : Thread Cert.Kernel8Ideal.nD Cert.Kernel8Ideal.τ).loc Cert.Kernel8Ideal.main_v148_3) = v3 c
          ∧ r.2.mem ((c.tc : Thread Cert.Kernel8Ideal.nD Cert.Kernel8Ideal.τ).loc Cert.Kernel8Ideal.main_v148_4) = v4 c
          ∧ r.2.mem ((c.tc : Thread Cert.Kernel8Ideal.nD Cert.Kernel8Ideal.τ).loc Cert.Kernel8Ideal.main_v148_5) = v5 c
          ∧ r.2.mem ((c.tc : Thread Cert.Kernel8Ideal.nD Cert.Kernel8Ideal.τ).loc Cert.Kernel8Ideal.main_v148_6) = v6 c
          ∧ r.2.mem ((c.tc : Thread Cert.Kernel8Ideal.nD Cert.Kernel8Ideal.τ).loc Cert.Kernel8Ideal.main_v148_7) = v7 c
          ∧ r.2.mem ((c.tc : Thread Cert.Kernel8Ideal.nD Cert.Kernel8Ideal.τ).loc Cert.Kernel8Ideal.main_v148_8) = v8 c
          ∧ r.2.mem ((c.tc : Thread Cert.Kernel8Ideal.nD Cert.Kernel8Ideal.τ).loc Cert.Kernel8Ideal.main_v148_9) = v9 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v202) = v0 c
          ∧ r.2.mem ((c.tc : Thread Cert.Reference8Ideal.nD Cert.Reference8Ideal.τ).loc Cert.Reference8Ideal.main_v204) = v1 c
          ∧ r.2.mem ((c.tc : Thread Cert.Reference8Ideal.nD Cert.Reference8Ideal.τ).loc Cert.Reference8Ideal.main_v206) = v2 c
          ∧ r.2.mem ((c.tc : Thread Cert.Reference8Ideal.nD Cert.Reference8Ideal.τ).loc Cert.Reference8Ideal.main_v47) = v3 c
          ∧ r.2.mem ((c.tc : Thread Cert.Reference8Ideal.nD Cert.Reference8Ideal.τ).loc Cert.Reference8Ideal.main_v200) = v4 c
          ∧ r.2.mem ((c.tc : Thread Cert.Reference8Ideal.nD Cert.Reference8Ideal.τ).loc Cert.Reference8Ideal.main_v207) = v5 c
          ∧ r.2.mem ((c.tc : Thread Cert.Reference8Ideal.nD Cert.Reference8Ideal.τ).loc Cert.Reference8Ideal.main_v155) = v6 c
          ∧ r.2.mem ((c.tc : Thread Cert.Reference8Ideal.nD Cert.Reference8Ideal.τ).loc Cert.Reference8Ideal.main_v208) = v7 c
          ∧ r.2.mem ((c.tc : Thread Cert.Reference8Ideal.nD Cert.Reference8Ideal.τ).loc Cert.Reference8Ideal.main_v19) = v8 c
          ∧ r.2.mem ((c.tc : Thread Cert.Reference8Ideal.nD Cert.Reference8Ideal.τ).loc Cert.Reference8Ideal.main_v209) = v9 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S32768x1536 : Shape := ⟨2, ![32768, 1536]⟩
abbrev S32768x768 : Shape := ⟨2, ![32768, 768]⟩
abbrev S_ : Shape := ⟨0, ![]⟩

class Facts : Prop where
  bcast_S_S32768x1536 : S_.BroadcastsInDim S32768x1536 (![] : Fin 0 → Fin S32768x1536.rank)

variable [Facts]

def fn {F : FTy → Type} [FloatOps F] (main_arg0 : FVec F S32768x1536 .bf16) (main_arg1 : FVec F S32768x1536 .bf16) (main_arg2 : FVec F S32768x768 .bf16) : IVec S32768x1536 1 × IVec S32768x1536 1 :=
  let main_cst : FVec F S_ .bf16 := constant S_ .bf16 0xFF80#16
  let main_v0 : FVec F S32768x1536 .bf16 := broadcastInDim S32768x1536 ![] bcast_S_S32768x1536 main_cst
  let main_v1 : IVec S32768x1536 1 := cmpf .ogt main_arg0 main_v0
  let main_cst_0 : FVec F S_ .bf16 := constant S_ .bf16 0x7F80#16
  let main_v2 : FVec F S32768x1536 .bf16 := broadcastInDim S32768x1536 ![] bcast_S_S32768x1536 main_cst_0
  let main_v3 : IVec S32768x1536 1 := cmpf .olt main_arg0 main_v2
  let main_v4 : IVec S32768x1536 1 := andi main_v1 main_v3
  let main_cst_1 : FVec F S_ .bf16 := constant S_ .bf16 0xFF80#16
  let main_v5 : FVec F S32768x1536 .bf16 := broadcastInDim S32768x1536 ![] bcast_S_S32768x1536 main_cst_1
  let main_v6 : IVec S32768x1536 1 := cmpf .ogt main_arg1 main_v5
  let main_cst_2 : FVec F S_ .bf16 := constant S_ .bf16 0x7F80#16
  let main_v7 : FVec F S32768x1536 .bf16 := broadcastInDim S32768x1536 ![] bcast_S_S32768x1536 main_cst_2
  let main_v8 : IVec S32768x1536 1 := cmpf .olt main_arg1 main_v7
  let main_v9 : IVec S32768x1536 1 := andi main_v6 main_v8
  (main_v4, main_v9)
-- ==== Pre_finite7.lean ====
abbrev S32768x1024 : Shape := ⟨2, ![32768, 1024]⟩
abbrev S1024 : Shape := ⟨1, ![1024]⟩
abbrev S1024x1840 : Shape := ⟨2, ![1024, 1840]⟩
abbrev S_ : Shape := ⟨0, ![]⟩

class Facts : Prop where
  bcast_S_S32768x1024 : S_.BroadcastsInDim S32768x1024 (![] : Fin 0 → Fin S32768x1024.rank)
  bcast_S_S1024 : S_.BroadcastsInDim S1024 (![] : Fin 0 → Fin S1024.rank)
  bcast_S_S1024x1840 : S_.BroadcastsInDim S1024x1840 (![] : Fin 0 → Fin S1024x1840.rank)

variable [Facts]

def fn {F : FTy → Type} [FloatOps F] (main_arg0 : FVec F S32768x1024 .f32) (main_arg1 : FVec F S1024 .f32) (main_arg2 : FVec F S1024x1840 .f32) : IVec S32768x1024 1 × IVec S1024 1 × IVec S1024x1840 1 :=
  let main_cst : FVec F S_ .f32 := constant S_ .f32 0xFF800000#32
  let main_v0 : FVec F S32768x1024 .f32 := broadcastInDim S32768x1024 ![] bcast_S_S32768x1024 main_cst
  let main_v1 : IVec S32768x1024 1 := cmpf .ogt main_arg0 main_v0
  let main_cst_0 : FVec F S_ .f32 := constant S_ .f32 0x7F800000#32
  let main_v2 : FVec F S32768x1024 .f32 := broadcastInDim S32768x1024 ![] bcast_S_S32768x1024 main_cst_0
  let main_v3 : IVec S32768x1024 1 := cmpf .olt main_arg0 main_v2
  let main_v4 : IVec S32768x1024 1 := andi main_v1 main_v3
  let main_cst_1 : FVec F S_ .f32 := constant S_ .f32 0xFF800000#32
  let main_v5 : FVec F S1024 .f32 := broadcastInDim S1024 ![] bcast_S_S1024 main_cst_1
  let main_v6 : IVec S1024 1 := cmpf .ogt main_arg1 main_v5
  let main_cst_2 : FVec F S_ .f32 := constant S_ .f32 0x7F800000#32
  let main_v7 : FVec F S1024 .f32 := broadcastInDim S1024 ![] bcast_S_S1024 main_cst_2
  let main_v8 : IVec S1024 1 := cmpf .olt main_arg1 main_v7
  let main_v9 : IVec S1024 1 := andi main_v6 main_v8
  let main_cst_3 : FVec F S_ .f32 := constant S_ .f32 0xFF800000#32
  let main_v10 : FVec F S1024x1840 .f32 := broadcastInDim S1024x1840 ![] bcast_S_S1024x1840 main_cst_3
  let main_v11 : IVec S1024x1840 1 := cmpf .ogt main_arg2 main_v10
  let main_cst_4 : FVec F S_ .f32 := constant S_ .f32 0x7F800000#32
  let main_v12 : FVec F S1024x1840 .f32 := broadcastInDim S1024x1840 ![] bcast_S_S1024x1840 main_cst_4
  let main_v13 : IVec S1024x1840 1 := cmpf .olt main_arg2 main_v12
  let main_v14 : IVec S1024x1840 1 := andi main_v11 main_v13
  (main_v4, main_v9, main_v14)
-- ==== Pre_finite8.lean ====
abbrev S32768x1024 : Shape := ⟨2, ![32768, 1024]⟩
abbrev S1024 : Shape := ⟨1, ![1024]⟩
abbrev S384 : Shape := ⟨1, ![384]⟩
abbrev S256 : Shape := ⟨1, ![256]⟩
abbrev S1024x1440 : Shape := ⟨2, ![1024, 1440]⟩
abbrev S384x1152 : Shape := ⟨2, ![384, 1152]⟩
abbrev S256x768 : Shape := ⟨2, ![256, 768]⟩
abbrev S_ : Shape := ⟨0, ![]⟩

class Facts : Prop where
  bcast_S_S32768x1024 : S_.BroadcastsInDim S32768x1024 (![] : Fin 0 → Fin S32768x1024.rank)
  bcast_S_S1024 : S_.BroadcastsInDim S1024 (![] : Fin 0 → Fin S1024.rank)
  bcast_S_S384 : S_.BroadcastsInDim S384 (![] : Fin 0 → Fin S384.rank)
  bcast_S_S1024x1440 : S_.BroadcastsInDim S1024x1440 (![] : Fin 0 → Fin S1024x1440.rank)
  bcast_S_S384x1152 : S_.BroadcastsInDim S384x1152 (![] : Fin 0 → Fin S384x1152.rank)

variable [Facts]

def fn_part1 {F : FTy → Type} [FloatOps F] (main_arg4 : FVec F S1024x1440 .f32) (main_arg5 : FVec F S384x1152 .f32) (main_v4 : IVec S32768x1024 1) (main_v9 : IVec S1024 1) (main_v14 : IVec S384 1) (main_v16 : IVec S1024x1440 1) : IVec S32768x1024 1 × IVec S1024 1 × IVec S384 1 × IVec S1024x1440 1 × IVec S384x1152 1 :=
  let main_cst_6 : FVec F S_ .f32 := constant S_ .f32 0x7F800000#32
  let main_v17 : FVec F S1024x1440 .f32 := broadcastInDim S1024x1440 ![] bcast_S_S1024x1440 main_cst_6
  let main_v18 : IVec S1024x1440 1 := cmpf .olt main_arg4 main_v17
  let main_v19 : IVec S1024x1440 1 := andi main_v16 main_v18
  let main_cst_7 : FVec F S_ .f32 := constant S_ .f32 0xFF800000#32
  let main_v20 : FVec F S384x1152 .f32 := broadcastInDim S384x1152 ![] bcast_S_S384x1152 main_cst_7
  let main_v21 : IVec S384x1152 1 := cmpf .ogt main_arg5 main_v20
  let main_cst_8 : FVec F S_ .f32 := constant S_ .f32 0x7F800000#32
  let main_v22 : FVec F S384x1152 .f32 := broadcastInDim S384x1152 ![] bcast_S_S384x1152 main_cst_8
  let main_v23 : IVec S384x1152 1 := cmpf .olt main_arg5 main_v22
  let main_v24 : IVec S384x1152 1 := andi main_v21 main_v23
  (main_v4, main_v9, main_v14, main_v19, main_v24)

def fn {F : FTy → Type} [FloatOps F] (main_arg0 : FVec F S32768x1024 .f32) (main_arg1 : FVec F S1024 .f32) (main_arg2 : FVec F S384 .f32) (main_arg3 : FVec F S256 .f32) (main_arg4 : FVec F S1024x1440 .f32) (main_arg5 : FVec F S384x1152 .f32) (main_arg6 : FVec F S256x768 .f32) (main_arg7 : FVec F S256x768 .f32) : IVec S32768x1024 1 × IVec S1024 1 × IVec S384 1 × IVec S1024x1440 1 × IVec S384x1152 1 :=
  let main_cst : FVec F S_ .f32 := constant S_ .f32 0xFF800000#32
  let main_v0 : FVec F S32768x1024 .f32 := broadcastInDim S32768x1024 ![] bcast_S_S32768x1024 main_cst
  let main_v1 : IVec S32768x1024 1 := cmpf .ogt main_arg0 main_v0
  let main_cst_0 : FVec F S_ .f32 := constant S_ .f32 0x7F800000#32
  let main_v2 : FVec F S32768x1024 .f32 := broadcastInDim S32768x1024 ![] bcast_S_S32768x1024 main_cst_0
  let main_v3 : IVec S32768x1024 1 := cmpf .olt main_arg0 main_v2
  let main_v4 : IVec S32768x1024 1 := andi main_v1 main_v3
  let main_cst_1 : FVec F S_ .f32 := constant S_ .f32 0xFF800000#32
  let main_v5 : FVec F S1024 .f32 := broadcastInDim S1024 ![] bcast_S_S1024 main_cst_1
  let main_v6 : IVec S1024 1 := cmpf .ogt main_arg1 main_v5
  let main_cst_2 : FVec F S_ .f32 := constant S_ .f32 0x7F800000#32
  let main_v7 : FVec F S1024 .f32 := broadcastInDim S1024 ![] bcast_S_S1024 main_cst_2
  let main_v8 : IVec S1024 1 := cmpf .olt main_arg1 main_v7
  let main_v9 : IVec S1024 1 := andi main_v6 main_v8
  let main_cst_3 : FVec F S_ .f32 := constant S_ .f32 0xFF800000#32
  let main_v10 : FVec F S384 .f32 := broadcastInDim S384 ![] bcast_S_S384 main_cst_3
  let main_v11 : IVec S384 1 := cmpf .ogt main_arg2 main_v10
  let main_cst_4 : FVec F S_ .f32 := constant S_ .f32 0x7F800000#32
  let main_v12 : FVec F S384 .f32 := broadcastInDim S384 ![] bcast_S_S384 main_cst_4
  let main_v13 : IVec S384 1 := cmpf .olt main_arg2 main_v12
  let main_v14 : IVec S384 1 := andi main_v11 main_v13
  let main_cst_5 : FVec F S_ .f32 := constant S_ .f32 0xFF800000#32
  let main_v15 : FVec F S1024x1440 .f32 := broadcastInDim S1024x1440 ![] bcast_S_S1024x1440 main_cst_5
  let main_v16 : IVec S1024x1440 1 := cmpf .ogt main_arg4 main_v15
  fn_part1 (F := F) main_arg4 main_arg5 main_v4 main_v9 main_v14 main_v16
-- ==== Kernel.lean ====
abbrev S32768x1536 : Shape := ⟨2, ![32768, 1536]⟩
abbrev S32768x768 : Shape := ⟨2, ![32768, 768]⟩
abbrev S256x256 : Shape := ⟨2, ![256, 256]⟩
abbrev S4096x256 : Shape := ⟨2, ![4096, 256]⟩
abbrev S4096x128 : Shape := ⟨2, ![4096, 128]⟩
abbrev S256x128 : Shape := ⟨2, ![256, 128]⟩
abbrev S2x256x1 : Shape := ⟨3, ![2, 256, 1]⟩
abbrev S2x256x128 : Shape := ⟨3, ![2, 256, 128]⟩
abbrev S1024x128 : Shape := ⟨2, ![1024, 128]⟩
abbrev S256x1024 : Shape := ⟨2, ![256, 1024]⟩
abbrev S1x256x1 : Shape := ⟨3, ![1, 256, 1]⟩
abbrev S256x1 : Shape := ⟨2, ![256, 1]⟩
abbrev S256 : Shape := ⟨1, ![256]⟩
abbrev S1x256x128 : Shape := ⟨3, ![1, 256, 128]⟩
abbrev S1x1024 : Shape := ⟨2, ![1, 1024]⟩

abbrev nBuf : Space → Nat
  | .hbm => 4
  | .vmem => 11
  | .smem => 0
  | _ => 0

abbrev bufTy : (tb : Table) → Fin (tcTables nBuf tb) → BufTy
  | .hbm, ⟨0, _⟩ => ⟨S32768x1536, .bf16⟩
  | .hbm, ⟨1, _⟩ => ⟨S32768x1536, .bf16⟩
  | .hbm, ⟨2, _⟩ => ⟨S32768x768, .bf16⟩
  | .hbm, ⟨3, _⟩ => ⟨S32768x768, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S2x256x1, .f32⟩
  | .local _ .vmem, ⟨9, _⟩ => ⟨S2x256x1, .f32⟩
  | .local _ .vmem, ⟨10, _⟩ => ⟨S2x256x128, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 6, 16], ![false, false, false]⟩

@[reducible] def k0_t1_loop (i : grid0.Coords) : Scf.Loop 32 :=
  let c0_i32_15 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_17 : BitVec 32 := 1#32
  ⟨c0_i32_15, v37, c1_i32_17⟩
def k0_mult1 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_87 : BitVec 32 := 1024#32
  let v146 : BitVec 32 := Scalar.muli arg10 c1024_i32_87
  v146
def k0_off1 (i : grid0.Coords) (k0_t1 : Fin (k0_t1_loop i).trips) : Fin 2 → Nat :=
  let c0_i32_15 : BitVec 32 := 0#32
  let c1_i32_17 : BitVec 32 := 1#32
  let arg10 : BitVec 32 := Scf.iv c0_i32_15 c1_i32_17 k0_t1
  let c1024_i32_87 : BitVec 32 := 1024#32
  let v146 : BitVec 32 := Scalar.muli arg10 c1024_i32_87
  let v147 : BitVec 32 := v146
  let v148 : Index := Scalar.indexCast v147
  let c0_88 : Index := 0#32
  ![v148.toNat, 0]
def k0_off2 (i : grid0.Coords) (k0_t1 : Fin (k0_t1_loop i).trips) : Fin 2 → Nat :=
  let c0_i32_15 : BitVec 32 := 0#32
  let c1_i32_17 : BitVec 32 := 1#32
  let arg10 : BitVec 32 := Scf.iv c0_i32_15 c1_i32_17 k0_t1
  let c1024_i32_87 : BitVec 32 := 1024#32
  let v146 : BitVec 32 := Scalar.muli arg10 c1024_i32_87
  let v147 : BitVec 32 := v146
  let v151 : Index := Scalar.indexCast v147
  let c0_91 : Index := 0#32
  ![v151.toNat, 0]
def k0_off3 (i : grid0.Coords) (k0_t1 : Fin (k0_t1_loop i).trips) : Fin 2 → Nat :=
  let c0_i32_15 : BitVec 32 := 0#32
  let c1_i32_17 : BitVec 32 := 1#32
  let arg10 : BitVec 32 := Scf.iv c0_i32_15 c1_i32_17 k0_t1
  let c1024_i32_87 : BitVec 32 := 1024#32
  let v146 : BitVec 32 := Scalar.muli arg10 c1024_i32_87
  let v147 : BitVec 32 := v146
  let v189 : Index := Scalar.indexCast v147
  let c128_117 : Index := 128#32
  ![v189.toNat, 128]
@[reducible] def k0_t2_loop (i : grid0.Coords) : Scf.Loop 32 :=
  let c0_i32_15 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let v34 : BitVec 32 := Scalar.addi c0_i32_15 v33
  let c1_i32_18 : BitVec 32 := 1#32
  ⟨v37, v34, c1_i32_18⟩
def k0_mult2 (i : grid0.Coords) (k0_t2 : Fin (k0_t2_loop i).trips) : BitVec 32 :=
  let c0_i32_15 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg10 : BitVec 32 := Scf.iv v37 c1_i32_18 k0_t2
  let c1024_i32_87 : BitVec 32 := 1024#32
  let v146 : BitVec 32 := Scalar.muli arg10 c1024_i32_87
  v146
def k0_off4 (i : grid0.Coords) (k0_t2 : Fin (k0_t2_loop i).trips) : Fin 2 → Nat :=
  let c0_i32_15 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg10 : BitVec 32 := Scf.iv v37 c1_i32_18 k0_t2
  let c1024_i32_87 : BitVec 32 := 1024#32
  let v146 : BitVec 32 := Scalar.muli arg10 c1024_i32_87
  let v147 : BitVec 32 := v146
  let v148 : Index := Scalar.indexCast v147
  let c0_88 : Index := 0#32
  ![v148.toNat, 0]
def k0_off5 (i : grid0.Coords) (k0_t2 : Fin (k0_t2_loop i).trips) : Fin 2 → Nat :=
  let c0_i32_15 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg10 : BitVec 32 := Scf.iv v37 c1_i32_18 k0_t2
  let c1024_i32_87 : BitVec 32 := 1024#32
  let v146 : BitVec 32 := Scalar.muli arg10 c1024_i32_87
  let v147 : BitVec 32 := v146
  let v151 : Index := Scalar.indexCast v147
  let c0_91 : Index := 0#32
  ![v151.toNat, 0]
def k0_off6 (i : grid0.Coords) (k0_t2 : Fin (k0_t2_loop i).trips) : Fin 2 → Nat :=
  let c0_i32_15 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let v33 : BitVec 32 := Scalar.subi v32 c0_i32_15
  let c1_i32_16 : BitVec 32 := 1#32
  let v35 : BitVec 32 := Scalar.divsi v33 c1_i32_16
  let v36 : BitVec 32 := Scalar.muli v35 c1_i32_16
  let v37 : BitVec 32 := Scalar.addi c0_i32_15 v36
  let c1_i32_18 : BitVec 32 := 1#32
  let arg10 : BitVec 32 := Scf.iv v37 c1_i32_18 k0_t2
  let c1024_i32_87 : BitVec 32 := 1024#32
  let v146 : BitVec 32 := Scalar.muli arg10 c1024_i32_87
  let v147 : BitVec 32 := v146
  let v189 : Index := Scalar.indexCast v147
  let c128_117 : Index := 128#32
  ![v189.toNat, 128]
def k0_mult3 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let c1024_i32_19 : BitVec 32 := 1024#32
  let v38 : BitVec 32 := Scalar.muli v32 c1024_i32_19
  v38
def k0_off7 (i : grid0.Coords) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let c1024_i32_19 : BitVec 32 := 1024#32
  let v38 : BitVec 32 := Scalar.muli v32 c1024_i32_19
  let v39 : BitVec 32 := v38
  let v40 : Index := Scalar.indexCast v39
  let c0_20 : Index := 0#32
  ![v40.toNat, 0]
def k0_off8 (i : grid0.Coords) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let c1024_i32_19 : BitVec 32 := 1024#32
  let v38 : BitVec 32 := Scalar.muli v32 c1024_i32_19
  let v39 : BitVec 32 := v38
  let v52 : Index := Scalar.indexCast v39
  let c0_23 : Index := 0#32
  ![v52.toNat, 0]
def k0_off9 (i : grid0.Coords) : Fin 2 → Nat :=
  let arg2 : BitVec 32 := BitVec.ofNat 32 (i 2).val
  let c256_i32 : BitVec 32 := 256#32
  let v0 : BitVec 32 := Scalar.muli arg2 c256_i32
  let c0_i32 : BitVec 32 := 0#32
  let v17 : BitVec 1 := Scalar.cmpi .sgt v0 c0_i32
  let v18 : BitVec 32 := Scalar.extui v17
  let c0_i32_10 : BitVec 32 := 0#32
  let v19 : BitVec 1 := Scalar.cmpi .slt v0 c0_i32_10
  let v20 : BitVec 32 := Scalar.extui v19
  let v21 : BitVec 32 := Scalar.subi v18 v20
  let c1024_i32 : BitVec 32 := 1024#32
  let c0_i32_11 : BitVec 32 := 0#32
  let v22 : BitVec 1 := Scalar.cmpi .sgt c1024_i32 c0_i32_11
  let v23 : BitVec 32 := Scalar.extui v22
  let c0_i32_12 : BitVec 32 := 0#32
  let v24 : BitVec 1 := Scalar.cmpi .slt c1024_i32 c0_i32_12
  let v25 : BitVec 32 := Scalar.extui v24
  let v26 : BitVec 32 := Scalar.subi v23 v25
  let v27 : BitVec 1 := Scalar.cmpi .ne v21 v26
  let v28 : BitVec 32 := Scalar.remsi v0 c1024_i32
  let c0_i32_13 : BitVec 32 := 0#32
  let v29 : BitVec 1 := Scalar.cmpi .ne v28 c0_i32_13
  let v30 : BitVec 1 := Scalar.andi v27 v29
  let v16 : BitVec 32 := Scalar.divsi v0 c1024_i32
  let c1_i32 : BitVec 32 := 1#32
  let v31 : BitVec 32 := Scalar.subi v16 c1_i32
  let v32 : BitVec 32 := Scalar.select v30 v31 v16
  let c1024_i32_19 : BitVec 32 := 1024#32
  let v38 : BitVec 32 := Scalar.muli v32 c1024_i32_19
  let v39 : BitVec 32 := v38
  let v92 : Index := Scalar.indexCast v39
  let c128_49 : Index := 128#32
  ![v92.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "scale2" => some (((Real.sqrt 96)⁻¹ * (Real.log 2)⁻¹ : ℝ) : EReal)
  | _ => none
-- ==== ReferenceIdeal.lean ====
abbrev S32768x1536 : Shape := ⟨2, ![32768, 1536]⟩
abbrev S32768x768 : Shape := ⟨2, ![32768, 768]⟩
abbrev S8x4096x12x128 : Shape := ⟨4, ![8, 4096, 12, 128]⟩
abbrev S8x4096x12x64 : Shape := ⟨4, ![8, 4096, 12, 64]⟩
abbrev S8x12x4096x4096 : Shape := ⟨4, ![8, 12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x12x4096 : Shape := ⟨3, ![8, 12, 4096]⟩
abbrev S8x12x4096x1 : Shape := ⟨4, ![8, 12, 4096, 1]⟩
abbrev S8x12x64x4096 : Shape := ⟨4, ![8, 12, 64, 4096]⟩

abbrev nBuf : Space → Nat
  | .hbm => 43
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x1536, .bf16⟩
  | .hbm, ⟨2, _⟩ => ⟨S32768x768, .bf16⟩
  | .hbm, ⟨3, _⟩ => ⟨S32768x1536, .f32⟩
  | .hbm, ⟨4, _⟩ => ⟨S8x4096x12x128, .f32⟩
  | .hbm, ⟨5, _⟩ => ⟨S32768x1536, .f32⟩
  | .hbm, ⟨6, _⟩ => ⟨S8x4096x12x128, .f32⟩
  | .hbm, ⟨7, _⟩ => ⟨S32768x768, .f32⟩
  | .hbm, ⟨8, _⟩ => ⟨S8x4096x12x64, .f32⟩
  | .hbm, ⟨9, _⟩ => ⟨S8x12x4096x4096, .f32⟩
  | .hbm, ⟨10, _⟩ => ⟨S_, .f32⟩
  | .hbm, ⟨11, _⟩ => ⟨S_, .f32⟩
  | .hbm, ⟨12, _⟩ => ⟨S8x12x4096x4096, .f32⟩
  | .hbm, ⟨13, _⟩ => ⟨S8x12x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x12x4096x4096, .i1⟩
  | .hbm, ⟨23, _⟩ => ⟨S8x12x4096x4096, .f32⟩
  | .hbm, ⟨24, _⟩ => ⟨S8x12x4096x4096, .f32⟩
  | .hbm, ⟨25, _⟩ => ⟨S_, .f32⟩
  | .hbm, ⟨26, _⟩ => ⟨S8x12x4096, .f32⟩
  | .hbm, ⟨27, _⟩ => ⟨S_, .f32⟩
  | .hbm, ⟨28, _⟩ => ⟨S8x12x4096, .f32⟩
  | .hbm, ⟨29, _⟩ => ⟨S8x12x4096, .f32⟩
  | .hbm, ⟨30, _⟩ => ⟨S8x12x4096x1, .f32⟩
  | .hbm, ⟨31, _⟩ => ⟨S8x12x4096x4096, .f32⟩
  | .hbm, ⟨32, _⟩ => ⟨S8x12x4096x4096, .f32⟩
  | .hbm, ⟨33, _⟩ => ⟨S8x12x4096x4096, .f32⟩
  | .hbm, ⟨34, _⟩ => ⟨S_, .f32⟩
  | .hbm, ⟨35, _⟩ => ⟨S8x12x4096, .f32⟩
  | .hbm, ⟨36, _⟩ => ⟨S8x12x4096x1, .f32⟩
  | .hbm, ⟨37, _⟩ => ⟨S8x12x4096x4096, .f32⟩
  | .hbm, ⟨38, _⟩ => ⟨S8x12x4096x4096, .f32⟩
  | .hbm, ⟨39, _⟩ => ⟨S8x12x64x4096, .f32⟩
  | .hbm, ⟨40, _⟩ => ⟨S8x4096x12x64, .f32⟩
  | .hbm, ⟨41, _⟩ => ⟨S32768x768, .f32⟩
  | .hbm, ⟨42, _⟩ => ⟨S32768x768, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x1408 : Shape := ⟨2, ![1024, 1408]⟩
abbrev S1408x1024 : Shape := ⟨2, ![1408, 1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S1024x512 : Shape := ⟨2, ![1024, 512]⟩
abbrev S1024x1024 : Shape := ⟨2, ![1024, 1024]⟩
abbrev S2048x1024 : Shape := ⟨2, ![2048, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S1024x1024, .f32⟩
  | .hbm, ⟨5, _⟩ => ⟨S1024x1024, .bf16⟩
  | .hbm, ⟨6, _⟩ => ⟨S2048x1024, .f32⟩
  | .hbm, ⟨7, _⟩ => ⟨S1x1024, .f32⟩
  | .hbm, ⟨8, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x256x1024 : Shape := ⟨3, ![8, 256, 1024]⟩
abbrev S1024 : Shape := ⟨1, ![1024]⟩
abbrev S1024x512 : Shape := ⟨2, ![1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S8x256x512, .f32⟩
  | .hbm, ⟨22, _⟩ => ⟨S8x256x1024, .f32⟩
  | .hbm, ⟨23, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x512 : Shape := ⟨2, ![1024, 512]⟩
abbrev S1x1024 : Shape := ⟨2, ![1, 1024]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x512, .f32⟩
  | .hbm, ⟨3, _⟩ => ⟨S1x1024, .f32⟩
  | .hbm, ⟨4, _⟩ => ⟨S1024x512, .bf16⟩
  | .hbm, ⟨5, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32768x1024 : Shape := ⟨2, ![32768, 1024]⟩
abbrev S1024 : Shape := ⟨1, ![1024]⟩
abbrev S1024x512 : Shape := ⟨2, ![1024, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x512 : Shape := ⟨2, ![32768, 512]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x512, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x512, .f32⟩
  | .hbm, ⟨20, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S32768x1024 : Shape := ⟨2, ![32768, 1024]⟩
abbrev S1024 : Shape := ⟨1, ![1024]⟩
abbrev S1024x1840 : Shape := ⟨2, ![1024, 1840]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x1024 : Shape := ⟨2, ![1, 1024]⟩
abbrev S1024x1024 : Shape := ⟨2, ![1024, 1024]⟩
abbrev S1024x128 : Shape := ⟨2, ![1024, 128]⟩
abbrev S1024x48 : Shape := ⟨2, ![1024, 48]⟩
abbrev S1024x2x2x32 : Shape := ⟨4, ![1024, 2, 2, 32]⟩
abbrev S1024x2x1x32 : Shape := ⟨4, ![1024, 2, 1, 32]⟩
abbrev S1024x2x32 : Shape := ⟨3, ![1024, 2, 32]⟩
abbrev S1024x2x64 : Shape := ⟨3, ![1024, 2, 64]⟩
abbrev S1024x2x1x64 : Shape := ⟨4, ![1024, 2, 1, 64]⟩
abbrev S1024x2x2x64 : Shape := ⟨4, ![1024, 2, 2, 64]⟩
abbrev S1024x256 : Shape := ⟨2, ![1024, 256]⟩
abbrev S1024x1536 : Shape := ⟨2, ![1024, 1536]⟩
abbrev S1024x16x2x32 : Shape := ⟨4, ![1024, 16, 2, 32]⟩
abbrev S1024x16x1x32 : Shape := ⟨4, ![1024, 16, 1, 32]⟩
abbrev S1024x16x32 : Shape := ⟨3, ![1024, 16, 32]⟩
abbrev S1024x16x64 : Shape := ⟨3, ![1024, 16, 64]⟩
abbrev S1024x4736 : Shape := ⟨2, ![1024, 4736]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x128 : Shape := ⟨2, ![32768, 128]⟩
abbrev S32768x256 : Shape := ⟨2, ![32768, 256]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x4736 : Shape := ⟨2, ![256, 4736]⟩

abbrev nBuf : Space → Nat
  | .hbm => 98
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1840, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x64, .f32⟩
  | .hbm, ⟨21, _⟩ => ⟨S4096x64, .f32⟩
  | .hbm, ⟨22, _⟩ => ⟨S1x1024, .f32⟩
  | .hbm, ⟨23, _⟩ => ⟨S1024x1024, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S1024x48, .f32⟩
  | .hbm, ⟨31, _⟩ => ⟨S1024x2x2x32, .f32⟩
  | .hbm, ⟨32, _⟩ => ⟨S1024x2x1x32, .f32⟩
  | .hbm, ⟨33, _⟩ => ⟨S1024x2x32, .f32⟩
  | .hbm, ⟨34, _⟩ => ⟨S1024x2x32, .f32⟩
  | .hbm, ⟨35, _⟩ => ⟨S1024x2x1x32, .f32⟩
  | .hbm, ⟨36, _⟩ => ⟨S1024x2x32, .f32⟩
  | .hbm, ⟨37, _⟩ => ⟨S1024x2x64, .f32⟩
  | .hbm, ⟨38, _⟩ => ⟨S1024x128, .f32⟩
  | .hbm, ⟨39, _⟩ => ⟨S1024x2x2x32, .f32⟩
  | .hbm, ⟨40, _⟩ => ⟨S1024x2x1x32, .f32⟩
  | .hbm, ⟨41, _⟩ => ⟨S1024x2x32, .f32⟩
  | .hbm, ⟨42, _⟩ => ⟨S1024x2x32, .f32⟩
  | .hbm, ⟨43, _⟩ => ⟨S1024x2x1x32, .f32⟩
  | .hbm, ⟨44, _⟩ => ⟨S1024x2x32, .f32⟩
  | .hbm, ⟨45, _⟩ => ⟨S1024x2x64, .f32⟩
  | .hbm, ⟨46, _⟩ => ⟨S1024x128, .f32⟩
  | .hbm, ⟨47, _⟩ => ⟨S1024x2x1x64, .f32⟩
  | .hbm, ⟨48, _⟩ => ⟨S1024x2x2x64, .f32⟩
  | .hbm, ⟨49, _⟩ => ⟨S1024x256, .f32⟩
  | .hbm, ⟨50, _⟩ => ⟨S1024x2x1x64, .f32⟩
  | .hbm, ⟨51, _⟩ => ⟨S1024x2x2x64, .f32⟩
  | .hbm, ⟨52, _⟩ => ⟨S1024x256, .f32⟩
  | .hbm, ⟨53, _⟩ => ⟨S1024x2x1x64, .f32⟩
  | .hbm, ⟨54, _⟩ => ⟨S1024x2x2x64, .f32⟩
  | .hbm, ⟨55, _⟩ => ⟨S1024x256, .f32⟩
  | .hbm, ⟨56, _⟩ => ⟨S1024x2x1x64, .f32⟩
  | .hbm, ⟨57, _⟩ => ⟨S1024x2x2x64, .f32⟩
  | .hbm, ⟨58, _⟩ => ⟨S1024x256, .f32⟩
  | .hbm, ⟨59, _⟩ => ⟨S1024x2x1x64, .f32⟩
  | .hbm, ⟨60, _⟩ => ⟨S1024x2x2x64, .f32⟩
  | .hbm, ⟨61, _⟩ => ⟨S1024x256, .f32⟩
  | .hbm, ⟨62, _⟩ => ⟨S1024x2x1x64, .f32⟩
  | .hbm, ⟨63, _⟩ => ⟨S1024x2x2x64, .f32⟩
  | .hbm, ⟨64, _⟩ => ⟨S1024x256, .f32⟩
  | .hbm, ⟨65, _⟩ => ⟨S1024x1536, .f32⟩
  | .hbm, ⟨66, _⟩ => ⟨S1024x16x2x32, .f32⟩
  | .hbm, ⟨67, _⟩ => ⟨S1024x16x1x32, .f32⟩
  | .hbm, ⟨68, _⟩ => ⟨S1024x16x32, .f32⟩
  | .hbm, ⟨69, _⟩ => ⟨S1024x16x32, .f32⟩
  | .hbm, ⟨70, _⟩ => ⟨S1024x16x1x32, .f32⟩
  | .hbm, ⟨71, _⟩ => ⟨S1024x16x32, .f32⟩
  | .hbm, ⟨72, _⟩ => ⟨S1024x16x64, .f32⟩
  | .hbm, ⟨73, _⟩ => ⟨S1024x1024, .f32⟩
  | .hbm, ⟨74, _⟩ => ⟨S_, .i32⟩
  | .hbm, ⟨75, _⟩ => ⟨S_, .f32⟩
  | .hbm, ⟨76, _⟩ => ⟨S1024x128, .f32⟩
  | .hbm, ⟨77, _⟩ => ⟨S1024x4736, .f32⟩
  | .hbm, ⟨78, _⟩ => ⟨S1024x4736, .bf16⟩
  | .hbm, ⟨79, _⟩ => ⟨S1x4096x1x64, .f32⟩
  | .hbm, ⟨80, _⟩ => ⟨S1x4096x2x64, .f32⟩
  | .hbm, ⟨81, _⟩ => ⟨S4096x128, .f32⟩
  | .hbm, ⟨82, _⟩ => ⟨S1x4096x1x64, .f32⟩
  | .hbm, ⟨83, _⟩ => ⟨S1x4096x2x64, .f32⟩
  | .hbm, ⟨84, _⟩ => ⟨S4096x128, .f32⟩
  | .hbm, ⟨85, _⟩ => ⟨S32768x1024, .bf16⟩
  | .hbm, ⟨86, _⟩ => ⟨S32768x1024, .bf16⟩
  | .hbm, ⟨87, _⟩ => ⟨S32768x128, .f32⟩
  | .hbm, ⟨88, _⟩ => ⟨S32768x128, .f32⟩
  | .hbm, ⟨89, _⟩ => ⟨S32768x128, .f32⟩
  | .hbm, ⟨90, _⟩ => ⟨S32768x128, .f32⟩
  | .hbm, ⟨91, _⟩ => ⟨S32768x128, .f32⟩
  | .hbm, ⟨92, _⟩ => ⟨S32768x128, .f32⟩
  | .hbm, ⟨93, _⟩ => ⟨S32768x128, .f32⟩
  | .hbm, ⟨94, _⟩ => ⟨S32768x256, .bf16⟩
  | .hbm, ⟨95, _⟩ => ⟨S32768x256, .bf16⟩
  | .hbm, ⟨96, _⟩ => ⟨S32768x256, .bf16⟩
  | .hbm, ⟨97, _⟩ => ⟨S32768x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4736, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x256, .bf16⟩
  | .local _ .vmem, ⟨27, _⟩ => ⟨S256x256, .bf16⟩
  | .local _ .vmem, ⟨28, _⟩ => ⟨S256x256, .bf16⟩
  | .local _ .vmem, ⟨29, _⟩ => ⟨S256x256, .bf16⟩
  | .local _ .vmem, ⟨30, _⟩ => ⟨S256x256, .bf16⟩
  | .local _ .vmem, ⟨31, _⟩ => ⟨S256x256, .bf16⟩
  | .local _ .vmem, ⟨32, _⟩ => ⟨S256x256, .bf16⟩
  | .local _ .vmem, ⟨33, _⟩ => ⟨S256x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_c : Ref sig .tc := ⟨.hbm, 74, rfl⟩
abbrev main_call0_v0 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78_0 : Ref sig .tc := ⟨.hbm, 85, rfl⟩
abbrev main_v78_1 : Ref sig .tc := ⟨.hbm, 86, rfl⟩
abbrev main_v78_2 : Ref sig .tc := ⟨.hbm, 87, rfl⟩
abbrev main_v78_3 : Ref sig .tc := ⟨.hbm, 88, rfl⟩
abbrev main_v78_4 : Ref sig .tc := ⟨.hbm, 89, rfl⟩
abbrev main_v78_5 : Ref sig .tc := ⟨.hbm, 90, rfl⟩
abbrev main_v78_6 : Ref sig .tc := ⟨.hbm, 91, rfl⟩
abbrev main_v78_7 : Ref sig .tc := ⟨.hbm, 92, rfl⟩
abbrev main_v78_8 : Ref sig .tc := ⟨.hbm, 93, rfl⟩
abbrev main_v78_9 : Ref sig .tc := ⟨.hbm, 94, rfl⟩
abbrev main_v78_10 : Ref sig .tc := ⟨.hbm, 95, rfl⟩
abbrev main_v78_11 : Ref sig .tc := ⟨.hbm, 96, rfl⟩
abbrev main_v78_12 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference7Ideal.lean ====
abbrev S32768x1024 : Shape := ⟨2, ![32768, 1024]⟩
abbrev S1024 : Shape := ⟨1, ![1024]⟩
abbrev S1024x1840 : Shape := ⟨2, ![1024, 1840]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1840 : Shape := ⟨2, ![32768, 1840]⟩
abbrev S32768x128 : Shape := ⟨2, ![32768, 128]⟩
abbrev S32768x48 : Shape := ⟨2, ![32768, 48]⟩
abbrev S8x4096x16x64 : Shape := ⟨4, ![8, 4096, 16, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S8x4096x16x32 : Shape := ⟨4, ![8, 4096, 16, 32]⟩
abbrev S1x4096x1x32 : Shape := ⟨4, ![1, 4096, 1, 32]⟩
abbrev S8x4096x2x64 : Shape := ⟨4, ![8, 4096, 2, 64]⟩
abbrev S8x4096x2x32 : Shape := ⟨4, ![8, 4096, 2, 32]⟩
abbrev S32768x80 : Shape := ⟨2, ![32768, 80]⟩
abbrev S32768x2x1x64 : Shape := ⟨4, ![32768, 2, 1, 64]⟩
abbrev S32768x2x2x64 : Shape := ⟨4, ![32768, 2, 2, 64]⟩
abbrev S32768x256 : Shape := ⟨2, ![32768, 256]⟩

abbrev nBuf : Space → Nat
  | .hbm => 163
  | .vmem => 0
  | .smem => 0
  | _ => 0

abbrev hbmTy0_0 (i : Nat) : BufTy := match i % 128 with
  | 0 => ⟨S32768x1024, .f32⟩
  | 1 => ⟨S1024, .f32⟩
  | 2 => ⟨S1024x1840, .f32⟩
  | 3 => ⟨S32768x1024, .f32⟩
  | 4 => ⟨S_, .f32⟩
  | 5 => ⟨S32768, .f32⟩
  | 6 => ⟨S32768x1, .f32⟩
  | 7 => ⟨S_, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x1, .f32⟩
  | 14 => ⟨S32768x1024, .f32⟩
  | 15 => ⟨S32768x1024, .f32⟩
  | 16 => ⟨S1x1024, .f32⟩
  | 17 => ⟨S32768x1024, .f32⟩
  | 18 => ⟨S32768x1024, .f32⟩
  | 19 => ⟨S32768x1840, .f32⟩
  | 20 => ⟨S32768x1024, .f32⟩
  | 21 => ⟨S32768x128, .f32⟩
  | 22 => ⟨S32768x128, .f32⟩
  | 23 => ⟨S32768x128, .f32⟩
  | 24 => ⟨S32768x128, .f32⟩
  | 25 => ⟨S32768x128, .f32⟩
  | 26 => ⟨S32768x128, .f32⟩
  | 27 => ⟨S32768x48, .f32⟩
  | 28 => ⟨S8x4096x16x64, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S4096, .i32⟩
  | 38 => ⟨S4096, .f32⟩
  | 39 => ⟨S4096x1, .f32⟩
  | 40 => ⟨S1x32, .f32⟩
  | 41 => ⟨S4096x32, .f32⟩
  | 42 => ⟨S4096x32, .f32⟩
  | 43 => ⟨S4096x32, .f32⟩
  | 44 => ⟨S4096x32, .f32⟩
  | 45 => ⟨S4096x1x32, .f32⟩
  | 46 => ⟨S4096x32, .f32⟩
  | 47 => ⟨S4096x1x32, .f32⟩
  | 48 => ⟨S8x4096x16x32, .f32⟩
  | 49 => ⟨S8x4096x16x32, .f32⟩
  | 50 => ⟨S1x4096x1x32, .f32⟩
  | 51 => ⟨S8x4096x16x32, .f32⟩
  | 52 => ⟨S8x4096x16x32, .f32⟩
  | 53 => ⟨S1x4096x1x32, .f32⟩
  | 54 => ⟨S8x4096x16x32, .f32⟩
  | 55 => ⟨S8x4096x16x32, .f32⟩
  | 56 => ⟨S8x4096x16x32, .f32⟩
  | 57 => ⟨S1x4096x1x32, .f32⟩
  | 58 => ⟨S8x4096x16x32, .f32⟩
  | 59 => ⟨S8x4096x16x32, .f32⟩
  | 60 => ⟨S1x4096x1x32, .f32⟩
  | 61 => ⟨S8x4096x16x32, .f32⟩
  | 62 => ⟨S8x4096x16x32, .f32⟩
  | 63 => ⟨S8x4096x16x32, .f32⟩
  | 64 => ⟨S8x4096x16x64, .f32⟩
  | 65 => ⟨S32768x1024, .f32⟩
  | 66 => ⟨S8x4096x2x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S4096, .i32⟩
  | 76 => ⟨S4096, .f32⟩
  | 77 => ⟨S4096x1, .f32⟩
  | 78 => ⟨S1x32, .f32⟩
  | 79 => ⟨S4096x32, .f32⟩
  | 80 => ⟨S4096x32, .f32⟩
  | 81 => ⟨S4096x32, .f32⟩
  | 82 => ⟨S4096x32, .f32⟩
  | 83 => ⟨S4096x1x32, .f32⟩
  | 84 => ⟨S4096x32, .f32⟩
  | 85 => ⟨S4096x1x32, .f32⟩
  | 86 => ⟨S8x4096x2x32, .f32⟩
  | 87 => ⟨S8x4096x2x32, .f32⟩
  | 88 => ⟨S1x4096x1x32, .f32⟩
  | 89 => ⟨S8x4096x2x32, .f32⟩
  | 90 => ⟨S8x4096x2x32, .f32⟩
  | 91 => ⟨S1x4096x1x32, .f32⟩
  | 92 => ⟨S8x4096x2x32, .f32⟩
  | 93 => ⟨S8x4096x2x32, .f32⟩
  | 94 => ⟨S8x4096x2x32, .f32⟩
  | 95 => ⟨S1x4096x1x32, .f32⟩
  | 96 => ⟨S8x4096x2x32, .f32⟩
  | 97 => ⟨S8x4096x2x32, .f32⟩
  | 98 => ⟨S1x4096x1x32, .f32⟩
  | 99 => ⟨S8x4096x2x32, .f32⟩
  | 100 => ⟨S8x4096x2x32, .f32⟩
  | 101 => ⟨S8x4096x2x32, .f32⟩
  | 102 => ⟨S8x4096x2x64, .f32⟩
  | 103 => ⟨S32768x128, .f32⟩
  | 104 => ⟨S8x4096x2x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S4096, .i32⟩
  | 114 => ⟨S4096, .f32⟩
  | 115 => ⟨S4096x1, .f32⟩
  | 116 => ⟨S1x32, .f32⟩
  | 117 => ⟨S4096x32, .f32⟩
  | 118 => ⟨S4096x32, .f32⟩
  | 119 => ⟨S4096x32, .f32⟩
  | 120 => ⟨S4096x32, .f32⟩
  | 121 => ⟨S4096x1x32, .f32⟩
  | 122 => ⟨S4096x32, .f32⟩
  | 123 => ⟨S4096x1x32, .f32⟩
  | 124 => ⟨S8x4096x2x32, .f32⟩
  | 125 => ⟨S8x4096x2x32, .f32⟩
  | 126 => ⟨S1x4096x1x32, .f32⟩
  | 127 => ⟨S8x4096x2x32, .f32⟩
  | _ => ⟨S32768x1024, .f32⟩

abbrev hbmTy0_1 (i : Nat) : BufTy := match i % 128 with
  | 0 => ⟨S8x4096x2x32, .f32⟩
  | 1 => ⟨S1x4096x1x32, .f32⟩
  | 2 => ⟨S8x4096x2x32, .f32⟩
  | 3 => ⟨S8x4096x2x32, .f32⟩
  | 4 => ⟨S8x4096x2x32, .f32⟩
  | 5 => ⟨S1x4096x1x32, .f32⟩
  | 6 => ⟨S8x4096x2x32, .f32⟩
  | 7 => ⟨S8x4096x2x32, .f32⟩
  | 8 => ⟨S1x4096x1x32, .f32⟩
  | 9 => ⟨S8x4096x2x32, .f32⟩
  | 10 => ⟨S8x4096x2x32, .f32⟩
  | 11 => ⟨S8x4096x2x32, .f32⟩
  | 12 => ⟨S8x4096x2x64, .f32⟩
  | 13 => ⟨S32768x128, .f32⟩
  | 14 => ⟨S_, .f32⟩
  | 15 => ⟨S32768x80, .f32⟩
  | 16 => ⟨S32768x128, .f32⟩
  | 17 => ⟨S32768x1024, .bf16⟩
  | 18 => ⟨S32768x1024, .bf16⟩
  | 19 => ⟨S32768x2x1x64, .f32⟩
  | 20 => ⟨S32768x2x2x64, .f32⟩
  | 21 => ⟨S32768x256, .f32⟩
  | 22 => ⟨S32768x256, .bf16⟩
  | 23 => ⟨S32768x2x1x64, .f32⟩
  | 24 => ⟨S32768x2x2x64, .f32⟩
  | 25 => ⟨S32768x256, .f32⟩
  | 26 => ⟨S32768x256, .bf16⟩
  | 27 => ⟨S32768x2x1x64, .f32⟩
  | 28 => ⟨S32768x2x2x64, .f32⟩
  | 29 => ⟨S32768x256, .f32⟩
  | 30 => ⟨S32768x256, .bf16⟩
  | 31 => ⟨S32768x2x1x64, .f32⟩
  | 32 => ⟨S32768x2x2x64, .f32⟩
  | 33 => ⟨S32768x256, .f32⟩
  | 34 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_cst_6 : Ref sig .tc := ⟨.hbm, 107, rfl⟩
abbrev main_v97 : Ref sig .tc := ⟨.hbm, 108, rfl⟩
abbrev main_v98 : Ref sig .tc := ⟨.hbm, 109, rfl⟩
abbrev main_cst_7 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_cst_8 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩

abbrev nD : Nat := 1
abbrev τ : Topo := Topo.v7x

variable {F : FTy → Type} [FloatOps F]
-- ==== Kernel8.lean ====
abbrev S32768x1024 : Shape := ⟨2, ![32768, 1024]⟩
abbrev S1024 : Shape := ⟨1, ![1024]⟩
abbrev S384 : Shape := ⟨1, ![384]⟩
abbrev S256 : Shape := ⟨1, ![256]⟩
abbrev S1024x1440 : Shape := ⟨2, ![1024, 1440]⟩
abbrev S384x1152 : Shape := ⟨2, ![384, 1152]⟩
abbrev S256x768 : Shape := ⟨2, ![256, 768]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S4096x64 : Shape := ⟨2, ![4096, 64]⟩
abbrev S4096x128 : Shape := ⟨2, ![4096, 128]⟩
abbrev S1x1024 : Shape := ⟨2, ![1, 1024]⟩
abbrev S1x384 : Shape := ⟨2, ![1, 384]⟩
abbrev S1x256 : Shape := ⟨2, ![1, 256]⟩
abbrev S1024x384 : Shape := ⟨2, ![1024, 384]⟩
abbrev S1024x256 : Shape := ⟨2, ![1024, 256]⟩
abbrev S1024x32 : Shape := ⟨2, ![1024, 32]⟩
abbrev S1024x128 : Shape := ⟨2, ![1024, 128]⟩
abbrev S1024x8x2x16 : Shape := ⟨4, ![1024, 8, 2, 16]⟩
abbrev S1024x8x1x16 : Shape := ⟨4, ![1024, 8, 1, 16]⟩
abbrev S1024x8x16 : Shape := ⟨3, ![1024, 8, 16]⟩
abbrev S1024x8x32 : Shape := ⟨3, ![1024, 8, 32]⟩
abbrev S1024x1x2x16 : Shape := ⟨4, ![1024, 1, 2, 16]⟩
abbrev S1024x1x1x16 : Shape := ⟨4, ![1024, 1, 1, 16]⟩
abbrev S1024x1x16 : Shape := ⟨3, ![1024, 1, 16]⟩
abbrev S1024x1x32 : Shape := ⟨3, ![1024, 1, 32]⟩
abbrev S1024x2176 : Shape := ⟨2, ![1024, 2176]⟩
abbrev S384x12x96 : Shape := ⟨3, ![384, 12, 96]⟩
abbrev S384x12x32 : Shape := ⟨3, ![384, 12, 32]⟩
abbrev S384x12x128 : Shape := ⟨3, ![384, 12, 128]⟩
abbrev S384x1536 : Shape := ⟨2, ![384, 1536]⟩
abbrev S384x384 : Shape := ⟨2, ![384, 384]⟩
abbrev S384x12x2x16 : Shape := ⟨4, ![384, 12, 2, 16]⟩
abbrev S384x12x1x16 : Shape := ⟨4, ![384, 12, 1, 16]⟩
abbrev S384x12x16 : Shape := ⟨3, ![384, 12, 16]⟩
abbrev S384x12x64 : Shape := ⟨3, ![384, 12, 64]⟩
abbrev S256x12x64 : Shape := ⟨3, ![256, 12, 64]⟩
abbrev S256x12x128 : Shape := ⟨3, ![256, 12, 128]⟩
abbrev S256x1536 : Shape := ⟨2, ![256, 1536]⟩
abbrev S128x128 : Shape := ⟨2, ![128, 128]⟩
abbrev S32 : Shape := ⟨1, ![32]⟩
abbrev S32x1 : Shape := ⟨2, ![32, 1]⟩
abbrev S32x2 : Shape := ⟨2, ![32, 2]⟩
abbrev S1x128x1x128 : Shape := ⟨4, ![1, 128, 1, 128]⟩
abbrev S1x128x12x128 : Shape := ⟨4, ![1, 128, 12, 128]⟩
abbrev S128x1536 : Shape := ⟨2, ![128, 1536]⟩
abbrev S12x128x384 : Shape := ⟨3, ![12, 128, 384]⟩
abbrev S12x64x256 : Shape := ⟨3, ![12, 64, 256]⟩
abbrev S1 : Shape := ⟨1, ![1]⟩
abbrev S2 : Shape := ⟨1, ![2]⟩
abbrev S12x32 : Shape := ⟨2, ![12, 32]⟩
abbrev S12x256x64 : Shape := ⟨3, ![12, 256, 64]⟩
abbrev S32768x1536 : Shape := ⟨2, ![32768, 1536]⟩
abbrev S32768x768 : Shape := ⟨2, ![32768, 768]⟩
abbrev S32768x256 : Shape := ⟨2, ![32768, 256]⟩
abbrev S32768x128 : Shape := ⟨2, ![32768, 128]⟩
abbrev S256x1024 : Shape := ⟨2, ![256, 1024]⟩
abbrev S256x256 : Shape := ⟨2, ![256, 256]⟩
abbrev S256x128 : Shape := ⟨2, ![256, 128]⟩
abbrev S256x1 : Shape := ⟨2, ![256, 1]⟩
abbrev S256x2176 : Shape := ⟨2, ![256, 2176]⟩
abbrev S256x384 : Shape := ⟨2, ![256, 384]⟩

abbrev nBuf : Space → Nat
  | .hbm => 196
  | .vmem => 39
  | .smem => 0
  | _ => 0

abbrev hbmTy0_0 (i : Nat) : BufTy := match i % 128 with
  | 0 => ⟨S32768x1024, .f32⟩
  | 1 => ⟨S1024, .f32⟩
  | 2 => ⟨S384, .f32⟩
  | 3 => ⟨S256, .f32⟩
  | 4 => ⟨S1024x1440, .f32⟩
  | 5 => ⟨S384x1152, .f32⟩
  | 6 => ⟨S256x768, .f32⟩
  | 7 => ⟨S256x768, .f32⟩
  | 8 => ⟨S4096, .i32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S4096, .f32⟩
  | 18 => ⟨S4096x1, .f32⟩
  | 19 => ⟨S1x16, .f32⟩
  | 20 => ⟨S4096x16, .f32⟩
  | 21 => ⟨S4096x16, .f32⟩
  | 22 => ⟨S4096x16, .f32⟩
  | 23 => ⟨S4096x16, .f32⟩
  | 24 => ⟨S4096x16, .f32⟩
  | 25 => ⟨S4096x32, .f32⟩
  | 26 => ⟨S4096x32, .f32⟩
  | 27 => ⟨S1x4096x1x32, .f32⟩
  | 28 => ⟨S1x4096x8x32, .f32⟩
  | 29 => ⟨S4096x256, .f32⟩
  | 30 => ⟨S1x4096x1x32, .f32⟩
  | 31 => ⟨S1x4096x8x32, .f32⟩
  | 32 => ⟨S4096x256, .f32⟩
  | 33 => ⟨S_, .f32⟩
  | 34 => ⟨S4096x64, .f32⟩
  | 35 => ⟨S_, .f32⟩
  | 36 => ⟨S4096x32, .f32⟩
  | 37 => ⟨S4096x128, .f32⟩
  | 38 => ⟨S_, .f32⟩
  | 39 => ⟨S4096x64, .f32⟩
  | 40 => ⟨S_, .f32⟩
  | 41 => ⟨S4096x32, .f32⟩
  | 42 => ⟨S4096x128, .f32⟩
  | 43 => ⟨S1x1024, .f32⟩
  | 44 => ⟨S1x384, .f32⟩
  | 45 => ⟨S1x256, .f32⟩
  | 46 => ⟨S1024x384, .f32⟩
  | 47 => ⟨S1024x256, .f32⟩
  | 48 => ⟨S1024x32, .f32⟩
  | 49 => ⟨S1024x256, .f32⟩
  | 50 => ⟨S1024x256, .f32⟩
  | 51 => ⟨S1024x256, .f32⟩
  | 52 => ⟨S_, .i32⟩
  | 53 => ⟨S_, .f32⟩
  | 54 => ⟨S1024x128, .f32⟩
  | 55 => ⟨S1024x8x2x16, .f32⟩
  | 56 => ⟨S1024x8x1x16, .f32⟩
  | 57 => ⟨S1024x8x16, .f32⟩
  | 58 => ⟨S1024x8x16, .f32⟩
  | 59 => ⟨S1024x8x1x16, .f32⟩
  | 60 => ⟨S1024x8x16, .f32⟩
  | 61 => ⟨S1024x8x32, .f32⟩
  | 62 => ⟨S1024x256, .f32⟩
  | 63 => ⟨S1024x8x2x16, .f32⟩
  | 64 => ⟨S1024x8x1x16, .f32⟩
  | 65 => ⟨S1024x8x16, .f32⟩
  | 66 => ⟨S1024x8x16, .f32⟩
  | 67 => ⟨S1024x8x1x16, .f32⟩
  | 68 => ⟨S1024x8x16, .f32⟩
  | 69 => ⟨S1024x8x32, .f32⟩
  | 70 => ⟨S1024x256, .f32⟩
  | 71 => ⟨S1024x1x2x16, .f32⟩
  | 72 => ⟨S1024x1x1x16, .f32⟩
  | 73 => ⟨S1024x1x16, .f32⟩
  | 74 => ⟨S1024x1x16, .f32⟩
  | 75 => ⟨S1024x1x1x16, .f32⟩
  | 76 => ⟨S1024x1x16, .f32⟩
  | 77 => ⟨S1024x1x32, .f32⟩
  | 78 => ⟨S1024x32, .f32⟩
  | 79 => ⟨S_, .i32⟩
  | 80 => ⟨S_, .f32⟩
  | 81 => ⟨S1024x128, .f32⟩
  | 82 => ⟨S1024x2176, .f32⟩
  | 83 => ⟨S1024x2176, .bf16⟩
  | 84 => ⟨S384x12x96, .f32⟩
  | 85 => ⟨S_, .f32⟩
  | 86 => ⟨S384x12x32, .f32⟩
  | 87 => ⟨S384x12x128, .f32⟩
  | 88 => ⟨S384x1536, .f32⟩
  | 89 => ⟨S384x1536, .bf16⟩
  | 90 => ⟨S384x12x32, .f32⟩
  | 91 => ⟨S384x384, .f32⟩
  | 92 => ⟨S384x12x2x16, .f32⟩
  | 93 => ⟨S384x12x1x16, .f32⟩
  | 94 => ⟨S384x12x16, .f32⟩
  | 95 => ⟨S384x12x16, .f32⟩
  | 96 => ⟨S384x12x1x16, .f32⟩
  | 97 => ⟨S384x12x16, .f32⟩
  | 98 => ⟨S384x12x32, .f32⟩
  | 99 => ⟨S384x384, .f32⟩
  | 100 => ⟨S384x12x32, .f32⟩
  | 101 => ⟨S384x12x64, .f32⟩
  | 102 => ⟨S_, .f32⟩
  | 103 => ⟨S384x12x64, .f32⟩
  | 104 => ⟨S384x12x128, .f32⟩
  | 105 => ⟨S384x1536, .f32⟩
  | 106 => ⟨S384x1536, .bf16⟩
  | 107 => ⟨S256x12x64, .f32⟩
  | 108 => ⟨S_, .f32⟩
  | 109 => ⟨S256x12x64, .f32⟩
  | 110 => ⟨S256x12x128, .f32⟩
  | 111 => ⟨S256x1536, .f32⟩
  | 112 => ⟨S256x1536, .bf16⟩
  | 113 => ⟨S_, .f32⟩
  | 114 => ⟨S128x128, .f32⟩
  | 115 => ⟨S32, .i32⟩
  | 116 => ⟨S32, .i32⟩
  | 117 => ⟨S_, .i32⟩
  | 118 => ⟨S32, .i32⟩
  | 119 => ⟨S32, .i32⟩
  | 120 => ⟨S_, .i32⟩
  | 121 => ⟨S32, .i32⟩
  | 122 => ⟨S32, .i1⟩
  | 123 => ⟨S_, .i32⟩
  | 124 => ⟨S32, .i32⟩
  | 125 => ⟨S32, .i32⟩
  | 126 => ⟨S32, .i32⟩
  | 127 => ⟨S_, .i32⟩
  | _ => ⟨S32768x1024, .f32⟩

abbrev hbmTy0_1 (i : Nat) : BufTy := match i % 128 with
  | 0 => ⟨S32, .i32⟩
  | 1 => ⟨S32, .i1⟩
  | 2 => ⟨S_, .i32⟩
  | 3 => ⟨S32, .i32⟩
  | 4 => ⟨S32, .i32⟩
  | 5 => ⟨S32, .i32⟩
  | 6 => ⟨S32x1, .i32⟩
  | 7 => ⟨S32x1, .i32⟩
  | 8 => ⟨S32x2, .i32⟩
  | 9 => ⟨S_, .f32⟩
  | 10 => ⟨S32, .f32⟩
  | 11 => ⟨S128x128, .f32⟩
  | 12 => ⟨S1x128x1x128, .f32⟩
  | 13 => ⟨S1x128x12x128, .f32⟩
  | 14 => ⟨S128x1536, .f32⟩
  | 15 => ⟨S128x1536, .bf16⟩
  | 16 => ⟨S_, .f32⟩
  | 17 => ⟨S12x128x384, .f32⟩
  | 18 => ⟨S12x64x256, .f32⟩
  | 19 => ⟨S_, .i32⟩
  | 20 => ⟨S1, .i32⟩
  | 21 => ⟨S_, .i32⟩
  | 22 => ⟨S1, .i32⟩
  | 23 => ⟨S2, .i32⟩
  | 24 => ⟨S12x128x384, .f32⟩
  | 25 => ⟨S32, .i32⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S32, .i32⟩
  | 35 => ⟨S32, .i1⟩
  | 36 => ⟨S_, .i32⟩
  | 37 => ⟨S32, .i32⟩
  | 38 => ⟨S32, .i32⟩
  | 39 => ⟨S32, .i32⟩
  | 40 => ⟨S_, .i32⟩
  | 41 => ⟨S32, .i32⟩
  | 42 => ⟨S32, .i1⟩
  | 43 => ⟨S_, .i32⟩
  | 44 => ⟨S32, .i32⟩
  | 45 => ⟨S32, .i32⟩
  | 46 => ⟨S32, .i32⟩
  | 47 => ⟨S32x1, .i32⟩
  | 48 => ⟨S32x1, .i32⟩
  | 49 => ⟨S32x2, .i32⟩
  | 50 => ⟨S_, .f32⟩
  | 51 => ⟨S12x32, .f32⟩
  | 52 => ⟨S12x128x384, .f32⟩
  | 53 => ⟨S256x12x64, .f32⟩
  | 54 => ⟨S12x256x64, .f32⟩
  | 55 => ⟨S12x256x64, .bf16⟩
  | 56 => ⟨S256x768, .bf16⟩
  | 57 => ⟨S12x128x384, .bf16⟩
  | 58 => ⟨S32768x1536, .bf16⟩
  | 59 => ⟨S32768x1536, .bf16⟩
  | 60 => ⟨S32768x768, .bf16⟩
  | 61 => ⟨S32768x256, .f32⟩
  | 62 => ⟨S32768x128, .f32⟩
  | 63 => ⟨S32768x256, .bf16⟩
  | 64 => ⟨S32768x256, .f32⟩
  | 65 => ⟨S32768x256, .bf16⟩
  | 66 => ⟨S32768x256, .f32⟩
  | 67 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x384, .f32⟩
  | .local _ .vmem, ⟨4, _⟩ => ⟨S1x256, .f32⟩
  | .local _ .vmem, ⟨5, _⟩ => ⟨S1024x2176, .bf16⟩
  | .local _ .vmem, ⟨6, _⟩ => ⟨S384x1536, .bf16⟩
  | .local _ .vmem, ⟨7, _⟩ => ⟨S384x1536, .bf16⟩
  | .local _ .vmem, ⟨8, _⟩ => ⟨S256x1536, .bf16⟩
  | .local _ .vmem, ⟨9, _⟩ => ⟨S128x1536, .bf16⟩
  | .local _ .vmem, ⟨10, _⟩ => ⟨S256x768, .bf16⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x1536, .bf16⟩
  | .local _ .vmem, ⟨20, _⟩ => ⟨S256x1536, .bf16⟩
  | .local _ .vmem, ⟨21, _⟩ => ⟨S256x1536, .bf16⟩
  | .local _ .vmem, ⟨22, _⟩ => ⟨S256x1536, .bf16⟩
  | .local _ .vmem, ⟨23, _⟩ => ⟨S256x768, .bf16⟩
  | .local _ .vmem, ⟨24, _⟩ => ⟨S256x768, .bf16⟩
  | .local _ .vmem, ⟨25, _⟩ => ⟨S256x256, .f32⟩
  | .local _ .vmem, ⟨26, _⟩ => ⟨S256x256, .f32⟩
  | .local _ .vmem, ⟨27, _⟩ => ⟨S256x128, .f32⟩
  | .local _ .vmem, ⟨28, _⟩ => ⟨S256x128, .f32⟩
  | .local _ .vmem, ⟨29, _⟩ => ⟨S256x256, .bf16⟩
  | .local _ .vmem, ⟨30, _⟩ => ⟨S256x256, .bf16⟩
  | .local _ .vmem, ⟨31, _⟩ => ⟨S256x256, .f32⟩
  | .local _ .vmem, ⟨32, _⟩ => ⟨S256x256, .f32⟩
  | .local _ .vmem, ⟨33, _⟩ => ⟨S256x256, .bf16⟩
  | .local _ .vmem, ⟨34, _⟩ => ⟨S256x256, .bf16⟩
  | .local _ .vmem, ⟨35, _⟩ => ⟨S256x256, .f32⟩
  | .local _ .vmem, ⟨36, _⟩ => ⟨S256x256, .f32⟩
  | .local _ .vmem, ⟨37, _⟩ => ⟨S256x256, .bf16⟩
  | .local _ .vmem, ⟨38, _⟩ => ⟨S256x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_5 : Ref sig .tc := ⟨.hbm, 79, rfl⟩
abbrev main_call1_v0 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_6 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_7 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_8 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_9 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_c_10 : Ref sig .tc := ⟨.hbm, 117, rfl⟩
abbrev main_v95 : Ref sig .tc := ⟨.hbm, 118, rfl⟩
abbrev main_v96 : Ref sig .tc := ⟨.hbm, 119, rfl⟩
abbrev main_c_11 : Ref sig .tc := ⟨.hbm, 120, rfl⟩
abbrev main_v97 : Ref sig .tc := ⟨.hbm, 121, rfl⟩
abbrev main_v98 : Ref sig .tc := ⟨.hbm, 122, rfl⟩
abbrev main_c_12 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_c_13 : Ref sig .tc := ⟨.hbm, 127, rfl⟩
abbrev main_v102 : Ref sig .tc := ⟨.hbm, 128, rfl⟩
abbrev main_v103 : Ref sig .tc := ⟨.hbm, 129, rfl⟩
abbrev main_c_14 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_15 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_16 : Ref sig .tc := ⟨.hbm, 144, rfl⟩
abbrev main_v116 : Ref sig .tc := ⟨.hbm, 145, rfl⟩
abbrev main_v117 : Ref sig .tc := ⟨.hbm, 146, rfl⟩
abbrev main_c_17 : Ref sig .tc := ⟨.hbm, 147, rfl⟩
abbrev main_v118 : Ref sig .tc := ⟨.hbm, 148, rfl⟩
abbrev main_c_18 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_c_19 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_c_20 : Ref sig .tc := ⟨.hbm, 158, rfl⟩
abbrev main_v126 : Ref sig .tc := ⟨.hbm, 159, rfl⟩
abbrev main_v127 : Ref sig .tc := ⟨.hbm, 160, rfl⟩
abbrev main_c_21 : Ref sig .tc := ⟨.hbm, 161, rfl⟩
abbrev main_v128 : Ref sig .tc := ⟨.hbm, 162, rfl⟩
abbrev main_v129 : Ref sig .tc := ⟨.hbm, 163, rfl⟩
abbrev main_c_22 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_c_23 : Ref sig .tc := ⟨.hbm, 168, rfl⟩
abbrev main_v133 : Ref sig .tc := ⟨.hbm, 169, rfl⟩
abbrev main_v134 : Ref sig .tc := ⟨.hbm, 170, rfl⟩
abbrev main_c_24 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_25 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148_0 : Ref sig .tc := ⟨.hbm, 186, rfl⟩
abbrev main_v148_1 : Ref sig .tc := ⟨.hbm, 187, rfl⟩
abbrev main_v148_2 : Ref sig .tc := ⟨.hbm, 188, rfl⟩
abbrev main_v148_3 : Ref sig .tc := ⟨.hbm, 189, rfl⟩
abbrev main_v148_4 : Ref sig .tc := ⟨.hbm, 190, rfl⟩
abbrev main_v148_5 : Ref sig .tc := ⟨.hbm, 191, rfl⟩
abbrev main_v148_6 : Ref sig .tc := ⟨.hbm, 192, rfl⟩
abbrev main_v148_7 : Ref sig .tc := ⟨.hbm, 193, rfl⟩
abbrev main_v148_8 : Ref sig .tc := ⟨.hbm, 194, rfl⟩
abbrev main_v148_9 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference8Ideal.lean ====
abbrev S32768x1024 : Shape := ⟨2, ![32768, 1024]⟩
abbrev S1024 : Shape := ⟨1, ![1024]⟩
abbrev S384 : Shape := ⟨1, ![384]⟩
abbrev S256 : Shape := ⟨1, ![256]⟩
abbrev S1024x1440 : Shape := ⟨2, ![1024, 1440]⟩
abbrev S384x1152 : Shape := ⟨2, ![384, 1152]⟩
abbrev S256x768 : Shape := ⟨2, ![256, 768]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1440 : Shape := ⟨2, ![32768, 1440]⟩
abbrev S32768x384 : Shape := ⟨2, ![32768, 384]⟩
abbrev S32768x256 : Shape := ⟨2, ![32768, 256]⟩
abbrev S32768x32 : Shape := ⟨2, ![32768, 32]⟩
abbrev S1x384 : Shape := ⟨2, ![1, 384]⟩
abbrev S32768x1152 : Shape := ⟨2, ![32768, 1152]⟩
abbrev S8x4096x12x96 : Shape := ⟨4, ![8, 4096, 12, 96]⟩
abbrev S1x256 : Shape := ⟨2, ![1, 256]⟩
abbrev S8x4096x1x32 : Shape := ⟨4, ![8, 4096, 1, 32]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S8x4096x1x16 : Shape := ⟨4, ![8, 4096, 1, 16]⟩
abbrev S1x4096x1x16 : Shape := ⟨4, ![1, 4096, 1, 16]⟩
abbrev S8x4096x8x32 : Shape := ⟨4, ![8, 4096, 8, 32]⟩
abbrev S8x4096x8x16 : Shape := ⟨4, ![8, 4096, 8, 16]⟩
abbrev S8x4096x12x32 : Shape := ⟨4, ![8, 4096, 12, 32]⟩
abbrev S8x4096x12x64 : Shape := ⟨4, ![8, 4096, 12, 64]⟩
abbrev S8x4096x12x16 : Shape := ⟨4, ![8, 4096, 12, 16]⟩
abbrev S8x4096x12x128 : Shape := ⟨4, ![8, 4096, 12, 128]⟩
abbrev S32768x768 : Shape := ⟨2, ![32768, 768]⟩
abbrev S32768x96 : Shape := ⟨2, ![32768, 96]⟩
abbrev S32768x128 : Shape := ⟨2, ![32768, 128]⟩
abbrev S32768x1536 : Shape := ⟨2, ![32768, 1536]⟩

abbrev nBuf : Space → Nat
  | .hbm => 237
  | .vmem => 0
  | .smem => 0
  | _ => 0

abbrev hbmTy0_0 (i : Nat) : BufTy := match i % 128 with
  | 0 => ⟨S32768x1024, .f32⟩
  | 1 => ⟨S1024, .f32⟩
  | 2 => ⟨S384, .f32⟩
  | 3 => ⟨S256, .f32⟩
  | 4 => ⟨S1024x1440, .f32⟩
  | 5 => ⟨S384x1152, .f32⟩
  | 6 => ⟨S256x768, .f32⟩
  | 7 => ⟨S256x768, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x1440, .f32⟩
  | 25 => ⟨S32768x384, .f32⟩
  | 26 => ⟨S32768x256, .f32⟩
  | 27 => ⟨S32768x32, .f32⟩
  | 28 => ⟨S32768x256, .f32⟩
  | 29 => ⟨S32768x256, .f32⟩
  | 30 => ⟨S32768x256, .f32⟩
  | 31 => ⟨S32768x384, .f32⟩
  | 32 => ⟨S_, .f32⟩
  | 33 => ⟨S32768, .f32⟩
  | 34 => ⟨S32768x1, .f32⟩
  | 35 => ⟨S_, .f32⟩
  | 36 => ⟨S32768x1, .f32⟩
  | 37 => ⟨S32768x1, .f32⟩
  | 38 => ⟨S_, .f32⟩
  | 39 => ⟨S32768x1, .f32⟩
  | 40 => ⟨S32768x1, .f32⟩
  | 41 => ⟨S32768x1, .f32⟩
  | 42 => ⟨S32768x384, .f32⟩
  | 43 => ⟨S32768x384, .f32⟩
  | 44 => ⟨S1x384, .f32⟩
  | 45 => ⟨S32768x384, .f32⟩
  | 46 => ⟨S32768x384, .f32⟩
  | 47 => ⟨S32768x1152, .f32⟩
  | 48 => ⟨S8x4096x12x96, .f32⟩
  | 49 => ⟨S32768x256, .f32⟩
  | 50 => ⟨S_, .f32⟩
  | 51 => ⟨S32768, .f32⟩
  | 52 => ⟨S32768x1, .f32⟩
  | 53 => ⟨S_, .f32⟩
  | 54 => ⟨S32768x1, .f32⟩
  | 55 => ⟨S32768x1, .f32⟩
  | 56 => ⟨S_, .f32⟩
  | 57 => ⟨S32768x1, .f32⟩
  | 58 => ⟨S32768x1, .f32⟩
  | 59 => ⟨S32768x1, .f32⟩
  | 60 => ⟨S32768x256, .f32⟩
  | 61 => ⟨S32768x256, .f32⟩
  | 62 => ⟨S1x256, .f32⟩
  | 63 => ⟨S32768x256, .f32⟩
  | 64 => ⟨S32768x256, .f32⟩
  | 65 => ⟨S8x4096x1x32, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S4096, .i32⟩
  | 75 => ⟨S4096, .f32⟩
  | 76 => ⟨S4096x1, .f32⟩
  | 77 => ⟨S1x16, .f32⟩
  | 78 => ⟨S4096x16, .f32⟩
  | 79 => ⟨S4096x16, .f32⟩
  | 80 => ⟨S4096x16, .f32⟩
  | 81 => ⟨S4096x16, .f32⟩
  | 82 => ⟨S4096x1x16, .f32⟩
  | 83 => ⟨S4096x16, .f32⟩
  | 84 => ⟨S4096x1x16, .f32⟩
  | 85 => ⟨S8x4096x1x16, .f32⟩
  | 86 => ⟨S8x4096x1x16, .f32⟩
  | 87 => ⟨S1x4096x1x16, .f32⟩
  | 88 => ⟨S8x4096x1x16, .f32⟩
  | 89 => ⟨S8x4096x1x16, .f32⟩
  | 90 => ⟨S1x4096x1x16, .f32⟩
  | 91 => ⟨S8x4096x1x16, .f32⟩
  | 92 => ⟨S8x4096x1x16, .f32⟩
  | 93 => ⟨S8x4096x1x16, .f32⟩
  | 94 => ⟨S1x4096x1x16, .f32⟩
  | 95 => ⟨S8x4096x1x16, .f32⟩
  | 96 => ⟨S8x4096x1x16, .f32⟩
  | 97 => ⟨S1x4096x1x16, .f32⟩
  | 98 => ⟨S8x4096x1x16, .f32⟩
  | 99 => ⟨S8x4096x1x16, .f32⟩
  | 100 => ⟨S8x4096x1x16, .f32⟩
  | 101 => ⟨S8x4096x1x32, .f32⟩
  | 102 => ⟨S32768x32, .f32⟩
  | 103 => ⟨S8x4096x8x32, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S4096, .i32⟩
  | 113 => ⟨S4096, .f32⟩
  | 114 => ⟨S4096x1, .f32⟩
  | 115 => ⟨S1x16, .f32⟩
  | 116 => ⟨S4096x16, .f32⟩
  | 117 => ⟨S4096x16, .f32⟩
  | 118 => ⟨S4096x16, .f32⟩
  | 119 => ⟨S4096x16, .f32⟩
  | 120 => ⟨S4096x1x16, .f32⟩
  | 121 => ⟨S4096x16, .f32⟩
  | 122 => ⟨S4096x1x16, .f32⟩
  | 123 => ⟨S8x4096x8x16, .f32⟩
  | 124 => ⟨S8x4096x8x16, .f32⟩
  | 125 => ⟨S1x4096x1x16, .f32⟩
  | 126 => ⟨S8x4096x8x16, .f32⟩
  | 127 => ⟨S8x4096x8x16, .f32⟩
  | _ => ⟨S32768x1024, .f32⟩

abbrev hbmTy0_1 (i : Nat) : BufTy := match i % 128 with
  | 0 => ⟨S1x4096x1x16, .f32⟩
  | 1 => ⟨S8x4096x8x16, .f32⟩
  | 2 => ⟨S8x4096x8x16, .f32⟩
  | 3 => ⟨S8x4096x8x16, .f32⟩
  | 4 => ⟨S1x4096x1x16, .f32⟩
  | 5 => ⟨S8x4096x8x16, .f32⟩
  | 6 => ⟨S8x4096x8x16, .f32⟩
  | 7 => ⟨S1x4096x1x16, .f32⟩
  | 8 => ⟨S8x4096x8x16, .f32⟩
  | 9 => ⟨S8x4096x8x16, .f32⟩
  | 10 => ⟨S8x4096x8x16, .f32⟩
  | 11 => ⟨S8x4096x8x32, .f32⟩
  | 12 => ⟨S32768x256, .f32⟩
  | 13 => ⟨S8x4096x8x32, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096, .i32⟩
  | 23 => ⟨S4096, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x16, .f32⟩
  | 30 => ⟨S4096x1x16, .f32⟩
  | 31 => ⟨S4096x16, .f32⟩
  | 32 => ⟨S4096x1x16, .f32⟩
  | 33 => ⟨S8x4096x8x16, .f32⟩
  | 34 => ⟨S8x4096x8x16, .f32⟩
  | 35 => ⟨S1x4096x1x16, .f32⟩
  | 36 => ⟨S8x4096x8x16, .f32⟩
  | 37 => ⟨S8x4096x8x16, .f32⟩
  | 38 => ⟨S1x4096x1x16, .f32⟩
  | 39 => ⟨S8x4096x8x16, .f32⟩
  | 40 => ⟨S8x4096x8x16, .f32⟩
  | 41 => ⟨S8x4096x8x16, .f32⟩
  | 42 => ⟨S1x4096x1x16, .f32⟩
  | 43 => ⟨S8x4096x8x16, .f32⟩
  | 44 => ⟨S8x4096x8x16, .f32⟩
  | 45 => ⟨S1x4096x1x16, .f32⟩
  | 46 => ⟨S8x4096x8x16, .f32⟩
  | 47 => ⟨S8x4096x8x16, .f32⟩
  | 48 => ⟨S8x4096x8x16, .f32⟩
  | 49 => ⟨S8x4096x8x32, .f32⟩
  | 50 => ⟨S32768x256, .f32⟩
  | 51 => ⟨S_, .f32⟩
  | 52 => ⟨S8x4096x12x32, .f32⟩
  | 53 => ⟨S8x4096x12x64, .f32⟩
  | 54 => ⟨S8x4096x12x32, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S4096, .i32⟩
  | 64 => ⟨S4096, .f32⟩
  | 65 => ⟨S4096x1, .f32⟩
  | 66 => ⟨S1x16, .f32⟩
  | 67 => ⟨S4096x16, .f32⟩
  | 68 => ⟨S4096x16, .f32⟩
  | 69 => ⟨S4096x16, .f32⟩
  | 70 => ⟨S4096x16, .f32⟩
  | 71 => ⟨S4096x1x16, .f32⟩
  | 72 => ⟨S4096x16, .f32⟩
  | 73 => ⟨S4096x1x16, .f32⟩
  | 74 => ⟨S8x4096x12x16, .f32⟩
  | 75 => ⟨S8x4096x12x16, .f32⟩
  | 76 => ⟨S1x4096x1x16, .f32⟩
  | 77 => ⟨S8x4096x12x16, .f32⟩
  | 78 => ⟨S8x4096x12x16, .f32⟩
  | 79 => ⟨S1x4096x1x16, .f32⟩
  | 80 => ⟨S8x4096x12x16, .f32⟩
  | 81 => ⟨S8x4096x12x16, .f32⟩
  | 82 => ⟨S8x4096x12x16, .f32⟩
  | 83 => ⟨S1x4096x1x16, .f32⟩
  | 84 => ⟨S8x4096x12x16, .f32⟩
  | 85 => ⟨S8x4096x12x16, .f32⟩
  | 86 => ⟨S1x4096x1x16, .f32⟩
  | 87 => ⟨S8x4096x12x16, .f32⟩
  | 88 => ⟨S8x4096x12x16, .f32⟩
  | 89 => ⟨S8x4096x12x16, .f32⟩
  | 90 => ⟨S8x4096x12x32, .f32⟩
  | 91 => ⟨S8x4096x12x128, .f32⟩
  | 92 => ⟨S32768x768, .f32⟩
  | 93 => ⟨S8x4096x12x64, .f32⟩
  | 94 => ⟨S8x4096x1x32, .f32⟩
  | 95 => ⟨S8x4096x12x32, .f32⟩
  | 96 => ⟨S8x4096x12x128, .f32⟩
  | 97 => ⟨S_, .f32⟩
  | 98 => ⟨S32768x96, .f32⟩
  | 99 => ⟨S32768x128, .f32⟩
  | 100 => ⟨S32768x1536, .f32⟩
  | 101 => ⟨S32768x1536, .bf16⟩
  | 102 => ⟨S32768x1536, .f32⟩
  | 103 => ⟨S32768x1536, .bf16⟩
  | 104 => ⟨S32768x768, .f32⟩
  | 105 => ⟨S32768x768, .bf16⟩
  | 106 => ⟨S32768x256, .bf16⟩
  | 107 => ⟨S32768x256, .bf16⟩
  | 108 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_v87 : Ref sig .tc := ⟨.hbm, 107, rfl⟩
abbrev main_v88 : Ref sig .tc := ⟨.hbm, 108, rfl⟩
abbrev main_cst_11 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_12 : Ref sig .tc := ⟨.hbm, 144, rfl⟩
abbrev main_v123 : Ref sig .tc := ⟨.hbm, 145, rfl⟩
abbrev main_v124 : Ref sig .tc := ⟨.hbm, 146, rfl⟩
abbrev main_cst_13 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_cst_14 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_cst_15 : Ref sig .tc := ⟨.hbm, 185, rfl⟩
abbrev main_v161 : Ref sig .tc := ⟨.hbm, 186, rfl⟩
abbrev main_v162 : Ref sig .tc := ⟨.hbm, 187, rfl⟩
abbrev main_cst_16 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_cst_17 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩

abbrev nD : Nat := 1
abbrev τ : Topo := Topo.v7x

variable {F : FTy → Type} [FloatOps F]
-- ==== Proof.Softmax.lean ====
module
public import Idealize.ShloMosaic.Lib.Pointwise
set_option maxRecDepth 16384

/-!
# A softmax taken tile by tile

One row of scores in base two is read in tiles of `T` keys. Beside the tiles run three numbers: a maximum `m`, the
sum `l` of the weights and the weighted sum `a` of the values, both relative to `m`. This file holds the one fact
the kernel needs of them: whatever real number `m` is, `l` and `a` are the plain sums times the same factor
`2 ^ (−m)`, so their quotient does not see `m` at all.
-/

@[expose] public section
noncomputable section
namespace Cert.Attention
open Idealize.ShloMosaic

/-- Twice-to-the-power over the extended reals. -/
abbrev pow2 (x : EReal) : EReal := Ideal.exp2 x

/-- The maximum after a tile of scores. -/
def tileMax {T : ℕ} (m : EReal) (S : Fin T → EReal) : EReal :=
  max m (Finset.fold max (Ideal.ofBits FTy.f32 0xFF800000#32) S Finset.univ)

/-- The sum of the weights after a tile of scores. -/
def tileSum {T : ℕ} (m l : EReal) (S : Fin T → EReal) : EReal :=
  l * pow2 (m - tileMax m S) + ∑ k, pow2 (S k - tileMax m S)

/-- The weighted sum of one column of values after a tile of scores. -/
def tileAcc {T : ℕ} (m a : EReal) (S V : Fin T → EReal) : EReal :=
  a * pow2 (m - tileMax m S) + ∑ k, pow2 (S k - tileMax m S) * V k

/-- The pattern that a maximum starts from is minus infinity. -/
theorem ofBits_neg_inf : Ideal.ofBits FTy.f32 0xFF800000#32 = ⊥ := by
  simp [Ideal.ofBits, Ideal.ieee]

/-- The coercion of a sum of reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A nonnegative real factor goes into a sum of extended reals, whatever the terms are. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi,
      EReal.right_distrib_of_nonneg_of_ne_top (by exact_mod_cast hc) (EReal.coe_ne_top c), ih]

/-- A score and its weight: a real score `x` weighs `2 ^ x`, a hidden one is minus infinity and weighs nothing. -/
def Weighs (S : EReal) (e : ℝ) : Prop := (∃ x : ℝ, S = x ∧ e = Real.rpow 2 x) ∨ (S = ⊥ ∧ e = 0)

/-- The weight of a score relative to a real maximum. -/
theorem Weighs.pow2_sub {S : EReal} {e : ℝ} (h : Weighs S e) (M : ℝ) :
    pow2 (S - M) = ((Real.rpow 2 (-M) * e : ℝ) : EReal) := by
  rcases h with ⟨x, rfl, rfl⟩ | ⟨rfl, rfl⟩
  · rw [← EReal.coe_sub, pow2, Ideal.exp2_coe]
    congr 1
    exact (congrArg (Real.rpow 2) (by ring : x - M = -M + x)).trans (Real.rpow_add (by norm_num) (-M) x)
  · rw [mul_zero]; rfl

/-- A maximum of scores, one of them real, is real. -/
theorem tileMax_real {T : ℕ} (m : EReal) (hm : m ≠ ⊤) (S : Fin T → EReal) (e : Fin T → ℝ) (hS : ∀ k, Weighs (S k) (e k))
    (h0 : m ≠ ⊥ ∨ ∃ k, S k ≠ ⊥) : ∃ M : ℝ, tileMax m S = M := by
  have htop : tileMax m S ≠ ⊤ := by
    have : tileMax m S < ⊤ := by
      rw [tileMax, max_lt_iff, Finset.fold_max_lt]
      refine ⟨lt_top_iff_ne_top.2 hm, by rw [ofBits_neg_inf]; exact bot_lt_top, fun k _ => ?_⟩
      rcases hS k with ⟨x, hx, -⟩ | ⟨hx, -⟩
      · rw [hx]; exact EReal.coe_lt_top x
      · rw [hx]; exact bot_lt_top
    exact this.ne
  have hbot : tileMax m S ≠ ⊥ := by
    have : ⊥ < tileMax m S := by
      rw [tileMax, lt_max_iff, Finset.lt_fold_max]
      rcases h0 with h | ⟨k, h⟩
      · exact Or.inl (bot_lt_iff_ne_bot.2 h)
      · exact Or.inr (Or.inr ⟨k, Finset.mem_univ _, bot_lt_iff_ne_bot.2 h⟩)
    exact this.ne'
  exact ⟨(tileMax m S).toReal, (EReal.coe_toReal htop hbot).symm⟩

/-- The running numbers after the first `n` keys, whose weights are `e` and values `v`: nothing has been read, or
the maximum is some real `M` and both sums carry the factor `2 ^ (−M)`. -/
def Running (e : ℕ → ℝ) (v : ℕ → EReal) (n : ℕ) (m l a : EReal) : Prop :=
  (n = 0 ∧ m = ⊥ ∧ l = 0 ∧ a = 0) ∨
  ∃ M : ℝ, m = M ∧ l = ((Real.rpow 2 (-M) * ∑ k ∈ Finset.range n, e k : ℝ) : EReal) ∧
    a = ∑ k ∈ Finset.range n, ((Real.rpow 2 (-M) * e k : ℝ) : EReal) * v k

/-- A tile with at least one real score takes the running numbers `T` keys further. -/
theorem Running.step {T : ℕ} {e : ℕ → ℝ} {v : ℕ → EReal} {n : ℕ} {m l a : EReal} (h : Running e v n m l a)
    (S V : Fin T → EReal) (hS : ∀ k : Fin T, Weighs (S k) (e (n + k))) (hV : ∀ k : Fin T, V k = v (n + k))
    (h0 : ∃ k, S k ≠ ⊥) : Running e v (n + T) (tileMax m S) (tileSum m l S) (tileAcc m a S V) := by
  have hm : m ≠ ⊤ := by
    rcases h with ⟨-, rfl, -⟩ | ⟨M, rfl, -⟩
    · exact bot_ne_top
    · exact EReal.coe_ne_top M
  obtain ⟨M', hM'⟩ := tileMax_real m hm S _ hS (Or.inr h0)
  right
  refine ⟨M', hM', ?_, ?_⟩
  · rw [tileSum, hM']
    simp only [fun k => (hS k).pow2_sub M']
    rw [← coe_sum, ← Finset.mul_sum, Fin.sum_univ_eq_sum_range (fun k => e (n + k)) T, Finset.sum_range_add, mul_add]
    rcases h with ⟨rfl, -, rfl, -⟩ | ⟨M, rfl, rfl, -⟩
    · simp
    · rw [← EReal.coe_sub, pow2, Ideal.exp2_coe, ← EReal.coe_mul, ← EReal.coe_add]
      congr 2
      rw [mul_right_comm]
      congr 1
      exact (Real.rpow_add (by norm_num) (-M) (M - M')).symm.trans (congrArg (Real.rpow 2) (by ring))
  · rw [tileAcc, hM']
    simp only [fun k => (hS k).pow2_sub M', hV]
    rw [Fin.sum_univ_eq_sum_range (fun k => ((Real.rpow 2 (-M') * e (n + k) : ℝ) : EReal) * v (n + k)) T, Finset.sum_range_add]
    congr 1
    rcases h with ⟨rfl, -, -, rfl⟩ | ⟨M, rfl, -, rfl⟩
    · simp
    · rw [← EReal.coe_sub, pow2, Ideal.exp2_coe, sum_mul_coe _ _ (Real.rpow 2 (M - M')) (Real.rpow_nonneg (by norm_num) _)]
      refine Finset.sum_congr rfl fun k _ => ?_
      rw [mul_right_comm, ← EReal.coe_mul]
      congr 2
      rw [mul_right_comm]
      congr 1
      exact (Real.rpow_add (by norm_num) (-M) (M - M')).symm.trans (congrArg (Real.rpow 2) (by ring))

/-- The running numbers under other names. -/
theorem Running.congr {e : ℕ → ℝ} {v : ℕ → EReal} {n : ℕ} {m l a l' a' : EReal} (h : Running e v n m l a) (hl : l' = l) (ha : a' = a) :
    Running e v n m l' a' := by
  subst hl ha; exact h

/-- The quotient of the two sums is the weighted mean of the values: the maximum is gone. -/
theorem Running.div {e : ℕ → ℝ} {v : ℕ → EReal} {n : ℕ} {m l a : EReal} (h : Running e v n m l a)
    (he : 0 < ∑ k ∈ Finset.range n, e k) :
    Ideal.div a l = ∑ k ∈ Finset.range n, ((e k / ∑ j ∈ Finset.range n, e j : ℝ) : EReal) * v k := by
  rcases h with ⟨rfl, -⟩ | ⟨M, -, rfl, rfl⟩
  · simp at he
  · have hc : 0 < Real.rpow 2 (-M) := Real.rpow_pos_of_pos (by norm_num) _
    rw [Ideal.div_coe (mul_pos hc he).ne', sum_mul_coe _ _ _ (by positivity)]
    refine Finset.sum_congr rfl fun k _ => ?_
    rw [mul_right_comm, ← EReal.coe_mul]
    congr 2
    field_simp

end Cert.Attention
-- ==== Proof.Tile.lean ====
module
public import proofs.«01_k».proof.Proof.Softmax
public import proofs.«01_k».proof.Proof.Gen.KernelIdeal.Skeleton
set_option maxRecDepth 16384

/-!
# What one tile of keys does to one row

The stored vectors of a tile, read at one row (and one column of the values): the maximum, the sum and the weighted
sum of `Softmax.lean`, taken at the tile's scores. A tile before the diagonal has every score, the tile on the
diagonal hides the keys that come after the row.
-/

@[expose] public section
noncomputable section
namespace Cert.Attention
open Idealize.ShloMosaic Idealize.ShloMosaic.TcCoe
open Cert.KernelIdeal Cert.KernelIdeal.Gen

/-- The scale of the scores: one over the root of 96, over the logarithm of two. -/
def scale2 : ℝ := (Real.sqrt 96)⁻¹ * (Real.log 2)⁻¹

theorem named_scale2 : Named.named (F := Ideal) κ "scale2" (φ := .f32) 0x3E16C740#32 = (scale2 : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

/-- The scores of row `r` against the keys of a tile. -/
def score (x : FVec Ideal S256x128 .bf16) (y : FVec Ideal S1024x128 .bf16) (r : Fin 256) (k : Fin 1024) : EReal :=
  (∑ d : Fin 128, x (ix2 r d) * y (ix2 k d)) * (scale2 : EReal)

/-- The scores of row `r` against the keys of a tile of which the mask hides some. -/
def maskedScore (b : IVec S256x1024 1) (x : FVec Ideal S256x128 .bf16) (y : FVec Ideal S1024x128 .bf16) (r : Fin 256)
    (k : Fin 1024) : EReal :=
  Scalar.select (b (ix2 r k)) (score x y r k) ⊥

section
variable (b : IVec S256x1024 1) (v0 v32 : BitVec 32)
  (x : FVec Ideal S256x128 .bf16) (y v : FVec Ideal S1024x128 .bf16) (m l : FVec Ideal S1x256x1 .f32)
  (a : FVec Ideal S1x256x128 .f32) (r : Fin 256) (d : Fin 128)

theorem max0 : k0_pay8 (F := Ideal) x y m (ix3 0 r 0) = tileMax (m (ix3 0 r 0)) (score x y r) := by
  pointwise [k0_pay8, k0_pay4, k0_pay3, k0_pay2, named_scale2]; rfl

theorem sum0 : k0_pay7 (F := Ideal) x y m l (ix3 0 r 0) = tileSum (m (ix3 0 r 0)) (l (ix3 0 r 0)) (score x y r) := by
  pointwise [k0_pay7, k0_pay5, k0_pay6, k0_pay4, k0_pay3, k0_pay2, named_scale2]; rfl

theorem acc0 : k0_pay9 (F := Ideal) v (k0_pay5 x y m) (k0_pay6 x y m) a (ix3 0 r d) =
    tileAcc (m (ix3 0 r 0)) (a (ix3 0 r d)) (score x y r) fun k => v (ix2 k d) := by
  pointwise [k0_pay9, k0_pay5, k0_pay6, k0_pay4, k0_pay3, k0_pay2, named_scale2]; rfl

theorem max1 : k0_pay34 (F := Ideal) (k0_pay12 x y m) (ix3 0 r 0) = tileMax (m (ix3 0 r 0)) (score x y r) := by
  pointwise [k0_pay34, k0_pay12, k0_pay11, k0_pay10, named_scale2]; rfl

theorem sum1 : k0_pay15 (F := Ideal) x y m l (ix3 0 r 0) = tileSum (m (ix3 0 r 0)) (l (ix3 0 r 0)) (score x y r) := by
  pointwise [k0_pay15, k0_pay14, k0_pay13, k0_pay12, k0_pay11, k0_pay10, named_scale2]; rfl

theorem acc1 : k0_pay35 (F := Ideal) v (k0_pay13 x y m) (k0_pay14 x y m) a (ix3 0 r d) =
    tileAcc (m (ix3 0 r 0)) (a (ix3 0 r d)) (score x y r) fun k => v (ix2 k d) := by
  pointwise [k0_pay35, k0_pay14, k0_pay13, k0_pay12, k0_pay11, k0_pay10, named_scale2]; rfl

theorem lastSum0 : k0_pay45 (F := Ideal) (k0_pay42 v0 v32 x y m) (k0_pay43 v0 v32 x y m) (k0_pay44 l) (ix3 0 r 0) =
    tileSum (m (ix3 0 r 0)) (l (ix3 0 r 0)) (maskedScore (k0_pay38 v0 v32) x y r) := by
  generalize hb : k0_pay38 v0 v32 = b
  pointwise [k0_pay45, k0_pay44, k0_pay43, k0_pay42, k0_pay41, k0_pay40, k0_pay39, named_scale2, named_mask, hb]; rfl

theorem lastAcc0 : k0_pay47 (F := Ideal) v (k0_pay42 v0 v32 x y m) (k0_pay43 v0 v32 x y m) a (ix3 0 r d) =
    tileAcc (m (ix3 0 r 0)) (a (ix3 0 r d)) (maskedScore (k0_pay38 v0 v32) x y r) fun k => v (ix2 k d) := by
  generalize hb : k0_pay38 v0 v32 = b
  pointwise [k0_pay47, k0_pay43, k0_pay42, k0_pay41, k0_pay40, k0_pay39, named_scale2, named_mask, hb]; rfl

theorem lastSum1 : k0_pay53 (F := Ideal) (k0_pay48 b x y) (k0_pay49 m) (k0_pay50 b x y m) l (ix3 0 r 0) =
    tileSum (m (ix3 0 r 0)) (l (ix3 0 r 0)) (maskedScore b x y r) := by
  pointwise [k0_pay53, k0_pay52, k0_pay51, k0_pay50, k0_pay49, k0_pay48, named_scale2, named_mask]; rfl

theorem lastAcc1 : k0_pay55 (F := Ideal) v (k0_pay48 b x y) (k0_pay49 m) (k0_pay50 b x y m) a (ix3 0 r d) =
    tileAcc (m (ix3 0 r 0)) (a (ix3 0 r d)) (maskedScore b x y r) fun k => v (ix2 k d) := by
  pointwise [k0_pay55, k0_pay52, k0_pay51, k0_pay50, k0_pay49, k0_pay48, named_scale2, named_mask]; rfl

/-- The stored block: a lane of the left half holds the first head, one of the right half the second. -/
theorem out_apply (a' : FVec Ideal S1x256x128 .f32) (l' : FVec Ideal S1x256x1 .f32) :
    k0_pay1 (F := Ideal) k0_pay30 (k0_pay56 a l) a' l' (ix2 r d) =
      if (d : ℕ) < 64 then Ideal.div (a (ix3 0 r d)) (l (ix3 0 r 0)) else Ideal.div (a' (ix3 0 r d)) (l' (ix3 0 r 0)) := by
  pointwise [k0_pay1, k0_pay30, k0_pay56]
  have h : IntOp.cmpi CmpIPredicate.slt (BitVec.ofNat 32 ↑d) 64#32 = if (d : ℕ) < 64 then 1#1 else 0#1 := by
    have := d.isLt
    revert d; decide +kernel
  rw [h]
  split_ifs <;> rfl
end

end Cert.Attention
-- ==== Proof.Index.lean ====
module
public import proofs.«01_k».proof.Proof.Gen.KernelIdeal.Frame.RunA
public import Idealize.ShloMosaic.Lib.Pointwise
public import Idealize.ShloMosaic.Lib.WordCmp
set_option maxRecDepth 16384

/-!
# Offsets, trip counts and the mask as plain numbers

Block `i` of 256 query rows meets the key tiles `0 … i / 4`, each of 1024 keys; tile `i / 4` holds the diagonal.
-/

@[expose] public section
noncomputable section
namespace Cert.Attention
open Idealize.ShloMosaic Idealize.ShloMosaic.TcCoe Idealize.SL.Sem
open Cert.KernelIdeal Cert.KernelIdeal.Gen

theorem trips1 (i : grid0.Coords) : (k0_t1_loop i).trips = (i 2).val / 4 := by
  have h : (i 2).val < 16 := (i 2).isLt
  unfold k0_t1_loop
  generalize (i 2).val = n at h ⊢
  revert h; revert n
  decide +kernel

theorem trips2 (i : grid0.Coords) : (k0_t2_loop i).trips = 0 := by
  have h : (i 2).val < 16 := (i 2).isLt
  unfold k0_t2_loop
  generalize (i 2).val = n at h ⊢
  revert h; revert n
  decide +kernel

theorem trip_lt (i : grid0.Coords) (k : Fin (k0_t1_loop i).trips) : k.val < 4 := by
  have h := k.isLt.trans_eq (trips1 i)
  have h' : (i 2).val < 16 := (i 2).isLt
  omega

theorem off1 (i : grid0.Coords) (k : Fin (k0_t1_loop i).trips) : k0_off1 i k = ![1024 * k.val, 0] := by
  have h := trip_lt i k
  unfold k0_off1
  generalize k.val = n at h ⊢
  revert h; revert n
  decide +kernel

theorem off2 (i : grid0.Coords) (k : Fin (k0_t1_loop i).trips) : k0_off2 i k = ![1024 * k.val, 0] := off1 i k

theorem off3 (i : grid0.Coords) (k : Fin (k0_t1_loop i).trips) : k0_off3 i k = ![1024 * k.val, 128] := by
  have h := trip_lt i k
  unfold k0_off3
  generalize k.val = n at h ⊢
  revert h; revert n
  decide +kernel

theorem off7 (i : grid0.Coords) : k0_off7 i = ![1024 * ((i 2).val / 4), 0] := by
  have h : (i 2).val < 16 := (i 2).isLt
  unfold k0_off7
  generalize (i 2).val = n at h ⊢
  revert h; revert n
  decide +kernel

theorem off8 (i : grid0.Coords) : k0_off8 i = ![1024 * ((i 2).val / 4), 0] := off7 i

theorem off9 (i : grid0.Coords) : k0_off9 i = ![1024 * ((i 2).val / 4), 128] := by
  have h : (i 2).val < 16 := (i 2).isLt
  unfold k0_off9
  generalize (i 2).val = n at h ⊢
  revert h; revert n
  decide +kernel

theorem v0_eq (i : grid0.Coords) : kernelRun0_A.sl.v0 i = BitVec.ofNat 32 (256 * (i 2).val) := by
  have h : (i 2).val < 16 := (i 2).isLt
  unfold kernelRun0_A.sl.v0
  generalize (i 2).val = n at h ⊢
  revert h; revert n
  decide +kernel

theorem v32_eq (i : grid0.Coords) : kernelRun0_A.sl.v32 i = BitVec.ofNat 32 ((i 2).val / 4) := by
  have h : (i 2).val < 16 := (i 2).isLt
  simp only [kernelRun0_A.sl.v32, kernelRun0_A.sl.v31, kernelRun0_A.sl.v30, kernelRun0_A.sl.v29, kernelRun0_A.sl.v28, kernelRun0_A.sl.v27, kernelRun0_A.sl.v21, kernelRun0_A.sl.v20, kernelRun0_A.sl.v19, kernelRun0_A.sl.v18, kernelRun0_A.sl.v17, kernelRun0_A.sl.v16, kernelRun0_A.sl.v0]
  generalize (i 2).val = n at h ⊢
  revert h; revert n
  decide +kernel

/-- The mask of the diagonal tile: a key is seen by the rows that do not come before it. -/
theorem mask_apply (i : grid0.Coords) (r : Fin 256) (k : Fin 1024) :
    k0_pay38 (kernelRun0_A.sl.v0 i) (kernelRun0_A.sl.v32 i) (ix2 r k) =
      BitVec.ofBool (decide (1024 * ((i 2).val / 4) + k.val ≤ 256 * (i 2).val + r.val)) := by
  have h : (i 2).val < 16 := (i 2).isLt
  rw [v0_eq, v32_eq]
  generalize (i 2).val = n at h ⊢
  pointwise [k0_pay38]
  rw [show (1024#32) = BitVec.ofNat 32 1024 from rfl]
  simp only [Scalar.muli, WordCmp.muli_ofNat, WordCmp.addi_ofNat]
  word_cmp
  rw [Nat.mul_comm 1024]

end Cert.Attention
-- ==== Proof.Trip.lean ====
module
public import proofs.«01_k».proof.Proof.Tile
public import proofs.«01_k».proof.Proof.Index
public import Idealize.ShloMosaic.Lib.WritesUnit
set_option maxRecDepth 16384

/-!
# One trip of the loop over the key tiles

The three scratch buffers hold one row of numbers per head: half 0 belongs to the first head of the pair, half 1 to
the second. A trip replaces both halves by what `Tile.lean` says of the tile's scores.
-/

@[expose] public section
noncomputable section
namespace Cert.Attention
open Idealize.ShloMosaic Idealize.ShloMosaic.TcCoe Idealize.SL.Sem
open Cert.KernelIdeal Cert.KernelIdeal.Gen

/-- Lane `d` of head `a` of a pair. -/
def lane (a : Fin 2) (d : Fin 128) : Fin 256 := ⟨128 * a + d, by omega⟩

/-- Key `k` of tile `j`. -/
def tileKey (j : ℕ) (hj : j < 4) (k : Fin 1024) : Fin 4096 := ⟨1024 * j + k, by omega⟩

/-- The score of row `r` against key `k` for head `a`, from the blocks of the queries and of the keys. -/
def headScore (x : FVec Ideal S256x256 .bf16) (y : FVec Ideal S4096x256 .bf16) (a : Fin 2) (r : Fin 256) (k : Fin 4096) : EReal :=
  (∑ d : Fin 128, x (ix2 r (lane a d)) * y (ix2 k (lane a d))) * (scale2 : EReal)

section
variable {κ : Kind} {sp : Space} {N : ℕ} {e : EltTy} (v : View sig κ sp ⟨3, ![2, 256, N]⟩ e) (f : v.ty.Contents (Elt Ideal))
  (h0 : ∀ a, (![0, 0, 0] : Fin 3 → ℕ) a + (![1, 256, N] : Fin 3 → ℕ) a ≤ (⟨3, ![2, 256, N]⟩ : Shape).size a)
  (h1 : ∀ a, (![1, 0, 0] : Fin 3 → ℕ) a + (![1, 256, N] : Fin 3 → ℕ) a ≤ (⟨3, ![2, 256, N]⟩ : Shape).size a)
  (w : (⟨3, ![1, 256, N]⟩ : Shape).Idx → Elt Ideal e) (L : List (View.Piece (Elt Ideal) ⟨3, ![2, 256, N]⟩ e)) (r : Fin 256) (d : Fin N)

/-- A store into half 1 leaves half 0. -/
theorem read_skip1 : v.read (Elt Ideal) (v.writes (Elt Ideal) f (⟨Rect.unit ![1, 0, 0] ![1, 256, N] h1, w⟩ :: L)) (ix3 0 r d) =
    v.read (Elt Ideal) (v.writes (Elt Ideal) f L) (ix3 0 r d) :=
  View.read_writes_cons_unit_of_not_mem v f h1 w L _ rfl (0 : Fin 3) (Or.inl Nat.zero_lt_one)

/-- A store into half 0 leaves half 1. -/
theorem read_skip0 : v.read (Elt Ideal) (v.writes (Elt Ideal) f (⟨Rect.unit ![0, 0, 0] ![1, 256, N] h0, w⟩ :: L)) (ix3 1 r d) =
    v.read (Elt Ideal) (v.writes (Elt Ideal) f L) (ix3 1 r d) :=
  View.read_writes_cons_unit_of_not_mem v f h0 w L _ rfl (0 : Fin 3) (Or.inr (Nat.le_refl 1))

/-- A store into half 0 is read back there. -/
theorem read_hit0 : v.read (Elt Ideal) (v.writes (Elt Ideal) f (⟨Rect.unit ![0, 0, 0] ![1, 256, N] h0, w⟩ :: L)) (ix3 0 r d) = w (ix3 0 r d) :=
  View.read_writes_cons_unit_of_mem v f h0 w L _ (ix3 0 r d) rfl (by
    intro a; fin_cases a
    · rfl
    · exact (Nat.zero_add _).symm
    · exact (Nat.zero_add _).symm)

/-- A store into half 1 is read back there. -/
theorem read_hit1 : v.read (Elt Ideal) (v.writes (Elt Ideal) f (⟨Rect.unit ![1, 0, 0] ![1, 256, N] h1, w⟩ :: L)) (ix3 1 r d) = w (ix3 0 r d) :=
  View.read_writes_cons_unit_of_mem v f h1 w L _ (ix3 0 r d) rfl (by
    intro a; fin_cases a
    · rfl
    · exact (Nat.zero_add _).symm
    · exact (Nat.zero_add _).symm)

/-- A load of half 0. -/
theorem load_half0 : v.readAt (Elt Ideal) (Rect.unit (s := ⟨3, ![2, 256, N]⟩) ![0, 0, 0] ![1, 256, N] h0).toLoadRect f (ix3 0 r d) = v.read (Elt Ideal) f (ix3 0 r d) := by
  refine congrArg (v.read (Elt Ideal) f) (funext fun a => Fin.ext ?_)
  fin_cases a
  · rfl
  · exact (Nat.zero_add _).trans (Nat.one_mul _)
  · exact (Nat.zero_add _).trans (Nat.one_mul _)

/-- A load of half 1. -/
theorem load_half1 : v.readAt (Elt Ideal) (Rect.unit (s := ⟨3, ![2, 256, N]⟩) ![1, 0, 0] ![1, 256, N] h1).toLoadRect f (ix3 0 r d) = v.read (Elt Ideal) f (ix3 1 r d) := by
  refine congrArg (v.read (Elt Ideal) f) (funext fun a => Fin.ext ?_)
  fin_cases a
  · rfl
  · exact (Nat.zero_add _).trans (Nat.one_mul _)
  · exact (Nat.zero_add _).trans (Nat.one_mul _)
end

/-- A load of a block of a matrix at known offsets, read at one place. -/
theorem load_apply {κ : Kind} {sp : Space} {M N P Q : ℕ} {e : EltTy} (v : View sig κ sp ⟨2, ![M, N]⟩ e)
    (f : v.ty.Contents (Elt Ideal)) {off : Fin 2 → ℕ} (o o' : ℕ) (ho : off = ![o, o'])
    (h : ∀ a, off a + (![P, Q] : Fin 2 → ℕ) a ≤ (⟨2, ![M, N]⟩ : Shape).size a) (p : Fin P) (q : Fin Q) (y : Fin M) (z : Fin N)
    (hy : y.val = o + p) (hz : z.val = o' + q) :
    v.readAt (Elt Ideal) (Rect.unit (s := ⟨2, ![M, N]⟩) off ![P, Q] h).toLoadRect f (ix2 p q) = v.read (Elt Ideal) f (ix2 y z) := by
  subst ho
  refine congrArg (v.read (Elt Ideal) f) (funext fun a => Fin.ext ?_)
  fin_cases a
  · exact (congrArg (o + ·) (Nat.one_mul _)).trans hy.symm
  · exact (congrArg (o' + ·) (Nat.one_mul _)).trans hz.symm

section
variable (𝒱 : Variants) (c : Dev nD) (bd : Option 𝒱.V) (i : grid0.Coords)
  (arg3 : Memref sig .tc .vmem S256x256 .bf16) (harg3 : arg3.IsWhole) (arg4 : Memref sig .tc .vmem S4096x256 .bf16) (harg4 : arg4.IsWhole)
  (arg5 : Memref sig .tc .vmem S4096x128 .bf16) (harg5 : arg5.IsWhole) (arg6 : Memref sig .tc .vmem S256x128 .bf16) (harg6 : arg6.IsWhole)
  (arg7 : Memref sig .tc .vmem S2x256x1 .f32) (harg7 : arg7.IsWhole) (arg8 : Memref sig .tc .vmem S2x256x1 .f32) (harg8 : arg8.IsWhole)
  (arg9 : Memref sig .tc .vmem S2x256x128 .f32) (harg9 : arg9.IsWhole) (v0 v32 : BitVec 32)
  (X3 : BufTy.Contents (Elt Ideal) arg3.view.ty) (X4 : BufTy.Contents (Elt Ideal) arg4.view.ty) (X5 : BufTy.Contents (Elt Ideal) arg5.view.ty)

/-- The scores of a loaded tile are those of its keys. -/
theorem score_load (a : Fin 2) (j : ℕ) (hj : j < 4) {off off' : Fin 2 → ℕ} (ho : off = ![0, 128 * a.val]) (ho' : off' = ![1024 * j, 128 * a.val])
    (h : ∀ b, off b + (![256, 128] : Fin 2 → ℕ) b ≤ S256x256.size b) (h' : ∀ b, off' b + (![1024, 128] : Fin 2 → ℕ) b ≤ S4096x256.size b) (r : Fin 256) :
    score (arg3.view.readAt (Elt Ideal) (Rect.unit (s := S256x256) off ![256, 128] h).toLoadRect X3)
        (arg4.view.readAt (Elt Ideal) (Rect.unit (s := S4096x256) off' ![1024, 128] h').toLoadRect X4) r =
      fun k => headScore (arg3.view.read (Elt Ideal) X3) (arg4.view.read (Elt Ideal) X4) a r (tileKey j hj k) := by
  funext k
  unfold score headScore
  refine congrArg (· * (scale2 : EReal)) (Finset.sum_congr rfl fun d _ => ?_)
  exact congrArg₂ (fun p q : EReal => p * q) (load_apply arg3.view X3 _ _ ho h r d r (lane a d) (Nat.zero_add _).symm rfl)
    (load_apply arg4.view X4 _ _ ho' h' k d (tileKey j hj k) (lane a d) rfl rfl)

variable (k : Fin (k0_t1_loop i).trips)
  (f7 : BufTy.Contents (Elt Ideal) arg7.view.ty) (f8 : BufTy.Contents (Elt Ideal) arg8.view.ty) (f9 : BufTy.Contents (Elt Ideal) arg9.view.ty)
  (a : Fin 2) (r : Fin 256) (d : Fin 128)

/-- What a trip leaves for a head's row, from what it found. -/
theorem trip_eq :
    (arg7.view.read (Elt Ideal) (arg7.view.writes (Elt Ideal) f7 (tripL_k0_t1 𝒱 c bd i arg3 harg3 arg4 harg4 arg5 harg5 arg6 harg6 arg7 harg7 arg8 harg8 arg9 harg9 v0 v32 X3 X4 X5 k f7 f8 f9).1) (ix3 a r 0) : EReal) =
      tileMax (arg7.view.read (Elt Ideal) f7 (ix3 a r 0) : EReal)
        (fun q => headScore (arg3.view.read (Elt Ideal) X3) (arg4.view.read (Elt Ideal) X4) a r (tileKey k.val (trip_lt i k) q)) ∧
    (arg8.view.read (Elt Ideal) (arg8.view.writes (Elt Ideal) f8 (tripL_k0_t1 𝒱 c bd i arg3 harg3 arg4 harg4 arg5 harg5 arg6 harg6 arg7 harg7 arg8 harg8 arg9 harg9 v0 v32 X3 X4 X5 k f7 f8 f9).2.1) (ix3 a r 0) : EReal) =
      tileSum (arg7.view.read (Elt Ideal) f7 (ix3 a r 0) : EReal) (arg8.view.read (Elt Ideal) f8 (ix3 a r 0) : EReal)
        (fun q => headScore (arg3.view.read (Elt Ideal) X3) (arg4.view.read (Elt Ideal) X4) a r (tileKey k.val (trip_lt i k) q)) ∧
    (arg9.view.read (Elt Ideal) (arg9.view.writes (Elt Ideal) f9 (tripL_k0_t1 𝒱 c bd i arg3 harg3 arg4 harg4 arg5 harg5 arg6 harg6 arg7 harg7 arg8 harg8 arg9 harg9 v0 v32 X3 X4 X5 k f7 f8 f9).2.2) (ix3 a r d) : EReal) =
      tileAcc (arg7.view.read (Elt Ideal) f7 (ix3 a r 0) : EReal) (arg9.view.read (Elt Ideal) f9 (ix3 a r d) : EReal)
        (fun q => headScore (arg3.view.read (Elt Ideal) X3) (arg4.view.read (Elt Ideal) X4) a r (tileKey k.val (trip_lt i k) q))
        (fun q => (arg5.view.read (Elt Ideal) X5 (ix2 (tileKey k.val (trip_lt i k) q) d) : EReal)) := by
  unfold tripL_k0_t1 trip_k0_t1
  dsimp only
  have hs0 := score_load arg3 arg4 X3 X4 0 k.val (trip_lt i k) (off := ![0, 0]) (off' := k0_off2 i k) rfl (off2 i k)
  have hs1 := score_load arg3 arg4 X3 X4 1 k.val (trip_lt i k) (off := ![0, 128]) (off' := k0_off3 i k) rfl (off3 i k)
  have hv := fun h q => load_apply arg5.view X5 (off := k0_off1 i k) (P := 1024) (Q := 128) _ _ (off1 i k) h q d (tileKey k.val (trip_lt i k) q) d rfl (Nat.zero_add _).symm
  obtain rfl | rfl : a = 0 ∨ a = 1 := by omega
  · refine ⟨?_, ?_, ?_⟩
    · refine (read_skip1 ..).trans ((read_hit0 ..).trans ((max0 ..).trans ?_))
      rw [hs0]
      exact congrArg (tileMax · _) (load_half0 ..)
    · refine (read_skip1 ..).trans ((read_hit0 ..).trans ((sum0 ..).trans ?_))
      rw [hs0]
      exact congrArg₂ (tileSum · · _) (load_half0 ..) (load_half0 ..)
    · refine (read_skip1 ..).trans ((read_hit0 ..).trans ((acc0 ..).trans ?_))
      rw [hs0]
      exact congr (congrArg₂ (tileAcc · · _) (load_half0 ..) (load_half0 ..)) (funext fun q => hv _ q)
  · refine ⟨?_, ?_, ?_⟩
    · refine (read_hit1 ..).trans ((max1 ..).trans ?_)
      rw [hs1]
      exact congrArg (tileMax · _) (load_half1 ..)
    · refine (read_hit1 ..).trans ((sum1 ..).trans ?_)
      rw [hs1]
      exact congrArg₂ (tileSum · · _) (load_half1 ..) (load_half1 ..)
    · refine (read_hit1 ..).trans ((acc1 ..).trans ?_)
      rw [hs1]
      exact congr (congrArg₂ (tileAcc · · _) (load_half1 ..) (load_half1 ..)) (funext fun q => hv _ q)
end

end Cert.Attention
-- ==== Proof.Loop.lean ====
module
public import proofs.«01_k».proof.Proof.Trip
set_option maxRecDepth 16384

/-!
# The loop over the key tiles

Trip by trip the three scratch buffers keep, for every head, row and column, the running numbers of `Softmax.lean`
over the keys already met.
-/

@[expose] public section
noncomputable section
namespace Cert.Attention
open Idealize.ShloMosaic Idealize.ShloMosaic.TcCoe Idealize.SL.Sem
open Cert.KernelIdeal Cert.KernelIdeal.Gen

section
variable (𝒱 : Variants) (c : Dev nD) (bd : Option 𝒱.V) (i : grid0.Coords)
  (arg3 : Memref sig .tc .vmem S256x256 .bf16) (harg3 : arg3.IsWhole) (arg4 : Memref sig .tc .vmem S4096x256 .bf16) (harg4 : arg4.IsWhole)
  (arg5 : Memref sig .tc .vmem S4096x128 .bf16) (harg5 : arg5.IsWhole) (arg6 : Memref sig .tc .vmem S256x128 .bf16) (harg6 : arg6.IsWhole)
  (arg7 : Memref sig .tc .vmem S2x256x1 .f32) (harg7 : arg7.IsWhole) (arg8 : Memref sig .tc .vmem S2x256x1 .f32) (harg8 : arg8.IsWhole)
  (arg9 : Memref sig .tc .vmem S2x256x128 .f32) (harg9 : arg9.IsWhole) (v0 v32 : BitVec 32)
  (X3 : BufTy.Contents (Elt Ideal) arg3.view.ty) (X4 : BufTy.Contents (Elt Ideal) arg4.view.ty) (X5 : BufTy.Contents (Elt Ideal) arg5.view.ty)
  (G7 : BufTy.Contents (Elt Ideal) arg7.view.ty) (G8 : BufTy.Contents (Elt Ideal) arg8.view.ty) (G9 : BufTy.Contents (Elt Ideal) arg9.view.ty)
  (a : Fin 2) (r : Fin 256) (d : Fin 128)

/-- The state of one row after `n` trips, given its state at the loop's entry and what its scores weigh. -/
theorem loop_running (e : ℕ → ℝ) (v : ℕ → EReal)
    (h7 : (arg7.view.read (Elt Ideal) G7 (ix3 a r 0) : EReal) = ⊥) (h8 : (arg8.view.read (Elt Ideal) G8 (ix3 a r 0) : EReal) = 0)
    (h9 : (arg9.view.read (Elt Ideal) G9 (ix3 a r d) : EReal) = 0)
    (he : ∀ k : Fin 4096, k.val < 1024 * (k0_t1_loop i).trips →
      Weighs (headScore (arg3.view.read (Elt Ideal) X3) (arg4.view.read (Elt Ideal) X4) a r k) (e k))
    (hb : ∀ k : Fin 4096, headScore (arg3.view.read (Elt Ideal) X3) (arg4.view.read (Elt Ideal) X4) a r k ≠ ⊥)
    (hv : ∀ k : Fin 4096, (arg5.view.read (Elt Ideal) X5 (ix2 k d) : EReal) = v k)
    (n : ℕ) (hn : n ≤ (k0_t1_loop i).trips) :
    Running e v (1024 * n)
      (arg7.view.read (Elt Ideal) (arg7.view.writes (Elt Ideal) G7 (pb_k0_t1 𝒱 c bd i arg3 harg3 arg4 harg4 arg5 harg5 arg6 harg6 arg7 harg7 arg8 harg8 arg9 harg9 v0 v32 X3 X4 X5 G7 G8 G9 n).1) (ix3 a r 0))
      (arg8.view.read (Elt Ideal) (arg8.view.writes (Elt Ideal) G8 (pb_k0_t1 𝒱 c bd i arg3 harg3 arg4 harg4 arg5 harg5 arg6 harg6 arg7 harg7 arg8 harg8 arg9 harg9 v0 v32 X3 X4 X5 G7 G8 G9 n).2.1) (ix3 a r 0))
      (arg9.view.read (Elt Ideal) (arg9.view.writes (Elt Ideal) G9 (pb_k0_t1 𝒱 c bd i arg3 harg3 arg4 harg4 arg5 harg5 arg6 harg6 arg7 harg7 arg8 harg8 arg9 harg9 v0 v32 X3 X4 X5 G7 G8 G9 n).2.2) (ix3 a r d)) := by
  induction n with
  | zero => exact Or.inl ⟨rfl, h7, h8, h9⟩
  | succ n ih =>
    have hs := pb_k0_t1_succ 𝒱 c bd i arg3 harg3 arg4 harg4 arg5 harg5 arg6 harg6 arg7 harg7 arg8 harg8 arg9 harg9 v0 v32 X3 X4 X5 G7 G8 G9 ⟨n, hn⟩
    rw [hs, View.writes_append, View.writes_append, View.writes_append]
    have ht := trip_eq 𝒱 c bd i arg3 harg3 arg4 harg4 arg5 harg5 arg6 harg6 arg7 harg7 arg8 harg8 arg9 harg9 v0 v32 X3 X4 X5 ⟨n, hn⟩
      (arg7.view.writes (Elt Ideal) G7 (pb_k0_t1 𝒱 c bd i arg3 harg3 arg4 harg4 arg5 harg5 arg6 harg6 arg7 harg7 arg8 harg8 arg9 harg9 v0 v32 X3 X4 X5 G7 G8 G9 n).1)
      (arg8.view.writes (Elt Ideal) G8 (pb_k0_t1 𝒱 c bd i arg3 harg3 arg4 harg4 arg5 harg5 arg6 harg6 arg7 harg7 arg8 harg8 arg9 harg9 v0 v32 X3 X4 X5 G7 G8 G9 n).2.1)
      (arg9.view.writes (Elt Ideal) G9 (pb_k0_t1 𝒱 c bd i arg3 harg3 arg4 harg4 arg5 harg5 arg6 harg6 arg7 harg7 arg8 harg8 arg9 harg9 v0 v32 X3 X4 X5 G7 G8 G9 n).2.2)
      a r d
    have hstep := (ih (Nat.le_of_succ_le hn)).step
      (fun q : Fin 1024 => headScore (arg3.view.read (Elt Ideal) X3) (arg4.view.read (Elt Ideal) X4) a r (tileKey n (trip_lt i ⟨n, hn⟩) q))
      (fun q => (arg5.view.read (Elt Ideal) X5 (ix2 (tileKey n (trip_lt i ⟨n, hn⟩) q) d) : EReal))
      (fun q => he _ (by simp only [tileKey]; omega)) (fun q => hv _) ⟨0, hb _⟩
    exact Nat.mul_succ 1024 n ▸ (ht.1.symm ▸ ht.2.1.symm ▸ ht.2.2.symm ▸ hstep)
end

end Cert.Attention
-- ==== Proof.Block.lean ====
module
public import proofs.«01_k».proof.Proof.Loop
public import proofs.«01_k».proof.Proof.Gen.KernelIdeal.Frame
public import Idealize.ShloMosaic.Lib.VecWindow
set_option maxRecDepth 16384

/-!
# The block one grid point stores

From the blocks of queries, keys and values that a grid point finds: every column is the mean of a column of values,
weighted by two to the power of the scores of the keys that the row may see.
-/

@[expose] public section
noncomputable section
namespace Cert.Attention
open Idealize.ShloMosaic Idealize.ShloMosaic.TcCoe Idealize.SL.Sem
open Cert.KernelIdeal Cert.KernelIdeal.Gen

/-- The weight of key `k` for row `r` of query block `n`: nothing for a key after the row. -/
def weight (x : FVec Ideal S256x256 .bf16) (y : FVec Ideal S4096x256 .bf16) (n : ℕ) (a : Fin 2) (r : Fin 256) (k : ℕ) : ℝ :=
  if h : k < 4096 then if k ≤ 256 * n + r then Real.rpow 2 (headScore x y a r ⟨k, h⟩).toReal else 0 else 0

/-- A column of the values, past the last key nothing. -/
def column (z : FVec Ideal S4096x128 .bf16) (d : Fin 128) (k : ℕ) : EReal := if h : k < 4096 then z (ix2 ⟨k, h⟩ d) else 0

theorem column_apply (z : FVec Ideal S4096x128 .bf16) (d : Fin 128) (k : Fin 4096) : column z d k.val = z (ix2 k d) := dif_pos k.isLt

/-- The block's entry at row `r` and column `d`. -/
def blockOut (x : FVec Ideal S256x256 .bf16) (y : FVec Ideal S4096x256 .bf16) (z : FVec Ideal S4096x128 .bf16) (n : ℕ) (r : Fin 256)
    (d : Fin 128) : EReal :=
  ∑ k ∈ Finset.range 4096, ((weight x y n (if (d : ℕ) < 64 then 0 else 1) r k /
    ∑ j ∈ Finset.range 4096, weight x y n (if (d : ℕ) < 64 then 0 else 1) r j : ℝ) : EReal) * column z d k

/-- Sums over the tiles up to the diagonal are sums over all keys. -/
theorem sum_tiles {M : Type} [AddCommMonoid M] (f : ℕ → M) (n : ℕ) (hn : n < 16) (h : ∀ k, 1024 * (n / 4) + 1024 ≤ k → f k = 0) :
    ∑ k ∈ Finset.range (1024 * (n / 4) + 1024), f k = ∑ k ∈ Finset.range 4096, f k := by
  refine Finset.sum_subset (Finset.range_subset_range.2 (by omega)) fun k _ hk => h k ?_
  simpa using hk

/-- The weighted mean once the diagonal tile is done. -/
theorem mean_of_running (x : FVec Ideal S256x256 .bf16) (y : FVec Ideal S4096x256 .bf16) (z : FVec Ideal S4096x128 .bf16) (n : ℕ)
    (hn : n < 16) (a : Fin 2) (r : Fin 256) (d : Fin 128) {m l acc : EReal}
    (h : Running (weight x y n a r) (column z d) (1024 * (n / 4) + 1024) m l acc) :
    Ideal.div acc l = ∑ k ∈ Finset.range 4096, ((weight x y n a r k / ∑ j ∈ Finset.range 4096, weight x y n a r j : ℝ) : EReal) * column z d k := by
  have h0 : ∀ k, 1024 * (n / 4) + 1024 ≤ k → weight x y n a r k = 0 := by
    intro k hk
    unfold weight
    split_ifs with h1 h2
    · omega
    · rfl
    · rfl
  have hs := sum_tiles (weight x y n a r) n hn h0
  have hpos : 0 < ∑ k ∈ Finset.range (1024 * (n / 4) + 1024), weight x y n a r k := by
    refine Finset.sum_pos' (fun k _ => ?_) ⟨0, by simp, ?_⟩
    · unfold weight
      split_ifs
      · exact Real.rpow_nonneg (by norm_num) _
      · exact le_rfl
      · exact le_rfl
    · unfold weight
      rw [dif_pos (by norm_num), if_pos (Nat.zero_le _)]
      exact Real.rpow_pos_of_pos (by norm_num) _
  rw [h.div hpos, hs]
  refine sum_tiles (fun k => ((weight x y n a r k / ∑ j ∈ Finset.range 4096, weight x y n a r j : ℝ) : EReal) * column z d k) n hn ?_
  intro k hk
  simp [h0 k hk]

section
variable (c : Dev nD) (i : grid0.Coords)
  (arg3 : Memref sig .tc .vmem S256x256 .bf16) (harg3 : arg3.IsWhole) (arg4 : Memref sig .tc .vmem S4096x256 .bf16) (harg4 : arg4.IsWhole)
  (arg5 : Memref sig .tc .vmem S4096x128 .bf16) (harg5 : arg5.IsWhole) (arg6 : Memref sig .tc .vmem S256x128 .bf16) (harg6 : arg6.IsWhole)
  (arg7 : Memref sig .tc .vmem S2x256x1 .f32) (harg7 : arg7.IsWhole) (arg8 : Memref sig .tc .vmem S2x256x1 .f32) (harg8 : arg8.IsWhole)
  (arg9 : Memref sig .tc .vmem S2x256x128 .f32) (harg9 : arg9.IsWhole)
  (x : FVec Ideal S256x256 .bf16) (y : FVec Ideal S4096x256 .bf16) (z : FVec Ideal S4096x128 .bf16)

/-- The diagonal tile weighs what the keys weigh. -/
theorem last_weighs (hb : ∀ a r k, headScore x y a r k ≠ ⊥) (ht : ∀ a r k, headScore x y a r k ≠ ⊤) (a : Fin 2) (r : Fin 256) (k : Fin 1024)
    (hj : (i 2).val / 4 < 4) {S : EReal} (hS : S = headScore x y a r (tileKey ((i 2).val / 4) hj k)) :
    Weighs (Scalar.select (k0_pay38 (kernelRun0_A.sl.v0 i) (kernelRun0_A.sl.v32 i) (ix2 r k)) S ⊥)
      (weight x y (i 2).val a r (1024 * ((i 2).val / 4) + k)) := by
  rw [mask_apply, hS]
  unfold weight
  have hlt : 1024 * ((i 2).val / 4) + k.val < 4096 := (tileKey ((i 2).val / 4) hj k).isLt
  rw [dif_pos hlt]
  by_cases h : 1024 * ((i 2).val / 4) + k.val ≤ 256 * (i 2).val + r.val
  · rw [decide_eq_true h, if_pos h]
    exact Or.inl ⟨_, (EReal.coe_toReal (ht _ _ _) (hb _ _ _)).symm, rfl⟩
  · rw [decide_eq_false h, if_neg h]
    exact Or.inr ⟨rfl, rfl⟩

/-- The first key of the diagonal tile is seen by every row. -/
theorem last_real (hb : ∀ a r k, headScore x y a r k ≠ ⊥) (a : Fin 2) (r : Fin 256) (hj : (i 2).val / 4 < 4) :
    Scalar.select (k0_pay38 (kernelRun0_A.sl.v0 i) (kernelRun0_A.sl.v32 i) (ix2 r 0)) (headScore x y a r (tileKey ((i 2).val / 4) hj 0)) ⊥ ≠ ⊥ := by
  have h : 1024 * ((i 2).val / 4) + (0 : Fin 1024).val ≤ 256 * (i 2).val + r.val := by
    rw [show (0 : Fin 1024).val = 0 from rfl]; omega
  rw [mask_apply, decide_eq_true h]
  exact hb _ _ _

/-- The running numbers before the diagonal tile. -/
theorem before_last (hb : ∀ a r k, headScore x y a r k ≠ ⊥) (ht : ∀ a r k, headScore x y a r k ≠ ⊤) (a : Fin 2) (r : Fin 256) (d : Fin 128) :
    Running (weight x y (i 2).val a r) (column z d) (1024 * ((i 2).val / 4))
      (arg7.view.read (Elt Ideal) (arg7.view.writes (Elt Ideal) (arg7.view.writes (Elt Ideal) arg7.view.junk kernelRun0_A.sl.HS0_1) (pb_k0_t1 Variants.none c none i arg3 harg3 arg4 harg4 arg5 harg5 arg6 harg6 arg7 harg7 arg8 harg8 arg9 harg9 (kernelRun0_A.sl.v0 i) (kernelRun0_A.sl.v32 i) (harg3.unread x) (harg4.unread y) (harg5.unread z) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (k0_t1_loop i).trips).1) (ix3 a r 0))
      (arg8.view.read (Elt Ideal) (arg8.view.writes (Elt Ideal) (arg8.view.writes (Elt Ideal) arg8.view.junk kernelRun0_A.sl.HS1_1) (pb_k0_t1 Variants.none c none i arg3 harg3 arg4 harg4 arg5 harg5 arg6 harg6 arg7 harg7 arg8 harg8 arg9 harg9 (kernelRun0_A.sl.v0 i) (kernelRun0_A.sl.v32 i) (harg3.unread x) (harg4.unread y) (harg5.unread z) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (k0_t1_loop i).trips).2.1) (ix3 a r 0))
      (arg9.view.read (Elt Ideal) (arg9.view.writes (Elt Ideal) (arg9.view.writes (Elt Ideal) arg9.view.junk kernelRun0_A.sl.HS2_1) (pb_k0_t1 Variants.none c none i arg3 harg3 arg4 harg4 arg5 harg5 arg6 harg6 arg7 harg7 arg8 harg8 arg9 harg9 (kernelRun0_A.sl.v0 i) (kernelRun0_A.sl.v32 i) (harg3.unread x) (harg4.unread y) (harg5.unread z) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (k0_t1_loop i).trips).2.2) (ix3 a r d)) := by
  have h16 : (i 2).val < 16 := (i 2).isLt
  have h := loop_running Variants.none c none i arg3 harg3 arg4 harg4 arg5 harg5 arg6 harg6 arg7 harg7 arg8 harg8 arg9 harg9 (kernelRun0_A.sl.v0 i)
    (kernelRun0_A.sl.v32 i) (harg3.unread x) (harg4.unread y) (harg5.unread z) (arg7.view.writes (Elt Ideal) arg7.view.junk kernelRun0_A.sl.HS0_1)
    (arg8.view.writes (Elt Ideal) arg8.view.junk kernelRun0_A.sl.HS1_1) (arg9.view.writes (Elt Ideal) arg9.view.junk kernelRun0_A.sl.HS2_1) a r d
    (weight x y (i 2).val a r) (column z d)
    ((congrFun (View.read_writes_full arg7.view _ _ _ []) _).trans named_mask)
    ((congrFun (View.read_writes_full arg8.view _ _ _ []) _).trans Ideal.ofBits_zero_f32)
    ((congrFun (View.read_writes_full arg9.view _ _ _ []) _).trans Ideal.ofBits_zero_f32)
    (by
      rw [harg3.read_unread, harg4.read_unread, trips1]
      intro k hk
      unfold weight
      rw [dif_pos k.isLt, if_pos (by omega)]
      exact Or.inl ⟨_, (EReal.coe_toReal (ht _ _ _) (hb _ _ _)).symm, rfl⟩)
    (by rw [harg3.read_unread, harg4.read_unread]; exact hb a r)
    (by
      rw [harg5.read_unread]
      intro k
      unfold column
      rw [dif_pos k.isLt])
    (k0_t1_loop i).trips le_rfl
  rw [show 1024 * (k0_t1_loop i).trips = 1024 * ((i 2).val / 4) by rw [trips1]] at h
  exact h

/-- The second loop makes no trip. -/
theorem no_more (f7 : BufTy.Contents (Elt Ideal) arg7.view.ty) (f8 : BufTy.Contents (Elt Ideal) arg8.view.ty) (f9 : BufTy.Contents (Elt Ideal) arg9.view.ty)
    (X3 : BufTy.Contents (Elt Ideal) arg3.view.ty) (X4 : BufTy.Contents (Elt Ideal) arg4.view.ty) (X5 : BufTy.Contents (Elt Ideal) arg5.view.ty) :
    pb_k0_t2 Variants.none c none i arg3 harg3 arg4 harg4 arg5 harg5 arg6 harg6 arg7 harg7 arg8 harg8 arg9 harg9 (kernelRun0_A.sl.v0 i)
      (kernelRun0_A.sl.v32 i) (kernelRun0_A.sl.v37 i) X3 X4 X5 f7 f8 f9 (k0_t2_loop i).trips = ([], [], []) := by
  rw [trips2]; rfl

/-- No stores in front of a list of stores. -/
theorem drop_none {κ : Kind} {sp : Space} {s : Shape} {e : EltTy} (v : View sig κ sp s e) (f : v.ty.Contents (Elt Ideal))
    (L₂ L₁ L₀ : List (View.Piece (Elt Ideal) s e)) (j : s.Idx) (h : L₂ = []) :
    v.read (Elt Ideal) (v.writes (Elt Ideal) f (L₂ ++ (L₁ ++ L₀))) j = v.read (Elt Ideal) (v.writes (Elt Ideal) (v.writes (Elt Ideal) f L₀) L₁) j := by
  rw [h, List.nil_append, View.writes_append]

/-- The two sums of the first head at the end. -/
theorem final0 (hb : ∀ a r k, headScore x y a r k ≠ ⊥) (ht : ∀ a r k, headScore x y a r k ≠ ⊤) (r : Fin 256) (d : Fin 128) :
    ∃ m, Running (weight x y (i 2).val 0 r) (column z d) (1024 * ((i 2).val / 4) + 1024) m
      (kernelRun0_A.sl.v133 (F := Ideal) c i arg3 harg3 arg4 harg4 arg5 harg5 arg6 harg6 arg7 harg7 arg8 harg8 arg9 harg9 x y z (ix3 0 r 0))
      (kernelRun0_A.sl.v131 (F := Ideal) c i arg3 harg3 arg4 harg4 arg5 harg5 arg6 harg6 arg7 harg7 arg8 harg8 arg9 harg9 x y z (ix3 0 r d)) := by
  have h16 : (i 2).val < 16 := (i 2).isLt
  have hj : (i 2).val / 4 < 4 := by omega
  have hbef := before_last c i arg3 harg3 arg4 harg4 arg5 harg5 arg6 harg6 arg7 harg7 arg8 harg8 arg9 harg9 x y z hb ht 0 r d
  have hs := score_load arg3 arg4 (harg3.unread x) (harg4.unread y) 0 _ hj (off := ![0, 0]) (off' := k0_off8 i) rfl (off8 i)
  have hv := fun h q => load_apply arg5.view (harg5.unread z) (off := k0_off7 i) (P := 1024) (Q := 128) _ _ (off7 i) h q d (tileKey _ hj q) d rfl (Nat.zero_add _).symm
  rw [harg3.read_unread, harg4.read_unread] at hs
  rw [harg5.read_unread] at hv
  have hl : kernelRun0_A.sl.v133 (F := Ideal) c i arg3 harg3 arg4 harg4 arg5 harg5 arg6 harg6 arg7 harg7 arg8 harg8 arg9 harg9 x y z (ix3 0 r 0) = _ :=
    (load_half0 ..).trans ((read_skip1 ..).trans ((read_hit0 ..).trans (lastSum0 ..)))
  have ha : kernelRun0_A.sl.v131 (F := Ideal) c i arg3 harg3 arg4 harg4 arg5 harg5 arg6 harg6 arg7 harg7 arg8 harg8 arg9 harg9 x y z (ix3 0 r d) = _ :=
    (load_half0 ..).trans ((read_skip1 ..).trans ((read_hit0 ..).trans (lastAcc0 ..)))
  unfold maskedScore at hl ha
  rw [hs] at hl ha
  have hm : (kernelRun0_A.sl.v59 (F := Ideal) c i arg3 harg3 arg4 harg4 arg5 harg5 arg6 harg6 arg7 harg7 arg8 harg8 arg9 harg9 x y z (ix3 0 r 0) : EReal) = _ :=
    (load_half0 ..).trans (drop_none _ _ _ _ _ _ (congrArg Prod.fst (no_more c i arg3 harg3 arg4 harg4 arg5 harg5 arg6 harg6 arg7 harg7 arg8 harg8 arg9 harg9 _ _ _ _ _ _)))
  have hl0 : (kernelRun0_A.sl.v69 (F := Ideal) c i arg3 harg3 arg4 harg4 arg5 harg5 arg6 harg6 arg7 harg7 arg8 harg8 arg9 harg9 x y z (ix3 0 r 0) : EReal) = _ :=
    (load_half0 ..).trans (drop_none _ _ _ _ _ _ (congrArg (fun p : List _ × List _ × List _ => p.2.1) (no_more c i arg3 harg3 arg4 harg4 arg5 harg5 arg6 harg6 arg7 harg7 arg8 harg8 arg9 harg9 _ _ _ _ _ _)))
  have ha0 : (kernelRun0_A.sl.v81 (F := Ideal) c i arg3 harg3 arg4 harg4 arg5 harg5 arg6 harg6 arg7 harg7 arg8 harg8 arg9 harg9 x y z (ix3 0 r d) : EReal) = _ :=
    (load_half0 ..).trans (drop_none _ _ _ _ _ _ (congrArg (fun p : List _ × List _ × List _ => p.2.2) (no_more c i arg3 harg3 arg4 harg4 arg5 harg5 arg6 harg6 arg7 harg7 arg8 harg8 arg9 harg9 _ _ _ _ _ _)))
  rw [hm, hl0] at hl
  rw [hm, ha0] at ha
  have hw := fun q : Fin 1024 => last_weighs i x y hb ht 0 r q hj rfl
  refine ⟨_, (hbef.step _ _ hw (fun q => (hv _ q).trans (column_apply z d (tileKey _ hj q)).symm) ⟨0, ?_⟩).congr hl ha⟩
  exact last_real i x y hb 0 r hj

/-- The two sums of the second head at the end. -/
theorem final1 (hb : ∀ a r k, headScore x y a r k ≠ ⊥) (ht : ∀ a r k, headScore x y a r k ≠ ⊤) (r : Fin 256) (d : Fin 128) :
    ∃ m, Running (weight x y (i 2).val 1 r) (column z d) (1024 * ((i 2).val / 4) + 1024) m
      (kernelRun0_A.sl.v139 (F := Ideal) c i arg3 harg3 arg4 harg4 arg5 harg5 arg6 harg6 arg7 harg7 arg8 harg8 arg9 harg9 x y z (ix3 0 r 0))
      (kernelRun0_A.sl.v137 (F := Ideal) c i arg3 harg3 arg4 harg4 arg5 harg5 arg6 harg6 arg7 harg7 arg8 harg8 arg9 harg9 x y z (ix3 0 r d)) := by
  have h16 : (i 2).val < 16 := (i 2).isLt
  have hj : (i 2).val / 4 < 4 := by omega
  have hbef := before_last c i arg3 harg3 arg4 harg4 arg5 harg5 arg6 harg6 arg7 harg7 arg8 harg8 arg9 harg9 x y z hb ht 1 r d
  have hs := score_load arg3 arg4 (harg3.unread x) (harg4.unread y) 1 _ hj (off := ![0, 128]) (off' := k0_off9 i) rfl (off9 i)
  have hv := fun h q => load_apply arg5.view (harg5.unread z) (off := k0_off7 i) (P := 1024) (Q := 128) _ _ (off7 i) h q d (tileKey _ hj q) d rfl (Nat.zero_add _).symm
  rw [harg3.read_unread, harg4.read_unread] at hs
  rw [harg5.read_unread] at hv
  have hl : kernelRun0_A.sl.v139 (F := Ideal) c i arg3 harg3 arg4 harg4 arg5 harg5 arg6 harg6 arg7 harg7 arg8 harg8 arg9 harg9 x y z (ix3 0 r 0) = _ :=
    (load_half1 ..).trans ((read_hit1 ..).trans (lastSum1 ..))
  have ha : kernelRun0_A.sl.v137 (F := Ideal) c i arg3 harg3 arg4 harg4 arg5 harg5 arg6 harg6 arg7 harg7 arg8 harg8 arg9 harg9 x y z (ix3 0 r d) = _ :=
    (load_half1 ..).trans ((read_hit1 ..).trans (lastAcc1 ..))
  unfold maskedScore at hl ha
  rw [hs] at hl ha
  have hm : (kernelRun0_A.sl.v99 (F := Ideal) c i arg3 harg3 arg4 harg4 arg5 harg5 arg6 harg6 arg7 harg7 arg8 harg8 arg9 harg9 x y z (ix3 0 r 0) : EReal) = _ :=
    (load_half1 ..).trans ((read_skip0 ..).trans (drop_none _ _ _ _ _ _ (congrArg Prod.fst (no_more c i arg3 harg3 arg4 harg4 arg5 harg5 arg6 harg6 arg7 harg7 arg8 harg8 arg9 harg9 _ _ _ _ _ _))))
  have hl0 : (kernelRun0_A.sl.v109 (F := Ideal) c i arg3 harg3 arg4 harg4 arg5 harg5 arg6 harg6 arg7 harg7 arg8 harg8 arg9 harg9 x y z (ix3 0 r 0) : EReal) = _ :=
    (load_half1 ..).trans ((read_skip0 ..).trans (drop_none _ _ _ _ _ _ (congrArg (fun p : List _ × List _ × List _ => p.2.1) (no_more c i arg3 harg3 arg4 harg4 arg5 harg5 arg6 harg6 arg7 harg7 arg8 harg8 arg9 harg9 _ _ _ _ _ _))))
  have ha0 : (kernelRun0_A.sl.v121 (F := Ideal) c i arg3 harg3 arg4 harg4 arg5 harg5 arg6 harg6 arg7 harg7 arg8 harg8 arg9 harg9 x y z (ix3 0 r d) : EReal) = _ :=
    (load_half1 ..).trans ((read_skip0 ..).trans (drop_none _ _ _ _ _ _ (congrArg (fun p : List _ × List _ × List _ => p.2.2) (no_more c i arg3 harg3 arg4 harg4 arg5 harg5 arg6 harg6 arg7 harg7 arg8 harg8 arg9 harg9 _ _ _ _ _ _))))
  rw [hm, hl0] at hl
  rw [hm, ha0] at ha
  have hw := fun q : Fin 1024 => last_weighs i x y hb ht 1 r q hj rfl
  refine ⟨_, (hbef.step _ _ hw (fun q => (hv _ q).trans (column_apply z d (tileKey _ hj q)).symm) ⟨0, ?_⟩).congr hl ha⟩
  exact last_real i x y hb 1 r hj

/-- What the grid point stores, entry by entry. -/
theorem out_eq (r : Fin 256) (d : Fin 128)
    (hb : ∀ a r k, headScore x y a r k ≠ ⊥) (ht : ∀ a r k, headScore x y a r k ≠ ⊤) :
    (out0_A_3 (F := Ideal) c i arg3 harg3 arg4 harg4 arg5 harg5 arg6 harg6 arg7 harg7 arg8 harg8 arg9 harg9 x y z (ix2 r d) : EReal) =
      blockOut x y z (i 2).val r d := by
  unfold out0_A_3
  rw [View.read_writes_eq_canon _ _ _ (fun y => cover0_A_3 c _ _ _ _ _ _ _ _ _ _ _ _ _ _ _ _ _ _ y)]
  unfold kernelRun0_A
  dsimp only
  have h16 : (i 2).val < 16 := (i 2).isLt
  rw [View.canon_unit_zero (by funext a; fin_cases a <;> rfl)]
  refine (out_apply ..).trans ?_
  obtain ⟨m, h0⟩ := final0 c i arg3 harg3 arg4 harg4 arg5 harg5 arg6 harg6 arg7 harg7 arg8 harg8 arg9 harg9 x y z hb ht r d
  obtain ⟨m', h1⟩ := final1 c i arg3 harg3 arg4 harg4 arg5 harg5 arg6 harg6 arg7 harg7 arg8 harg8 arg9 harg9 x y z hb ht r d
  unfold blockOut
  by_cases hd : (d : ℕ) < 64
  · rw [if_pos hd, if_pos hd]
    exact mean_of_running x y z _ h16 0 r d h0
  · rw [if_neg hd, if_neg hd]
    exact mean_of_running x y z _ h16 1 r d h1
end

end Cert.Attention
-- ==== Proof.Array.lean ====
module

public import proofs.«01_k».proof.Proof.Block
public import proofs.«01_k».proof.Proof.Gen.KernelIdeal.Value
public import Idealize.ShloMosaic.Lib.Pipeline.ValueKit

set_option maxRecDepth 16384

/-!
  The whole result array of the attention kernel.

  The grid runs over (batch element b, pair of heads p, block of 256 queries i). The point (b, p, i) reads the rows
  `256 * (16 * b + i) …` of the queries, all 4096 rows of the keys and of the values of batch element b, and the
  columns of the pair p. `final` says that after the run the result at row R and column C is `blockOut` of the blocks
  that hold R and C: block row `R / 256`, batch element `R / 4096`, pair `C / 128`.
-/

@[expose] public section

noncomputable section

namespace Cert.Attention

open Idealize.ShloMosaic Idealize.ShloMosaic.TcCoe Idealize.SL.Sem
open Idealize.ShloMosaic.Pipeline (Dat)
open Cert.KernelIdeal Cert.KernelIdeal.Gen

/-- The n-th block of 256 query rows, the 256 columns of head pair p. -/
def queries (q : FVec Ideal S32768x1536 .bf16) (n : Fin 128) (p : Fin 6) : FVec Ideal S256x256 .bf16 :=
  fun j => q (ix2 ⟨n.val * 256 + (j 0).val, by have h : (j 0).val < 256 := (j 0).isLt; omega⟩
    ⟨p.val * 256 + (j 1).val, by have h : (j 1).val < 256 := (j 1).isLt; omega⟩)

/-- The 4096 key rows of batch element b, the 256 columns of head pair p. -/
def keys (k : FVec Ideal S32768x1536 .bf16) (b : Fin 8) (p : Fin 6) : FVec Ideal S4096x256 .bf16 :=
  fun j => k (ix2 ⟨b.val * 4096 + (j 0).val, by have h : (j 0).val < 4096 := (j 0).isLt; omega⟩
    ⟨p.val * 256 + (j 1).val, by have h : (j 1).val < 256 := (j 1).isLt; omega⟩)

/-- The 4096 value rows of batch element b, the 128 columns of head pair p. -/
def values (v : FVec Ideal S32768x768 .bf16) (b : Fin 8) (p : Fin 6) : FVec Ideal S4096x128 .bf16 :=
  fun j => v (ix2 ⟨b.val * 4096 + (j 0).val, by have h : (j 0).val < 4096 := (j 0).isLt; omega⟩
    ⟨p.val * 128 + (j 1).val, by have h : (j 1).val < 128 := (j 1).isLt; omega⟩)

/-- The attention of the whole arrays at one row and column of the result. -/
def attended (q k : FVec Ideal S32768x1536 .bf16) (v : FVec Ideal S32768x768 .bf16) (R : Fin 32768) (C : Fin 768) : EReal :=
  blockOut (queries q ⟨R.val / 256, by omega⟩ ⟨C.val / 128, by omega⟩) (keys k ⟨R.val / 4096, by omega⟩ ⟨C.val / 128, by omega⟩)
    (values v ⟨R.val / 4096, by omega⟩ ⟨C.val / 128, by omega⟩) (R.val / 256 % 16) ⟨R.val % 256, by omega⟩ ⟨C.val % 128, by omega⟩

variable (m : (ℓ : Loc nD τ sig) → Buf (Elt Ideal) ℓ)

/-- Which block each window stages at a grid point. -/
theorem idx : ∀ t : Fin cfg0.N,
    win0_0.index t = ![(grid0.coords t 0).val * 16 + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val * 16 + (grid0.coords t 2).val, (grid0.coords t 1).val] :=
  (by decide +kernel : ∀ t : Fin grid0.N, _)

/-- The grid's coordinates are below 8, 6 and 16. -/
theorem coords_lt (t : Fin cfg0.N) :
    (grid0.coords t 0).val < 8 ∧ (grid0.coords t 1).val < 6 ∧ (grid0.coords t 2).val < 16 :=
  ⟨(grid0.coords t 0).isLt, (grid0.coords t 1).isLt, (grid0.coords t 2).isLt⟩

theorem queries_eq (c : Dev nD) (t : Fin cfg0.N) (n : Fin 128) (p : Fin 6)
    (hn : n.val = (grid0.coords t 0).val * 16 + (grid0.coords t 2).val) (hp : p.val = (grid0.coords t 1).val) :
    iblk m c 0 t = queries (m ((c : Thread nD τ).loc main_arg0)) n p := by
  funext j
  unfold queries
  blk_ext [iblk, V, idx t, hn, hp]

theorem keys_eq (c : Dev nD) (t : Fin cfg0.N) (b : Fin 8) (p : Fin 6)
    (hb : b.val = (grid0.coords t 0).val) (hp : p.val = (grid0.coords t 1).val) :
    iblk m c 1 t = keys (m ((c : Thread nD τ).loc main_arg1)) b p := by
  funext j
  unfold keys
  blk_ext [iblk, V, idx t, hb, hp]

theorem values_eq (c : Dev nD) (t : Fin cfg0.N) (b : Fin 8) (p : Fin 6)
    (hb : b.val = (grid0.coords t 0).val) (hp : p.val = (grid0.coords t 1).val) :
    iblk m c 2 t = values (m ((c : Thread nD τ).loc main_arg2)) b p := by
  funext j
  unfold values
  blk_ext [iblk, V, idx t, hb, hp]

theorem covers : (cfg0.win 3).Covers := by decide +kernel

/-- The attention at the row and column that sit at (r, d) of the block of the point (b, p, i). -/
theorem attended_of (q k : FVec Ideal S32768x1536 .bf16) (v : FVec Ideal S32768x768 .bf16) (n : Fin 128) (b : Fin 8) (p : Fin 6) (i : Fin 16)
    (r : Fin 256) (d : Fin 128) (R : Fin 32768) (C : Fin 768) (hn : n.val = b.val * 16 + i.val)
    (hR : R.val = n.val * 256 + r.val) (hC : C.val = p.val * 128 + d.val) :
    attended q k v R C = blockOut (queries q n p) (keys k b p) (values v b p) i.val r d := by
  unfold attended
  congr 1
  · congr 1 <;> apply Fin.ext <;> dsimp only <;> omega
  · congr 1 <;> apply Fin.ext <;> dsimp only <;> omega
  · congr 1 <;> apply Fin.ext <;> dsimp only <;> omega
  · omega
  · apply Fin.ext; dsimp only; omega
  · apply Fin.ext; dsimp only; omega

/-- The result array after the run, where the scores of all the blocks are real numbers. -/
theorem final (c : Dev nD)
    (hb : ∀ n b p a r k, headScore (queries (m ((c : Thread nD τ).loc main_arg0)) n p) (keys (m ((c : Thread nD τ).loc main_arg1)) b p) a r k ≠ ⊥)
    (ht : ∀ n b p a r k, headScore (queries (m ((c : Thread nD τ).loc main_arg0)) n p) (keys (m ((c : Thread nD τ).loc main_arg1)) b p) a r k ≠ ⊤) :
    (dats m 0 c).arrAt 3 (cfgs 0).N = fun i : S32768x768.Idx => attended (m ((c : Thread nD τ).loc main_arg0))
      (m ((c : Thread nD τ).loc main_arg1)) (m ((c : Thread nD τ).loc main_arg2)) (i 0) (i 1) := by
  refine (dats m 0 c).arrAt_eq_of_covers 3 _ covers fun t _ y => ?_
  blk_simp
  rw [after0_3]
  obtain ⟨h0, h1, h2⟩ := coords_lt t
  obtain ⟨r, d, rfl⟩ : ∃ (r : Fin 256) (d : Fin 128), y = ix2 r d := ⟨y 0, y 1, by funext a; match a with | ⟨0, _⟩ => rfl | ⟨1, _⟩ => rfl⟩
  refine Eq.trans ?_ (attended_of _ _ _ ⟨(grid0.coords t 0).val * 16 + (grid0.coords t 2).val, by omega⟩ ⟨_, h0⟩ ⟨_, h1⟩ ⟨_, h2⟩ r d _ _ rfl
    (by blk_simp [idx t]) (by blk_simp [idx t])).symm
  unfold outsAt0
  rw [queries_eq m c t ⟨(grid0.coords t 0).val * 16 + (grid0.coords t 2).val, by omega⟩ ⟨_, h1⟩ rfl rfl,
    keys_eq m c t ⟨_, h0⟩ ⟨_, h1⟩ rfl rfl, values_eq m c t ⟨_, h0⟩ ⟨_, h1⟩ rfl rfl]
  exact out_eq c (grid0.coords t) _ _ _ _ _ _ _ _ _ _ _ _ _ _ _ _ _ r d (hb _ _ _) (ht _ _ _)

end Cert.Attention
-- ==== Proof.Reference.lean ====
module

public import proofs.«01_k».proof.Proof.Softmax
public import proofs.«01_k».proof.Proof.Gen.ReferenceIdeal.Read
public import Idealize.ShloMosaic.Lib.WordCmp

set_option maxRecDepth 16384

/-!
# The reference at one element

Where the products of queries and keys are real numbers, the reference's result is a mean of the values: key y of row
x weighs `exp (dot / sqrt 96)` where y is not after x, and nothing otherwise. The row's maximum, which the softmax
takes off every score, cancels.
-/

@[expose] public section
noncomputable section
namespace Cert.Attention.Ref
open Idealize.ShloMosaic Idealize.ShloMosaic.TcCoe Idealize.SL.Sem
open Cert.ReferenceIdeal Cert.ReferenceIdeal.Gen Cert.ReferenceIdeal.Read

/-- Row x of batch element b. -/
def row (b : Fin 8) (x : Fin 4096) : Fin 32768 := ⟨b.val * 4096 + x.val, by omega⟩

/-- Lane d of head h, in the queries and the keys. -/
def lane12 (h : Fin 12) (d : Fin 128) : Fin 1536 := ⟨h.val * 128 + d.val, by omega⟩

/-- Column d of head h, in the values and the result. -/
def col12 (h : Fin 12) (d : Fin 64) : Fin 768 := ⟨h.val * 64 + d.val, by omega⟩

/-- The product of query x and key y. -/
def dotAt (q k : FVec Ideal S32768x1536 .bf16) (b : Fin 8) (h : Fin 12) (x y : Fin 4096) : EReal :=
  ∑ d : Fin 128, q (ix2 (row b x) (lane12 h d)) * k (ix2 (row b y) (lane12 h d))

/-- The weight of key y for row x, from the products D of the row. -/
def expWeight (D : Fin 4096 → ℝ) (x y : Fin 4096) : ℝ := if y ≤ x then Real.exp (D y / Real.sqrt 96) else 0

theorem split_query (q : FVec Ideal S32768x1536 .bf16) (b : Fin 8) (x : Fin 4096) (h : Fin 12) (d : Fin 128) :
    val_main_v1 (F := Ideal) q (ix4 b x h d) = q (ix2 (row b x) (lane12 h d)) := by
  rw [val_main_v1_apply, val_main_v0_apply]
  refine congrArg q ?_
  funext a
  match a with
  | ⟨0, _⟩ => apply Fin.ext; show (((b.val * 4096 + x.val) * 12 + h.val) * 128 + d.val) / 1536 = b.val * 4096 + x.val; omega
  | ⟨1, _⟩ => apply Fin.ext; show (((b.val * 4096 + x.val) * 12 + h.val) * 128 + d.val) % 1536 = h.val * 128 + d.val; omega

theorem split_key (k : FVec Ideal S32768x1536 .bf16) (b : Fin 8) (x : Fin 4096) (h : Fin 12) (d : Fin 128) :
    val_main_v3 (F := Ideal) k (ix4 b x h d) = k (ix2 (row b x) (lane12 h d)) := split_query k b x h d

theorem split_value (v : FVec Ideal S32768x768 .bf16) (b : Fin 8) (x : Fin 4096) (h : Fin 12) (d : Fin 64) :
    val_main_v5 (F := Ideal) v (ix4 b x h d) = v (ix2 (row b x) (col12 h d)) := by
  rw [val_main_v5_apply, val_main_v4_apply]
  refine congrArg v ?_
  funext a
  match a with
  | ⟨0, _⟩ => apply Fin.ext; show (((b.val * 4096 + x.val) * 12 + h.val) * 64 + d.val) / 768 = b.val * 4096 + x.val; omega
  | ⟨1, _⟩ => apply Fin.ext; show (((b.val * 4096 + x.val) * 12 + h.val) * 64 + d.val) % 768 = h.val * 64 + d.val; omega

theorem product (q k : FVec Ideal S32768x1536 .bf16) (b : Fin 8) (h : Fin 12) (x y : Fin 4096) :
    val_main_v6 (F := Ideal) q k (ix4 b h x y) = dotAt q k b h x y := by
  rw [val_main_v6_apply]
  refine Finset.sum_congr rfl fun d _ => ?_
  refine Eq.trans ?_ (congrArg₂ (· * ·) (split_query q b x h d) (split_key k b y h d))
  congr 2
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem root (i : S8x12x4096x4096.Idx) : val_main_v8 (F := Ideal) i = ((Real.sqrt 96 : ℝ) : EReal) := by
  rw [val_main_v8_apply, val_main_v7_apply, val_main_cst_apply]
  show Ideal.sqrt (Ideal.ofBits .f32 0x42C00000#32) = _
  have : Ideal.ofBits .f32 0x42C00000#32 = ((96 : ℝ) : EReal) := by
    simp [Ideal.ofBits, Ideal.ieee]
    rw [← EReal.coe_mul]
    norm_num
  rw [this]
  exact (Ideal.sqrt_coe 96).trans (if_neg (by norm_num))

theorem causal (x y : Fin 4096) : val_main_v15 (F := Ideal) (ix2 x y) = BitVec.ofBool (decide (y.val ≤ x.val)) := by
  rw [val_main_v15_apply, val_main_v13_apply, val_main_v14_apply, val_main_v11_apply, val_main_v12_apply, val_main_v10_apply, val_main_v10_apply]
  exact WordCmp.cmpi_sle_ofNat (show y.val < 2 ^ (32 - 1) by omega) (show x.val < 2 ^ (32 - 1) by omega)

/-- The scores, minus infinity where the key is after the row. -/
theorem scores (q k : FVec Ideal S32768x1536 .bf16) (b : Fin 8) (h : Fin 12) (x y : Fin 4096) :
    val_main_v16 (F := Ideal) q k (ix4 b h x y) =
      if y.val ≤ x.val then Ideal.div (dotAt q k b h x y) ((Real.sqrt 96 : ℝ) : EReal) else ⊥ := by
  have hm : val_main_call0_v1 (F := Ideal) (ix4 b h x y) = BitVec.ofBool (decide (y.val ≤ x.val)) := by
    rw [val_main_call0_v1_apply, ← causal]
    congr 1
    funext a; match a with | ⟨0, _⟩ => rfl | ⟨1, _⟩ => rfl
  rw [val_main_v16_apply, hm, val_main_v9_apply, product, root, val_main_call0_v2_apply, val_main_call0_v0_apply, val_main_cst_0_apply]
  by_cases hxy : y.val ≤ x.val
  · rw [if_pos hxy, decide_eq_true hxy]; rfl
  · rw [if_neg hxy, decide_eq_false hxy]; exact ofBits_neg_inf

/-- The row's maximum is taken over its scores. -/
theorem maximum (q k : FVec Ideal S32768x1536 .bf16) (b : Fin 8) (h : Fin 12) (x : Fin 4096) :
    val_main_v17 (F := Ideal) q k (ix3 b h x) =
      Finset.fold max (Ideal.ofBits FTy.f32 0xFF800000#32) (fun y => val_main_v16 (F := Ideal) q k (ix4 b h x y)) Finset.univ := by
  unfold val_main_v17 val_main_cst_1
  generalize val_main_v16 (F := Ideal) q k = z
  pointwise

/-- A maximum of scores, one of them real and none infinite, is real. -/
theorem real_fold {n : ℕ} (S : Fin n → EReal) (h1 : ∀ y, S y ≠ ⊤) (h0 : ∃ y, S y ≠ ⊥) :
    ∃ M : ℝ, Finset.fold max (Ideal.ofBits FTy.f32 0xFF800000#32) S Finset.univ = M := by
  rw [ofBits_neg_inf]
  refine ⟨(Finset.fold max ⊥ S Finset.univ).toReal, (EReal.coe_toReal (lt_top_iff_ne_top.1 ?_) (bot_lt_iff_ne_bot.1 ?_)).symm⟩
  · rw [Finset.fold_max_lt]
    exact ⟨bot_lt_top, fun y _ => lt_top_iff_ne_top.2 (h1 y)⟩
  · obtain ⟨y, hy⟩ := h0
    rw [Finset.lt_fold_max]
    exact Or.inr ⟨y, Finset.mem_univ _, bot_lt_iff_ne_bot.2 hy⟩

section
variable (q k : FVec Ideal S32768x1536 .bf16) (v : FVec Ideal S32768x768 .bf16) (b : Fin 8) (h : Fin 12) (x : Fin 4096)
  (D : Fin 4096 → ℝ) (hD : ∀ y, dotAt q k b h x y = D y)
include hD

theorem score_real (y : Fin 4096) :
    val_main_v16 (F := Ideal) q k (ix4 b h x y) = if y ≤ x then ((D y / Real.sqrt 96 : ℝ) : EReal) else ⊥ := by
  have h96 : Real.sqrt 96 ≠ 0 := by positivity
  rw [scores, hD, Ideal.div_coe h96, ← EReal.coe_mul, mul_one_div]
  rfl

/-- The exponentials, all relative to one real number. -/
theorem exponentials : ∃ M : ℝ, ∀ y, val_main_v23 (F := Ideal) q k (ix4 b h x y) = ((Real.exp (-M) * expWeight D x y : ℝ) : EReal) := by
  obtain ⟨M, hM⟩ := real_fold (fun y => val_main_v16 (F := Ideal) q k (ix4 b h x y))
    (fun y => by
      rw [score_real q k b h x D hD]
      split_ifs
      · exact EReal.coe_ne_top _
      · exact bot_ne_top)
    ⟨x, by rw [score_real q k b h x D hD, if_pos le_rfl]; exact EReal.coe_ne_bot _⟩
  refine ⟨M, fun y => ?_⟩
  have hmax : val_main_v21 (F := Ideal) q k (ix4 b h x y) = (M : EReal) := by
    rw [val_main_v21_apply, val_main_v20_apply, val_main_v19_apply, val_main_v18_apply, val_main_cst_2_apply]
    show max (Ideal.ofBits FTy.f32 0xFF800000#32) _ = _
    rw [ofBits_neg_inf, max_eq_right bot_le, ← hM, ← maximum]
    refine congrArg _ ?_
    funext a; match a with | ⟨0, _⟩ => rfl | ⟨1, _⟩ => rfl | ⟨2, _⟩ => rfl
  rw [val_main_v23_apply, val_main_v22_apply, hmax, score_real q k b h x D hD]
  show Ideal.exp (_ - (M : EReal)) = _
  unfold expWeight
  split_ifs
  · rw [← EReal.coe_sub, Ideal.exp_coe]
    refine congrArg Real.toEReal ((congrArg Real.exp ?_).trans (Real.exp_add _ _))
    ring
  · rw [mul_zero]; rfl

theorem sum_pos : 0 < ∑ y, expWeight D x y := by
  refine Finset.sum_pos' (fun y _ => ?_) ⟨x, Finset.mem_univ _, ?_⟩
  · unfold expWeight
    split_ifs
    · exact (Real.exp_pos _).le
    · exact le_rfl
  · rw [expWeight, if_pos le_rfl]
    exact Real.exp_pos _

/-- The softmax: every weight over their sum. -/
theorem softmax (y : Fin 4096) :
    val_main_v27 (F := Ideal) q k (ix4 b h x y) = ((expWeight D x y / ∑ j, expWeight D x j : ℝ) : EReal) := by
  obtain ⟨M, hM⟩ := exponentials q k b h x D hD
  have hs : val_main_v26 (F := Ideal) q k (ix4 b h x y) = ((Real.exp (-M) * ∑ j, expWeight D x j : ℝ) : EReal) := by
    rw [val_main_v26_apply, val_main_v25_apply, val_main_v24_apply, val_main_cst_3_apply, Finset.mul_sum, coe_sum]
    refine (congrArg₂ (· + ·) Ideal.ofBits_zero_f32 (Finset.sum_congr rfl fun j _ => ?_)).trans (zero_add _)
    rw [← hM]
    congr 1
    funext a; match a with | ⟨0, _⟩ => rfl | ⟨1, _⟩ => rfl | ⟨2, _⟩ => rfl | ⟨3, _⟩ => rfl
  have hp := sum_pos q k b h x D hD
  rw [val_main_v27_apply, hM, hs, Ideal.hostDivf_def, Ideal.div_coe (mul_pos (Real.exp_pos _) hp).ne', ← EReal.coe_mul]
  congr 1
  have := (Real.exp_pos (-M)).ne'
  field_simp

/-- The reference's result: the mean of a column of values. -/
theorem result (d : Fin 64) :
    val_main_v31 (F := Ideal) q k v (ix2 (row b x) (col12 h d)) =
      ∑ y, ((expWeight D x y / ∑ j, expWeight D x j : ℝ) : EReal) * v (ix2 (row b y) (col12 h d)) := by
  rw [val_main_v31_apply, val_main_v30_apply, val_main_v29_apply]
  have e : idx_main_v29 (idx_main_v30 (ix2 (row b x) (col12 h d))) = ix4 b h d x := by
    funext a
    match a with
    | ⟨0, _⟩ => apply Fin.ext; show ((b.val * 4096 + x.val) * 768 + (h.val * 64 + d.val)) / 3145728 = b.val; omega
    | ⟨1, _⟩ => apply Fin.ext; show ((b.val * 4096 + x.val) * 768 + (h.val * 64 + d.val)) / 64 % 12 = h.val; omega
    | ⟨2, _⟩ => apply Fin.ext; show ((b.val * 4096 + x.val) * 768 + (h.val * 64 + d.val)) % 64 = d.val; omega
    | ⟨3, _⟩ => apply Fin.ext; show ((b.val * 4096 + x.val) * 768 + (h.val * 64 + d.val)) / 768 % 4096 = x.val; omega
  rw [e, Ideal.truncf_def, val_main_v28_apply]
  refine Finset.sum_congr rfl fun y _ => ?_
  rw [mul_comm]
  refine congrArg₂ (· * ·) ((congrArg _ ?_).trans (softmax q k b h x D hD y)) ((congrArg _ ?_).trans (split_value v b y h d))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

end

end Cert.Attention.Ref
-- ==== Proof.Equation.lean ====
module

public import proofs.«01_k».proof.Proof.Array
public import proofs.«01_k».proof.Proof.Reference

set_option maxRecDepth 16384

/-!
# The kernel's mean is the reference's mean

Two to the power of a score that carries `1 / (sqrt 96 * log 2)` is the exponential of the product over `sqrt 96`, so
the weights of the two sides are the same numbers.
-/

@[expose] public section
noncomputable section
namespace Cert.Attention
open Idealize.ShloMosaic Idealize.ShloMosaic.TcCoe Idealize.SL.Sem
open Cert.KernelIdeal Cert.KernelIdeal.Gen

/-- An array of real numbers. -/
def Real? {s : Shape} {φ : FTy} (q : FVec Ideal s φ) : Prop := ∀ i, ∃ r : ℝ, (q i : EReal) = r

/-- A sum of products of real numbers is real. -/
theorem dot_real {n : ℕ} (f g : Fin n → EReal) (hf : ∀ d, ∃ r : ℝ, f d = r) (hg : ∀ d, ∃ r : ℝ, g d = r) :
    ∃ r : ℝ, ∑ d, f d * g d = r := by
  choose f' hf using hf
  choose g' hg using hg
  refine ⟨∑ d, f' d * g' d, ?_⟩
  rw [coe_sum]
  exact Finset.sum_congr rfl fun d _ => by rw [hf, hg, EReal.coe_mul]

theorem headScore_real (x : FVec Ideal S256x256 .bf16) (y : FVec Ideal S4096x256 .bf16) (hx : Real? x) (hy : Real? y) (a : Fin 2)
    (r : Fin 256) (k : Fin 4096) : headScore x y a r k ≠ ⊥ ∧ headScore x y a r k ≠ ⊤ := by
  obtain ⟨t, ht⟩ := dot_real (fun d => x (ix2 r (lane a d))) (fun d => y (ix2 k (lane a d))) (fun _ => hx _) (fun _ => hy _)
  unfold headScore
  rw [ht, ← EReal.coe_mul]
  exact ⟨EReal.coe_ne_bot _, EReal.coe_ne_top _⟩

theorem queries_real {q : FVec Ideal S32768x1536 .bf16} (hq : Real? q) (n : Fin 128) (p : Fin 6) : Real? (queries q n p) := fun _ => hq _

theorem keys_real {k : FVec Ideal S32768x1536 .bf16} (hk : Real? k) (b : Fin 8) (p : Fin 6) : Real? (keys k b p) := fun _ => hk _

/-- The base-two weight of a score is the exponential of the product over sqrt 96. -/
theorem pow_scale (t : ℝ) : Real.rpow 2 (t * scale2) = Real.exp (t / Real.sqrt 96) := by
  show (2 : ℝ) ^ (t * scale2) = _
  rw [Real.rpow_def_of_pos (by norm_num)]
  congr 1
  have : Real.log 2 ≠ 0 := (Real.log_pos (by norm_num)).ne'
  unfold scale2
  field_simp

/-- A score of the kernel's blocks is the reference's product of that query and key, scaled. -/
theorem headScore_eq (q k : FVec Ideal S32768x1536 .bf16) (n : Fin 128) (b : Fin 8) (p : Fin 6) (a : Fin 2) (h : Fin 12) (r : Fin 256)
    (x y : Fin 4096) (hx : n.val * 256 + r.val = b.val * 4096 + x.val) (hh : h.val = 2 * p.val + a.val) :
    headScore (queries q n p) (keys k b p) a r y = Ref.dotAt q k b h x y * (scale2 : EReal) := by
  unfold headScore Ref.dotAt queries keys
  congr 1
  refine Finset.sum_congr rfl fun d _ => ?_
  have e : p.val * 256 + (lane a d).val = h.val * 128 + d.val := by
    show p.val * 256 + (128 * a.val + d.val) = _
    omega
  refine congrArg₂ (· * ·) (congrArg q ?_) (congrArg k ?_)
  · funext j
    match j with
    | ⟨0, _⟩ => exact Fin.ext hx
    | ⟨1, _⟩ => exact Fin.ext e
  · funext j
    match j with
    | ⟨0, _⟩ => rfl
    | ⟨1, _⟩ => exact Fin.ext e

theorem attended_row (q k : FVec Ideal S32768x1536 .bf16) (v : FVec Ideal S32768x768 .bf16) (hq : Real? q) (hk : Real? k) (b : Fin 8)
    (x : Fin 4096) (h : Fin 12) (d : Fin 64) :
    attended q k v (Ref.row b x) (Ref.col12 h d) = Cert.ReferenceIdeal.Read.val_main_v31 (F := Ideal) q k v (ix2 (Ref.row b x) (Ref.col12 h d)) := by
  have hD : ∀ y, ∃ t : ℝ, Ref.dotAt q k b h x y = t := fun y => dot_real _ _ (fun _ => hq _) (fun _ => hk _)
  choose D hD using hD
  rw [Ref.result q k v b h x D hD d]
  have hc : 64 * (h.val % 2) + d.val < 128 := by omega
  rw [attended_of q k v ⟨b.val * 16 + x.val / 256, by omega⟩ b ⟨h.val / 2, by omega⟩ ⟨x.val / 256, by omega⟩ ⟨x.val % 256, by omega⟩
    ⟨64 * (h.val % 2) + d.val, hc⟩ (Ref.row b x) (Ref.col12 h d) rfl
    (by show b.val * 4096 + x.val = (b.val * 16 + x.val / 256) * 256 + x.val % 256; omega)
    (by show h.val * 64 + d.val = h.val / 2 * 128 + (64 * (h.val % 2) + d.val); omega)]
  unfold blockOut
  have ha : (if 64 * (h.val % 2) + d.val < 64 then (0 : Fin 2) else 1) = ⟨h.val % 2, by omega⟩ := by
    apply Fin.ext
    split_ifs
    · show 0 = h.val % 2; omega
    · show 1 = h.val % 2; omega
  have hw : ∀ y : Fin 4096, weight (queries q ⟨b.val * 16 + x.val / 256, by omega⟩ ⟨h.val / 2, by omega⟩) (keys k b ⟨h.val / 2, by omega⟩)
      (x.val / 256) ⟨h.val % 2, by omega⟩ ⟨x.val % 256, by omega⟩ y.val = Ref.expWeight D x y := by
    intro y
    rw [weight, dif_pos y.isLt, Ref.expWeight]
    have hxy : y.val ≤ 256 * (x.val / 256) + x.val % 256 ↔ y ≤ x := by
      rw [Fin.le_def]; omega
    refine if_congr hxy ?_ rfl
    rw [headScore_eq q k _ b _ _ h _ x y (by dsimp only; omega) (by dsimp only; omega), hD, ← EReal.coe_mul, EReal.toReal_coe]
    exact pow_scale (D y)
  dsimp only
  rw [ha, Finset.sum_range, Finset.sum_range]
  refine Finset.sum_congr rfl fun y _ => ?_
  rw [column_apply, hw]
  simp only [hw]
  refine congrArg (_ * ·) (congrArg v ?_)
  funext j
  match j with
  | ⟨0, _⟩ => rfl
  | ⟨1, _⟩ => apply Fin.ext; show h.val / 2 * 128 + (64 * (h.val % 2) + d.val) = h.val * 64 + d.val; omega

theorem attended_at (q k : FVec Ideal S32768x1536 .bf16) (v : FVec Ideal S32768x768 .bf16) (hq : Real? q) (hk : Real? k) (R : Fin 32768)
    (C : Fin 768) : attended q k v R C = Cert.ReferenceIdeal.Read.val_main_v31 (F := Ideal) q k v (ix2 R C) := by
  have hR : R = Ref.row ⟨R.val / 4096, by omega⟩ ⟨R.val % 4096, by omega⟩ :=
    Fin.ext (show R.val = R.val / 4096 * 4096 + R.val % 4096 by omega)
  have hC : C = Ref.col12 ⟨C.val / 64, by omega⟩ ⟨C.val % 64, by omega⟩ :=
    Fin.ext (show C.val = C.val / 64 * 64 + C.val % 64 by omega)
  rw [hR, hC]
  exact attended_row q k v hq hk _ _ _ _

/-- The two sides agree at every index. -/
theorem attended_eq (q k : FVec Ideal S32768x1536 .bf16) (v : FVec Ideal S32768x768 .bf16) (hq : Real? q) (hk : Real? k) :
    (fun i : S32768x768.Idx => attended q k v (i 0) (i 1)) = Cert.ReferenceIdeal.Read.val_main_v31 (F := Ideal) q k v := by
  funext i
  refine (attended_at q k v hq hk (i 0) (i 1)).trans (congrArg _ ?_)
  funext a; match a with | ⟨0, _⟩ => rfl | ⟨1, _⟩ => rfl

end Cert.Attention
-- ==== Proof.Claims.lean ====
module

public import proofs.«01_k».proof.Defs
public import proofs.«01_k».proof.Proof.Equation
public import proofs.«01_k».proof.Proof.Gen.Kernel.Frame
public import Idealize.ShloMosaic.Lib.Quiescent

set_option maxRecDepth 16384

/-!
# The attention's claims

The precondition read at an entry, and the claims put together.
-/

@[expose] public section
noncomputable section
namespace Cert.Attention
open Idealize.ShloMosaic Idealize.ShloMosaic.TcCoe Idealize.SL.Sem

/-- The side condition the precondition states. -/
theorem preFacts : Cert.Pre_finite.Facts := ⟨by decide⟩

theorem bf16_neg_inf : Ideal.ofBits FTy.bf16 0xFF80#16 = ⊥ := by simp [Ideal.ofBits, Ideal.ieee]

theorem bf16_inf : Ideal.ofBits FTy.bf16 0x7F80#16 = ⊤ := by simp [Ideal.ofBits, Ideal.ieee]

/-- An extended real strictly between the infinities is a real number. -/
theorem real_of_between (x : EReal) (h : (Ideal.cmp .ogt x ⊥ &&& Ideal.cmp .olt x ⊤) = 1#1) : ∃ r : ℝ, x = r := by
  have h1 : ⊥ < x := by
    by_contra hc
    simp [Ideal.cmp, hc] at h
  have h2 : x < ⊤ := by
    by_contra hc
    simp [Ideal.cmp, hc] at h
  exact ⟨x.toReal, (EReal.coe_toReal h2.ne h1.ne').symm⟩

/-- The precondition says that the queries and the keys are real numbers. -/
theorem real_of_pre (q k : FVec Ideal Cert.Pre_finite.S32768x1536 .bf16) (v : FVec Ideal Cert.Pre_finite.S32768x768 .bf16)
    (h : (@Cert.Pre_finite.fn preFacts Ideal _ q k v).1 = (fun _ => 1#1) ∧ (@Cert.Pre_finite.fn preFacts Ideal _ q k v).2 = (fun _ => 1#1)) :
    Real? q ∧ Real? k := by
  refine ⟨fun i => real_of_between _ ?_, fun i => real_of_between _ ?_⟩
  · have hi := congrFun h.1 i
    rw [← bf16_neg_inf, ← bf16_inf]
    exact hi
  · have hi := congrFun h.2 i
    rw [← bf16_neg_inf, ← bf16_inf]
    exact hi

/-- The kernel runs and keeps its arguments. -/
theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) := fun m ρ _ => Cert.KernelIdeal.Gen.frame m ρ

theorem frame_pi_pre : Cert.quiescent_KernelIdeal_pre_finite (hKernelIdeal := Cert.KernelIdeal.Gen.facts) (hPre_finite := preFacts) :=
  fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite (hReferenceIdeal := Cert.ReferenceIdeal.Gen.facts) (hPre_finite := preFacts) :=
  fun m ρ _ => frame_ri m ρ trivial

/-- The two constants stand for the numbers they round. -/
theorem preserves : Cert.preserves_Kernel_KernelIdeal :=
  ⟨IdealRules.named_const.statement Cert.KernelIdeal.κ "mask" .f32 0xF149F2CA#32 ⊥ rfl,
    IdealRules.named_const.statement Cert.KernelIdeal.κ "scale2" .f32 0x3E16C740#32 (((Real.sqrt 96)⁻¹ * (Real.log 2)⁻¹ : ℝ) : EReal) rfl⟩

/-- On real queries and keys the kernel's result is the reference's, whatever the values are. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2⟩ := hagree c
  obtain ⟨hq, hk⟩ := real_of_pre _ _ _ (hpre c)
  rw [Cert.ReferenceIdeal.Read.val_main_v31_eq, h0, h1, h2]
  refine ((final m c (fun n b p a r k => (headScore_real _ _ (queries_real hq n p) (keys_real hk b p) a r k).1)
    (fun n b p a r k => (headScore_real _ _ (queries_real hq n p) (keys_real hk b p) a r k).2)).trans ?_).symm
  exact attended_eq _ _ _ hq hk

end Cert.Attention
-- ==== Proof.Ffn.Row.lean ====
module

public import Idealize.ShloMosaic.Lib.Pointwise
public import Idealize.ShloMosaic.Lib.Pipeline.ValueKit

set_option maxRecDepth 16384

/-!
# The feed-forward sublayer on one row

What the sublayer computes on one row of 1024 features: the row divided by its root mean square, the two products with
the columns of the gate and of the up projection, the gated activation, the product back to 1024 features, and the
normalised result added to the row by a half. And the one fact about sums that the kernel needs: it takes the 2816
activations as two tiles of 1408.
-/

@[expose] public section
noncomputable section
namespace Cert.Ffn
open Idealize.ShloMosaic

/-- A row divided by its root mean square, times a gain per feature. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- One activation: the gate through `z ↦ z · logistic z`, times the up projection. -/
def gated (h wg wu : Fin 1024 → EReal) : EReal :=
  (∑ k, h k * wg k) * Ideal.logistic (∑ k, h k * wg k) * ∑ k, h k * wu k

/-- The product of the 2816 activations with one column of the down projection. -/
def inner (h : Fin 1024 → EReal) (w : Fin 1024 → Fin 5632 → EReal) (v : Fin 2816 → Fin 1024 → EReal) (e : Fin 1024) : EReal :=
  ∑ f : Fin 2816, gated h (fun k => w k ⟨f.val, by omega⟩) (fun k => w k ⟨2816 + f.val, by omega⟩) * v f e

/-- The same product over one tile of 1408 activations, the tile's columns and rows given. -/
def part (h : Fin 1024 → EReal) (wg wu : Fin 1024 → Fin 1408 → EReal) (v : Fin 1408 → Fin 1024 → EReal) (e : Fin 1024) : EReal :=
  ∑ f : Fin 1408, gated h (fun k => wg k f) (fun k => wu k f) * v f e

/-- The row plus a half of a normalised row. -/
def finish (x y g : Fin 1024 → EReal) (d : Fin 1024) : EReal := x d + Ideal.ofBits .f32 0x3F000000#32 * rms y g d

/-- The whole sublayer on one row. -/
def layer (x g0 g1 : Fin 1024 → EReal) (w : Fin 1024 → Fin 5632 → EReal) (v : Fin 2816 → Fin 1024 → EReal) (d : Fin 1024) : EReal :=
  finish x (inner (rms x g0) w v) g1 d

/-- The activations in two tiles. -/
theorem inner_split (h : Fin 1024 → EReal) (w : Fin 1024 → Fin 5632 → EReal) (v : Fin 2816 → Fin 1024 → EReal) (e : Fin 1024) :
    inner h w v e
      = part h (fun k f => w k ⟨f.val, by omega⟩) (fun k f => w k ⟨2816 + f.val, by omega⟩) (fun f => v ⟨f.val, by omega⟩) e
        + part h (fun k f => w k ⟨1408 + f.val, by omega⟩) (fun k f => w k ⟨4224 + f.val, by omega⟩) (fun f => v ⟨1408 + f.val, by omega⟩) e := by
  unfold inner part
  refine (Fin.sum_univ_add (a := 1408) (b := 1408) (fun f : Fin (1408 + 1408) =>
    gated h (fun k => w k ⟨f.val, by omega⟩) (fun k => w k ⟨2816 + f.val, by omega⟩) * v f e)).trans ?_
  refine congrArg₂ (· + ·) rfl (Finset.sum_congr rfl fun f _ => ?_)
  have e1 : (⟨2816 + (Fin.natAdd 1408 f).val, by have := (Fin.natAdd 1408 f).isLt; omega⟩ : Fin 5632) = ⟨4224 + f.val, by omega⟩ := by
    apply Fin.ext
    simp only [Fin.val_natAdd]
    omega
  simp only [e1]
  rfl

end Cert.Ffn
-- ==== Proof.Ffn.Kernel.lean ====
module

public import proofs.«01_k».proof.Proof.Gen.Kernel2Ideal.Value
public import proofs.«01_k».proof.Proof.Ffn.Row
public import Idealize.ShloMosaic.Lib.Pipeline.ReadBack

set_option maxRecDepth 16384

/-!
# What the feed-forward kernel computes

The kernel's grid has two points per tile of 1024 rows. The first normalises the rows, keeps them, and leaves the first
1408 activations' part of the down projection in the accumulator; the second adds the other 1408 and writes the tile.
-/

@[expose] public section
noncomputable section
namespace Cert.Ffn
open Idealize.ShloMosaic Idealize.ShloMosaic.TcCoe Idealize.SL.Sem
open Cert.Kernel2Ideal Cert.Kernel2Ideal.Gen

/-- The rows kept for both points: each divided by its root mean square. -/
theorem pay_norm (x : FVec Ideal S1024x1024 .f32) (g : FVec Ideal S1x1024 .f32) (r d : Fin 1024) :
    k0_pay1 (F := Ideal) x g (ix2 r d) = rms (fun k => x (ix2 r k)) (fun k => g (ix2 0 k)) d := by
  unfold rms
  pointwise [k0_pay1]

/-- The accumulator starts at zero. -/
theorem pay_zero (r d : Fin 1024) : k0_pay2 (F := Ideal) (ix2 r d) = 0 := by
  pointwise [k0_pay2]

/-- A point adds its tile's part to the accumulator. -/
theorem pay_part (h : FVec Ideal S1024x1024 .bf16) (wg wu : FVec Ideal S1024x1408 .bf16) (acc : FVec Ideal S1024x1024 .f32)
    (v : FVec Ideal S1408x1024 .bf16) (r e : Fin 1024) :
    k0_pay3 (F := Ideal) h wg wu acc v (ix2 r e)
      = acc (ix2 r e) + part (fun k => h (ix2 r k)) (fun k f => wg (ix2 k f)) (fun k f => wu (ix2 k f)) (fun f e => v (ix2 f e)) e := by
  unfold part gated
  pointwise [k0_pay3]

/-- The last point writes the rows plus a half of the normalised accumulator. -/
theorem pay_finish (x acc : FVec Ideal S1024x1024 .f32) (g : FVec Ideal S1x1024 .f32) (r d : Fin 1024) :
    k0_pay4 (F := Ideal) x acc g (ix2 r d) = finish (fun k => x (ix2 r k)) (fun k => acc (ix2 r k)) (fun k => g (ix2 0 k)) d := by
  unfold finish rms
  pointwise [k0_pay4]

variable (m : (ℓ : Loc nD τ sig) → Buf (Elt Ideal) ℓ)

/-- The kept rows and the accumulator after the first point of a tile. -/
theorem first (c : Dev nD) (t : Fin cfg0.N) (h : t.val % 2 = 0) :
    (outsAt0 m c t.val t.isLt).2 = (k0_pay1 (F := Ideal) (iblk m c 0 t) (iblk m c 1 t),
      k0_pay3 (F := Ideal) (k0_pay1 (iblk m c 0 t) (iblk m c 1 t)) (iblk m c 3 t) (iblk m c 4 t) (k0_pay2 (F := Ideal)) (iblk m c 5 t)) := by
  rw [outsAt0_A m c t h (by omega)]
  frame_out

/-- The tile that the second point writes, from the kept rows and the accumulator. -/
theorem second (c : Dev nD) (t : Fin cfg0.N) (h : t.val % 2 = 1) (X : Vec Ideal S1024x1024 .bf16) (A : Vec Ideal S1024x1024 .f32)
    (hX : (outsAt0 m c (t.val - 1) (by have := t.isLt; omega)).2 = (X, A)) :
    (outsAt0 m c t.val t.isLt).1 = k0_pay4 (F := Ideal) (iblk m c 0 t) (k0_pay3 X (iblk m c 3 t) (iblk m c 4 t) A (iblk m c 5 t)) (iblk m c 2 t) := by
  rw [outsAt0_B m c t (by omega) h]
  frame_out
  rw [hX]
  dsimp only
  rw [read_unread_whole, read_unread_whole]

/-- Which block each window stages at a grid point. -/
theorem idx : ∀ t : Fin cfg0.N,
    win0_0.index t = ![t.val / 2, 0] ∧ win0_1.index t = ![0, 0] ∧ win0_2.index t = ![0, 0] ∧ win0_3.index t = ![0, t.val % 2]
    ∧ win0_4.index t = ![0, t.val % 2 + 2] ∧ win0_5.index t = ![t.val % 2, 0] ∧ win0_6.index t = ![t.val / 2, 0] :=
  (by decide +kernel : ∀ t : Fin grid0.N, _)

theorem covers : (cfg0.win 6).Covers := by decide +kernel

theorem rows_at (c : Dev nD) (t : Fin cfg0.N) (r k : Fin 1024) (R : Fin 32768) (hR : R.val = t.val / 2 * 1024 + r.val) :
    iblk m c 0 t (ix2 r k) = m ((c : Thread nD τ).loc main_arg0) (ix2 R k) := by
  blk_ext [iblk, V, idx t, hR]

theorem gain0_at (c : Dev nD) (t : Fin cfg0.N) (k : Fin 1024) :
    iblk m c 1 t (ix2 (0 : Fin 1) k) = m ((c : Thread nD τ).loc main_arg1) (ix1 k) := by
  blk_simp [iblk, idx t]
  entry_read
  pointwise
  blk_ext [idx t]

theorem gain1_at (c : Dev nD) (t : Fin cfg0.N) (k : Fin 1024) :
    iblk m c 2 t (ix2 (0 : Fin 1) k) = m ((c : Thread nD τ).loc main_arg2) (ix1 k) := by
  blk_simp [iblk, idx t]
  entry_read
  pointwise
  blk_ext [idx t]

theorem gate_at (c : Dev nD) (t : Fin cfg0.N) (k : Fin 1024) (f : Fin 1408) (F : Fin 5632) (hF : F.val = t.val % 2 * 1408 + f.val) :
    iblk m c 3 t (ix2 k f) = m ((c : Thread nD τ).loc main_arg3) (ix2 k F) := by
  blk_simp [iblk, idx t]
  entry_read
  pointwise
  blk_ext [idx t, hF]

theorem up_at (c : Dev nD) (t : Fin cfg0.N) (k : Fin 1024) (f : Fin 1408) (F : Fin 5632) (hF : F.val = (t.val % 2 + 2) * 1408 + f.val) :
    iblk m c 4 t (ix2 k f) = m ((c : Thread nD τ).loc main_arg3) (ix2 k F) := by
  blk_simp [iblk, idx t]
  entry_read
  pointwise
  blk_ext [idx t, hF]

theorem down_at (c : Dev nD) (t : Fin cfg0.N) (f : Fin 1408) (e : Fin 1024) (F : Fin 2816) (hF : F.val = t.val % 2 * 1408 + f.val) :
    iblk m c 5 t (ix2 f e) = m ((c : Thread nD τ).loc main_arg4) (ix2 F e) := by
  blk_simp [iblk, idx t]
  entry_read
  pointwise
  blk_ext [idx t, hF]

/-- The sublayer of the whole arrays at one row and feature. -/
def applied (x : FVec Ideal S32768x1024 .f32) (g0 g1 : FVec Ideal S1024 .f32) (w : FVec Ideal S1024x5632 .f32) (v : FVec Ideal S2816x1024 .f32)
    (R : Fin 32768) (d : Fin 1024) : EReal :=
  layer (fun k => x (ix2 R k)) (fun k => g0 (ix1 k)) (fun k => g1 (ix1 k)) (fun k f => w (ix2 k f)) (fun f e => v (ix2 f e)) d

/-- A tile's part of the product, read in the whole arrays at the tile's place. -/
theorem part_at (c : Dev nD) (t : Fin cfg0.N) (h : Fin 1024 → EReal) (e : Fin 1024) (F : Fin 1408 → Fin 5632) (G : Fin 1408 → Fin 5632) (H : Fin 1408 → Fin 2816)
    (hF : ∀ f, (F f).val = t.val % 2 * 1408 + f.val) (hG : ∀ f, (G f).val = (t.val % 2 + 2) * 1408 + f.val) (hH : ∀ f, (H f).val = t.val % 2 * 1408 + f.val) :
    part h (fun k f => iblk m c 3 t (ix2 k f)) (fun k f => iblk m c 4 t (ix2 k f)) (fun f e => iblk m c 5 t (ix2 f e)) e
      = part h (fun k f => m ((c : Thread nD τ).loc main_arg3) (ix2 k (F f))) (fun k f => m ((c : Thread nD τ).loc main_arg3) (ix2 k (G f)))
        (fun f e => m ((c : Thread nD τ).loc main_arg4) (ix2 (H f) e)) e := by
  rw [show (fun (k : Fin 1024) (f : Fin 1408) => (iblk m c 3 t (ix2 k f) : EReal)) = _ from funext fun k => funext fun f => gate_at m c t k f (F f) (hF f),
    show (fun (k : Fin 1024) (f : Fin 1408) => (iblk m c 4 t (ix2 k f) : EReal)) = _ from funext fun k => funext fun f => up_at m c t k f (G f) (hG f),
    show (fun (f : Fin 1408) (e : Fin 1024) => (iblk m c 5 t (ix2 f e) : EReal)) = _ from funext fun f => funext fun e => down_at m c t f e (H f) (hH f)]

/-- What the second point of a tile writes at (r, d) is the sublayer at that row and feature. -/
theorem point (c : Dev nD) (t : Fin cfg0.N) (h : t.val % 2 = 1) (r d : Fin 1024) (R : Fin 32768) (hR : R.val = t.val / 2 * 1024 + r.val) :
    (outsAt0 m c t.val t.isLt).1 (ix2 r d)
      = applied (m ((c : Thread nD τ).loc main_arg0)) (m ((c : Thread nD τ).loc main_arg1)) (m ((c : Thread nD τ).loc main_arg2))
        (m ((c : Thread nD τ).loc main_arg3)) (m ((c : Thread nD τ).loc main_arg4)) R d := by
  have hs : t.val - 1 < cfg0.N := by have := t.isLt; omega
  obtain ⟨s, hs1⟩ : ∃ s : Fin cfg0.N, s.val = t.val - 1 := ⟨⟨t.val - 1, hs⟩, rfl⟩
  have hs2 : s.val % 2 = 0 := by omega
  have hR' : R.val = s.val / 2 * 1024 + r.val := by omega
  have hX := first m c s hs2
  rw [second m c t h _ _ (by
    refine Eq.trans ?_ hX
    congr 2 <;> exact hs1.symm)]
  rw [pay_finish]
  unfold applied layer
  rw [show (fun k : Fin 1024 => (iblk m c 0 t (ix2 r k) : EReal)) = _ from funext fun k => rows_at m c t r k R hR,
    show (fun k : Fin 1024 => (iblk m c 2 t (ix2 (0 : Fin 1) k) : EReal)) = _ from funext fun k => gain1_at m c t k]
  refine congrFun (congrFun (congrArg (finish _) (funext fun e => ?_)) _) d
  rw [pay_part, pay_part, pay_zero, zero_add, inner_split]
  rw [show (fun k : Fin 1024 => k0_pay1 (F := Ideal) (iblk m c 0 s) (iblk m c 1 s) (ix2 r k)) = _ from funext fun k => pay_norm _ _ r k]
  rw [show (fun k : Fin 1024 => (iblk m c 0 s (ix2 r k) : EReal)) = _ from funext fun k => rows_at m c s r k R hR',
    show (fun k : Fin 1024 => (iblk m c 1 s (ix2 (0 : Fin 1) k) : EReal)) = _ from funext fun k => gain0_at m c s k]
  refine congrArg₂ (· + ·) ?_ ?_
  · exact part_at m c s _ e _ _ _ (fun f => by dsimp only; omega) (fun f => by dsimp only; omega) (fun f => by dsimp only; omega)
  · exact part_at m c t _ e _ _ _ (fun f => by dsimp only; omega) (fun f => by dsimp only; omega) (fun f => by dsimp only; omega)

/-- The result array after the run. -/
theorem final (c : Dev nD) :
    (dats m 0 c).arrAt 6 (cfgs 0).N = fun i : S32768x1024.Idx => applied (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) := by
  refine (dats m 0 c).arrAt_eq_of_covers 6 _ covers fun t hf y => ?_
  blk_simp
  rw [after0_6]
  obtain ⟨r, d, rfl⟩ : ∃ (r : Fin 1024) (d : Fin 1024), y = ix2 r d := ⟨y 0, y 1, by funext a; match a with | ⟨0, _⟩ => rfl | ⟨1, _⟩ => rfl⟩
  refine (point m c t ((flush0_6 t).mp hf) r d ((((cfg0.win 6).blk t).view.emb (ix2 r d)) 0) (by blk_simp [idx t])).trans ?_
  refine congrArg (applied _ _ _ _ _ _) (Fin.ext ?_)
  blk_simp [idx t]

end Cert.Ffn
-- ==== Proof.Ffn.Reference.lean ====
module

public import proofs.«01_k».proof.Proof.Gen.Reference2Ideal.Read
public import proofs.«01_k».proof.Proof.Ffn.Row

set_option maxRecDepth 16384

/-!
# What the feed-forward reference computes

Every row of the reference's result is `layer` of that row.
-/

@[expose] public section
noncomputable section
namespace Cert.Ffn.Ref
open Idealize.ShloMosaic Idealize.ShloMosaic.TcCoe Idealize.SL.Sem
open Cert.Reference2Ideal Cert.Reference2Ideal.Gen Cert.Reference2Ideal.Read

variable (x : FVec Ideal S32768x1024 .f32) (g0 g1 : FVec Ideal S1024 .f32) (w : FVec Ideal S1024x5632 .f32) (v : FVec Ideal S2816x1024 .f32)

theorem one_bits : Ideal.ofBits FTy.f32 0x3F800000#32 = 1 := by
  simp [Ideal.ofBits, Ideal.ieee]
  try (rw [← EReal.coe_mul]; norm_num)

/-- The normalised input. -/
theorem normed (r : Fin 32768) (d : Fin 1024) :
    val_main_v12 (F := Ideal) x g0 (ix2 r d) = rms (fun k => x (ix2 r k)) (fun k => g0 (ix1 k)) d := by
  unfold rms
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- The gate's activation. -/
theorem swish (r : Fin 32768) (f : Fin 2816) :
    val_main_v16 (F := Ideal) x g0 w (ix2 r f)
      = val_main_v14 (F := Ideal) x g0 w (ix2 r f) * Ideal.logistic (val_main_v14 (F := Ideal) x g0 w (ix2 r f)) := by
  unfold Ideal.logistic
  pointwise [val_main_v16, val_main_call0_v5, val_main_call0_v4, val_main_call0_v3, val_main_call0_v2, val_main_call0_v1, val_main_call0_v0,
    val_main_call0_cst, val_main_call0_cst_0]

/-- One activation. -/
theorem activation (r : Fin 32768) (f : Fin 2816) :
    val_main_v17 (F := Ideal) x g0 w (ix2 r f)
      = gated (rms (fun k => x (ix2 r k)) (fun k => g0 (ix1 k))) (fun k => w (ix2 k ⟨f.val, by omega⟩)) (fun k => w (ix2 k ⟨2816 + f.val, by omega⟩)) := by
  unfold gated
  have e : val_main_v17 (F := Ideal) x g0 w (ix2 r f) = val_main_v16 (F := Ideal) x g0 w (ix2 r f) * val_main_v15 (F := Ideal) x g0 w (ix2 r f) := rfl
  rw [e, swish]
  pointwise [val_main_v15, val_main_v14, val_main_v13]
  simp only [normed]
  try rfl

/-- The product with the down projection. -/
theorem down (r : Fin 32768) (e : Fin 1024) :
    val_main_v18 (F := Ideal) x g0 w v (ix2 r e)
      = inner (rms (fun k => x (ix2 r k)) (fun k => g0 (ix1 k))) (fun k f => w (ix2 k f)) (fun f e => v (ix2 f e)) e := by
  unfold inner
  pointwise [val_main_v18]
  simp only [activation]
  try rfl

/-- The result. -/
theorem result (r : Fin 32768) (d : Fin 1024) :
    val_main_v34 (F := Ideal) x g0 g1 w v (ix2 r d)
      = layer (fun k => x (ix2 r k)) (fun k => g0 (ix1 k)) (fun k => g1 (ix1 k)) (fun k f => w (ix2 k f)) (fun f e => v (ix2 f e)) d := by
  unfold layer finish
  rw [show inner (rms (fun k => x (ix2 r k)) (fun k => g0 (ix1 k))) (fun k f => w (ix2 k f)) (fun f e => v (ix2 f e))
    = fun e => val_main_v18 (F := Ideal) x g0 w v (ix2 r e) from funext fun e => (down x g0 w v r e).symm]
  unfold rms
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_cst_2, val_main_cst_3,
    val_main_cst_4, val_main_cst_5]

end Cert.Ffn.Ref
-- ==== Proof.Ffn.Claims.lean ====
module

public import proofs.«01_k».proof.Defs
public import proofs.«01_k».proof.Proof.Ffn.Kernel
public import proofs.«01_k».proof.Proof.Ffn.Reference
public import proofs.«01_k».proof.Proof.Gen.Kernel2.Frame
public import Idealize.ShloMosaic.Lib.Quiescent

set_option maxRecDepth 16384

/-!
# The feed-forward sublayer's claims

Kernel and reference were each shown to compute `layer` of a row of the residual stream; here the two meet.
-/

@[expose] public section
noncomputable section
namespace Cert.Ffn
open Idealize.ShloMosaic Idealize.ShloMosaic.TcCoe Idealize.SL.Sem

/-- The kernel runs and keeps its arguments. -/
theorem frame_p : Cert.quiescent_Kernel2 (hKernel2 := Cert.Kernel2.Gen.facts) := fun m ρ _ => Cert.Kernel2.Gen.frame m ρ

theorem frame_pi : Cert.quiescent_Kernel2Ideal (hKernel2Ideal := Cert.Kernel2Ideal.Gen.facts) := fun m ρ _ => Cert.Kernel2Ideal.Gen.frame m ρ

theorem frame_ri : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- No constant is renamed here. -/
theorem preserves : Cert.preserves_Kernel2_Kernel2Ideal := trivial

/-- The kernel's result is the reference's, for any arguments. -/
theorem algebraic : Cert.algebraic_Kernel2Ideal_Reference2Ideal (hKernel2Ideal := Cert.Kernel2Ideal.Gen.facts)
    (hReference2Ideal := Cert.Reference2Ideal.Gen.facts) := by
  intro m ρ m' ρ' hpre hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  obtain ⟨h0, h1, h2, h3, h4⟩ := hagree c
  rw [Cert.Reference2Ideal.Read.val_main_v34_eq, h0, h1, h2, h3, h4]
  refine ((final m c).trans ?_).symm
  funext i
  obtain ⟨r, d, rfl⟩ : ∃ (r : Fin 32768) (d : Fin 1024), i = ix2 r d := ⟨i 0, i 1, by funext a; match a with | ⟨0, _⟩ => rfl | ⟨1, _⟩ => rfl⟩
  exact (Ref.result _ _ _ _ _ r d).symm

end Cert.Ffn
-- ==== Proof.Mem.Reference.lean ====
module

public import proofs.«01_k».proof.Proof.Gen.Reference3Ideal.Read
public import proofs.«01_k».proof.Proof.Ffn.Row

set_option maxRecDepth 16384

/-!
# What the memory's reference computes

Every row of the memory, divided by its root mean square, times the columns of the key projection (the result's first 512
columns) and of the value projection (the other 512).
-/

@[expose] public section
noncomputable section
namespace Cert.Mem
open Idealize.ShloMosaic Idealize.ShloMosaic.TcCoe Idealize.SL.Sem

/-- One column of the two projections put side by side. -/
def column (wk wv : Fin 1024 → Fin 512 → EReal) (k C : Fin 1024) : EReal :=
  if h : C.val < 512 then wk k ⟨C.val, h⟩ else wv k ⟨C.val - 512, by omega⟩

/-- A normalised row times one column of the two projections. -/
def projected (x g : Fin 1024 → EReal) (wk wv : Fin 1024 → Fin 512 → EReal) (C : Fin 1024) : EReal :=
  ∑ k, Ffn.rms x g k * column wk wv k C

namespace Ref
open Cert.Reference3Ideal Cert.Reference3Ideal.Gen Cert.Reference3Ideal.Read

variable (x : FVec Ideal S8x256x1024 .f32) (g : FVec Ideal S1024 .f32) (wk wv : FVec Ideal S1024x512 .f32)

/-- The normalised memory. -/
theorem normed (b : Fin 8) (r : Fin 256) (d : Fin 1024) :
    val_main_v12 (F := Ideal) x g (ix3 b r d) = Ffn.rms (fun k => x (ix3 b r k)) (fun k => g (ix1 k)) d := by
  unfold Ffn.rms
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- The result at one row and column. -/
theorem result (R : Fin 2048) (C : Fin 1024) :
    val_main_v16 (F := Ideal) x g wk wv (ix2 R C)
      = projected (fun k => x (ix3 ⟨R.val / 256, by omega⟩ ⟨R.val % 256, by omega⟩ k)) (fun k => g (ix1 k)) (fun k c => wk (ix2 k c)) (fun k c => wv (ix2 k c)) C := by
  unfold projected column
  pointwise [val_main_v16, val_main_v15, val_main_v14, val_main_v13]
  simp only [normed]
  by_cases h : C.val < 512
  · simp only [dif_pos h]
  · simp only [dif_neg h]

end Ref
end Cert.Mem
-- ==== Proof.Mem.Kernel.lean ====
module

public import proofs.«01_k».proof.Proof.Gen.Kernel3Ideal.Value
public import proofs.«01_k».proof.Proof.Mem.Reference
public import Idealize.ShloMosaic.Lib.Pipeline.ReadBack

set_option maxRecDepth 16384

/-!
# What the memory's kernel computes

The grid has two points per tile of 512 rows. The first normalises the rows, keeps them and writes the keys' 512 columns; the
second takes the kept rows and writes the values' 512 columns.
-/

@[expose] public section
noncomputable section
namespace Cert.Mem
open Idealize.ShloMosaic Idealize.ShloMosaic.TcCoe Idealize.SL.Sem
open Cert.Kernel3Ideal Cert.Kernel3Ideal.Gen

/-- The rows kept for both points. -/
theorem pay_norm (x : FVec Ideal S512x1024 .f32) (g : FVec Ideal S1x1024 .f32) (r : Fin 512) (d : Fin 1024) :
    k0_pay1 (F := Ideal) x g (ix2 r d) = Ffn.rms (fun k => x (ix2 r k)) (fun k => g (ix2 0 k)) d := by
  unfold Ffn.rms
  pointwise [k0_pay1]

/-- The product that a point writes. -/
theorem pay_product (h : FVec Ideal S512x1024 .bf16) (w : FVec Ideal S1024x512 .bf16) (r e : Fin 512) :
    k0_pay2 (F := Ideal) h w (ix2 r e) = ∑ k : Fin 1024, h (ix2 r k) * w (ix2 k e) := by
  pointwise [k0_pay2]

variable (m : (ℓ : Loc nD τ sig) → Buf (Elt Ideal) ℓ)

/-- What the first point of a tile leaves: its block of the result, and the kept rows. -/
theorem first (c : Dev nD) (t : Fin cfg0.N) (h : t.val % 2 = 0) :
    outsAt0 m c t.val t.isLt = (k0_pay2 (F := Ideal) (k0_pay1 (iblk m c 0 t) (iblk m c 1 t)) (iblk m c 2 t), k0_pay1 (F := Ideal) (iblk m c 0 t) (iblk m c 1 t)) := by
  rw [outsAt0_A m c t h]
  frame_out

/-- What the second point of a tile writes, from the kept rows. -/
theorem second (c : Dev nD) (t : Fin cfg0.N) (h : t.val % 2 = 1) (X : Vec Ideal S512x1024 .bf16)
    (hX : (outsAt0 m c (t.val - 1) (by have := t.isLt; omega)).2 = X) :
    (outsAt0 m c t.val t.isLt).1 = k0_pay2 (F := Ideal) X (iblk m c 2 t) := by
  rw [outsAt0_B m c t (by omega)]
  frame_out
  rw [hX, read_unread_whole]

/-- Which block each window stages at a grid point. -/
theorem idx : ∀ t : Fin cfg0.N,
    win0_0.index t = ![t.val / 2, 0] ∧ win0_1.index t = ![0, 0] ∧ win0_2.index t = ![0, t.val % 2] ∧ win0_3.index t = ![t.val / 2, t.val % 2] :=
  (by decide +kernel : ∀ t : Fin grid0.N, _)

theorem covers : (cfg0.win 3).Covers := by decide +kernel

theorem rows_at (c : Dev nD) (t : Fin cfg0.N) (r : Fin 512) (k : Fin 1024) (R : Fin 2048) (hR : R.val = t.val / 2 * 512 + r.val) :
    iblk m c 0 t (ix2 r k) = m ((c : Thread nD τ).loc main_arg0) (ix3 ⟨R.val / 256, by omega⟩ ⟨R.val % 256, by omega⟩ k) := by
  blk_simp [iblk, idx t]
  entry_read
  pointwise
  blk_ext [idx t, hR]

theorem gain_at (c : Dev nD) (t : Fin cfg0.N) (k : Fin 1024) :
    iblk m c 1 t (ix2 (0 : Fin 1) k) = m ((c : Thread nD τ).loc main_arg1) (ix1 k) := by
  blk_simp [iblk, idx t]
  entry_read
  pointwise
  blk_ext [idx t]

theorem column_at (c : Dev nD) (t : Fin cfg0.N) (k : Fin 1024) (e : Fin 512) (C : Fin 1024) (hC : C.val = t.val % 2 * 512 + e.val) :
    iblk m c 2 t (ix2 k e) = column (fun k c' => m ((c : Thread nD τ).loc main_arg2) (ix2 k c')) (fun k c' => m ((c : Thread nD τ).loc main_arg3) (ix2 k c')) k C := by
  blk_simp [iblk, idx t]
  entry_read
  pointwise
  refine Eq.trans (b := column _ _ (((View.whole main_v1).slice (win0_2.rect t)).emb (ix2 k e) 0) (((View.whole main_v1).slice (win0_2.rect t)).emb (ix2 k e) 1))
    rfl (congrArg₂ (column _ _) (Fin.ext ?_) (Fin.ext ?_))
  · blk_simp [idx t]
  · blk_simp [idx t]
    omega

/-- The projections of the whole arrays at one row and column. -/
def applied (x : FVec Ideal S8x256x1024 .f32) (g : FVec Ideal S1024 .f32) (wk wv : FVec Ideal S1024x512 .f32) (R : Fin 2048) (C : Fin 1024) : EReal :=
  projected (fun k => x (ix3 ⟨R.val / 256, by omega⟩ ⟨R.val % 256, by omega⟩ k)) (fun k => g (ix1 k)) (fun k c => wk (ix2 k c)) (fun k c => wv (ix2 k c)) C

/-- Normalised rows kept at the point s, times the columns staged at the point t. -/
theorem product_at (c : Dev nD) (s t : Fin cfg0.N) (hst : s.val / 2 = t.val / 2) (r e : Fin 512) (R : Fin 2048) (C : Fin 1024)
    (hR : R.val = t.val / 2 * 512 + r.val) (hC : C.val = t.val % 2 * 512 + e.val) :
    k0_pay2 (F := Ideal) (k0_pay1 (iblk m c 0 s) (iblk m c 1 s)) (iblk m c 2 t) (ix2 r e)
      = applied (m ((c : Thread nD τ).loc main_arg0)) (m ((c : Thread nD τ).loc main_arg1)) (m ((c : Thread nD τ).loc main_arg2)) (m ((c : Thread nD τ).loc main_arg3)) R C := by
  rw [pay_product]
  unfold applied projected
  refine Finset.sum_congr rfl fun k _ => ?_
  rw [pay_norm, column_at m c t k e C hC]
  rw [show (fun k : Fin 1024 => (iblk m c 0 s (ix2 r k) : EReal)) = _ from funext fun k => rows_at m c s r k R (by omega),
    show (fun k : Fin 1024 => (iblk m c 1 s (ix2 (0 : Fin 1) k) : EReal)) = _ from funext fun k => gain_at m c s k]

/-- What a point writes at (r, e). -/
theorem point (c : Dev nD) (t : Fin cfg0.N) (r e : Fin 512) (R : Fin 2048) (C : Fin 1024)
    (hR : R.val = t.val / 2 * 512 + r.val) (hC : C.val = t.val % 2 * 512 + e.val) :
    (outsAt0 m c t.val t.isLt).1 (ix2 r e)
      = applied (m ((c : Thread nD τ).loc main_arg0)) (m ((c : Thread nD τ).loc main_arg1)) (m ((c : Thread nD τ).loc main_arg2)) (m ((c : Thread nD τ).loc main_arg3)) R C := by
  by_cases h : t.val % 2 = 0
  · rw [first m c t h]
    exact product_at m c t t rfl r e R C hR hC
  · have hs : t.val - 1 < cfg0.N := by have := t.isLt; omega
    obtain ⟨s, hs1⟩ : ∃ s : Fin cfg0.N, s.val = t.val - 1 := ⟨⟨t.val - 1, hs⟩, rfl⟩
    have hX := congrArg Prod.snd (first m c s (by omega))
    rw [second m c t (by omega) _ (by
      refine Eq.trans ?_ hX
      congr 2
      exact hs1.symm)]
    exact product_at m c s t (by omega) r e R C hR hC

/-- The result array after the run. -/
theorem final (c : Dev nD) :
    (dats m 0 c).arrAt 3 (cfgs 0).N = fun i : S2048x1024.Idx => applied (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 3 _ covers fun t hf y => ?_
  blk_simp
  rw [after0_3]
  obtain ⟨r, e, rfl⟩ : ∃ (r : Fin 512) (e : Fin 512), y = ix2 r e := ⟨y 0, y 1, by funext a; match a with | ⟨0, _⟩ => rfl | ⟨1, _⟩ => rfl⟩
  exact point m c t r e _ _ (by blk_simp [idx t]) (by blk_simp [idx t])

end Cert.Mem
-- ==== Proof.Mem.Claims.lean ====
module

public import proofs.«01_k».proof.Defs
public import proofs.«01_k».proof.Proof.Mem.Kernel
public import proofs.«01_k».proof.Proof.Mem.Reference
public import proofs.«01_k».proof.Proof.Gen.Kernel3.Frame
public import Idealize.ShloMosaic.Lib.Quiescent

set_option maxRecDepth 16384

/-!
# The claims about the memory's keys and values

Kernel and reference were each shown to compute `projected` of a row of the memory; here the two meet.
-/

@[expose] public section
noncomputable section
namespace Cert.Mem
open Idealize.ShloMosaic Idealize.ShloMosaic.TcCoe Idealize.SL.Sem

/-- The kernel runs and keeps its arguments. -/
theorem frame_p : Cert.quiescent_Kernel3 (hKernel3 := Cert.Kernel3.Gen.facts) := fun m ρ _ => Cert.Kernel3.Gen.frame m ρ

theorem frame_pi : Cert.quiescent_Kernel3Ideal (hKernel3Ideal := Cert.Kernel3Ideal.Gen.facts) := fun m ρ _ => Cert.Kernel3Ideal.Gen.frame m ρ

theorem frame_ri : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- No constant is renamed here. -/
theorem preserves : Cert.preserves_Kernel3_Kernel3Ideal := trivial

/-- The kernel's result is the reference's, for any arguments. -/
theorem algebraic : Cert.algebraic_Kernel3Ideal_Reference3Ideal (hKernel3Ideal := Cert.Kernel3Ideal.Gen.facts)
    (hReference3Ideal := Cert.Reference3Ideal.Gen.facts) := by
  intro m ρ m' ρ' hpre hagree
  refine ⟨_, Cert.Kernel3Ideal.Value.run_blocks (F := Ideal) m ρ, ?_⟩
  refine (θ_run Cert.Reference3Ideal.defs _ _).mono (fun _ h c => ⟨(h c).1.trans ?_, (h c).2⟩) (Cert.Reference3Ideal.Value.run (F := Ideal) m' ρ')
  obtain ⟨h0, h1, h2, h3⟩ := hagree c
  rw [Cert.Reference3Ideal.Read.val_main_v16_eq, h0, h1, h2, h3]
  refine ((final m c).trans ?_).symm
  funext i
  obtain ⟨r, d, rfl⟩ : ∃ (r : Fin 2048) (d : Fin 1024), i = ix2 r d := ⟨i 0, i 1, by funext a; match a with | ⟨0, _⟩ => rfl | ⟨1, _⟩ => rfl⟩
  exact (Ref.result _ _ _ _ r d).symm

end Cert.Mem
-- ==== Proof.Out.Reference.lean ====
module

public import proofs.«01_k».proof.Proof.Gen.Reference4Ideal.Read
public import proofs.«01_k».proof.Proof.Ffn.Row

set_option maxRecDepth 16384

/-!
# What the output projection's reference computes

A row of attention outputs times the output weights, normalised and added to the row of the residual stream.
-/

@[expose] public section
noncomputable section
namespace Cert.Out
open Idealize.ShloMosaic Idealize.ShloMosaic.TcCoe Idealize.SL.Sem

/-- The row plus the normalised projection of the attention's outputs. -/
def added (a : Fin 1024 → EReal) (w : Fin 1024 → Fin 1024 → EReal) (x g : Fin 1024 → EReal) (d : Fin 1024) : EReal :=
  x d + Ffn.rms (fun e => ∑ k, a k * w k e) g d

/-- The same of whole arrays, at one row and column. -/
def applied (a : FVec Ideal ⟨2, ![32768, 1024]⟩ .bf16) (w : FVec Ideal ⟨2, ![1024, 1024]⟩ .f32) (x : FVec Ideal ⟨2, ![32768, 1024]⟩ .f32) (g : FVec Ideal ⟨1, ![1024]⟩ .f32)
    (R : Fin 32768) (d : Fin 1024) : EReal :=
  added (fun k => a (ix2 R k)) (fun k e => w (ix2 k e)) (fun k => x (ix2 R k)) (fun k => g (ix1 k)) d

namespace Ref
open Cert.Reference4Ideal Cert.Reference4Ideal.Gen Cert.Reference4Ideal.Read

/-- The result at one row and column. -/
theorem result (a : FVec Ideal S32768x1024 .bf16) (w : FVec Ideal S1024x1024 .f32) (x : FVec Ideal S32768x1024 .f32) (g : FVec Ideal S1024 .f32)
    (R : Fin 32768) (d : Fin 1024) : val_main_v15 (F := Ideal) a w x g (ix2 R d) = applied a w x g R d := by
  unfold applied added Ffn.rms
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Ref
end Cert.Out
-- ==== Proof.Out.Kernel.lean ====
module

public import proofs.«01_k».proof.Proof.Gen.Kernel4Ideal.Value
public import proofs.«01_k».proof.Proof.Out.Reference
public import Idealize.ShloMosaic.Lib.Pipeline.ReadBack

set_option maxRecDepth 16384

/-!
# What the output projection's kernel computes

A grid point takes 512 rows: the product with the whole weights, the norm of every row and the sum.
-/

@[expose] public section
noncomputable section
namespace Cert.Out
open Idealize.ShloMosaic Idealize.ShloMosaic.TcCoe Idealize.SL.Sem
open Cert.Kernel4Ideal Cert.Kernel4Ideal.Gen

/-- What a grid point writes. -/
theorem pay (a : FVec Ideal S512x1024 .bf16) (w : FVec Ideal S1024x1024 .bf16) (x : FVec Ideal S512x1024 .f32) (g : FVec Ideal S1x1024 .f32) (r : Fin 512) (d : Fin 1024) :
    k0_pay1 (F := Ideal) a w x g (ix2 r d) = added (fun k => a (ix2 r k)) (fun k e => w (ix2 k e)) (fun k => x (ix2 r k)) (fun k => g (ix2 0 k)) d := by
  unfold added Ffn.rms
  pointwise [k0_pay1]

variable (m : (ℓ : Loc nD τ sig) → Buf (Elt Ideal) ℓ)

/-- One store fills the block. -/
theorem stored (a : FVec Ideal S512x1024 .bf16) (w : FVec Ideal S1024x1024 .bf16) (x : FVec Ideal S512x1024 .f32) (g : FVec Ideal S1x1024 .f32) :
    out0_4 (F := Ideal) a w x g = k0_pay1 (F := Ideal) a w x g := by
  frame_out

/-- Which block each window stages at a grid point. -/
theorem idx : ∀ t : Fin cfg0.N,
    win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

theorem covers : (cfg0.win 4).Covers := by decide +kernel

theorem outputs_at (c : Dev nD) (t : Fin cfg0.N) (r : Fin 512) (k : Fin 1024) (R : Fin 32768) (hR : R.val = t.val * 512 + r.val) :
    iblk m c 0 t (ix2 r k) = m ((c : Thread nD τ).loc main_arg0) (ix2 R k) := by
  blk_ext [iblk, V, idx t, hR]

theorem weights_at (c : Dev nD) (t : Fin cfg0.N) (k e : Fin 1024) :
    iblk m c 1 t (ix2 k e) = m ((c : Thread nD τ).loc main_arg1) (ix2 k e) := by
  blk_simp [iblk, idx t]
  entry_read
  pointwise
  blk_ext [idx t]

theorem rows_at (c : Dev nD) (t : Fin cfg0.N) (r : Fin 512) (k : Fin 1024) (R : Fin 32768) (hR : R.val = t.val * 512 + r.val) :
    iblk m c 2 t (ix2 r k) = m ((c : Thread nD τ).loc main_arg2) (ix2 R k) := by
  blk_ext [iblk, V, idx t, hR]

theorem gain_at (c : Dev nD) (t : Fin cfg0.N) (k : Fin 1024) :
    iblk m c 3 t (ix2 (0 : Fin 1) k) = m ((c : Thread nD τ).loc main_arg3) (ix1 k) := by
  blk_simp [iblk, idx t]
  entry_read
  pointwise
  blk_ext [idx t]

/-- What a grid point writes, of the whole arrays. -/
theorem point (c : Dev nD) (t : Fin cfg0.N) (r : Fin 512) (d : Fin 1024) (R : Fin 32768) (hR : R.val = t.val * 512 + r.val) :
    out0_4 (iblk m c 0 t) (iblk m c 1 t) (iblk m c 2 t) (iblk m c 3 t) (ix2 r d)
      = applied (m ((c : Thread nD τ).loc main_arg0)) (m ((c : Thread nD τ).loc main_arg1)) (m ((c : Thread nD τ).loc main_arg2)) (m ((c : Thread nD τ).loc main_arg3)) R d := by
  rw [stored, pay]
  unfold applied
  rw [show (fun k : Fin 1024 => (iblk m c 0 t (ix2 r k) : EReal)) = _ from funext fun k => outputs_at m c t r k R hR,
    show (fun k e : Fin 1024 => (iblk m c 1 t (ix2 k e) : EReal)) = _ from funext fun k => funext fun e => weights_at m c t k e,
    show (fun k : Fin 1024 => (iblk m c 2 t (ix2 r k) : EReal)) = _ from funext fun k => rows_at m c t r k R hR,
    show (fun k : Fin 1024 => (iblk m c 3 t (ix2 (0 : Fin 1) k) : EReal)) = _ from funext fun k => gain_at m c t k]

/-- The result array after the run. -/
theorem final (c : Dev nD) :
    (dats m 0 c).arrAt 4 (cfgs 0).N = fun i : S32768x1024.Idx => applied (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ covers fun t hf y => ?_
  blk_simp
  rw [after0_4]
  obtain ⟨r, e, rfl⟩ : ∃ (r : Fin 512) (e : Fin 1024), y = ix2 r e := ⟨y 0, y 1, by funext a; match a with | ⟨0, _⟩ => rfl | ⟨1, _⟩ => rfl⟩
  refine (point m c t r e ((((cfg0.win 4).blk t).view.emb (ix2 r e)) 0) (by blk_simp [idx t])).trans ?_
  refine congrArg (applied _ _ _ _ _) (Fin.ext ?_)
  blk_simp [idx t]

end Cert.Out
-- ==== Proof.Out.Claims.lean ====
module

public import proofs.«01_k».proof.Defs
public import proofs.«01_k».proof.Proof.Out.Kernel
public import proofs.«01_k».proof.Proof.Out.Reference
public import proofs.«01_k».proof.Proof.Gen.Kernel4.Frame
public import proofs.«01_k».proof.Proof.Gen.Reference4Ideal.Run
public import Idealize.ShloMosaic.Lib.Quiescent

set_option maxRecDepth 16384

/-!
# The output projection's claims

Kernel and reference were each shown to compute `applied` of the arguments; here the two meet.
-/

@[expose] public section
noncomputable section
namespace Cert.Out
open Idealize.ShloMosaic Idealize.ShloMosaic.TcCoe Idealize.SL.Sem

/-- The kernel runs and keeps its arguments. -/
theorem frame_p : Cert.quiescent_Kernel4 (hKernel4 := Cert.Kernel4.Gen.facts) := fun m ρ _ => Cert.Kernel4.Gen.frame m ρ

theorem frame_pi : Cert.quiescent_Kernel4Ideal (hKernel4Ideal := Cert.Kernel4Ideal.Gen.facts) := fun m ρ _ => Cert.Kernel4Ideal.Gen.frame m ρ

theorem frame_ri : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- No constant is renamed here. -/
theorem preserves : Cert.preserves_Kernel4_Kernel4Ideal := trivial

/-- The kernel's result is the reference's, for any arguments. -/
theorem algebraic : Cert.algebraic_Kernel4Ideal_Reference4Ideal (hKernel4Ideal := Cert.Kernel4Ideal.Gen.facts)
    (hReference4Ideal := Cert.Reference4Ideal.Gen.facts) := by
  intro m ρ m' ρ' hpre hagree
  refine ⟨_, Cert.Kernel4Ideal.Value.run_blocks (F := Ideal) m ρ, ?_⟩
  refine (θ_run Cert.Reference4Ideal.defs _ _).mono (fun _ h c => ⟨(h c).1.trans ?_, (h c).2⟩) (Cert.Reference4Ideal.Value.run (F := Ideal) m' ρ')
  obtain ⟨h0, h1, h2, h3⟩ := hagree c
  rw [Cert.Reference4Ideal.Read.val_main_v15_eq, h0, h1, h2, h3]
  refine ((final m c).trans ?_).symm
  funext i
  obtain ⟨r, d, rfl⟩ : ∃ (r : Fin 32768) (d : Fin 1024), i = ix2 r d := ⟨i 0, i 1, by funext a; match a with | ⟨0, _⟩ => rfl | ⟨1, _⟩ => rfl⟩
  exact (Ref.result _ _ _ _ r d).symm

end Cert.Out
-- ==== Proof.Query.Reference.lean ====
module

public import proofs.«01_k».proof.Proof.Gen.Reference5Ideal.Read
public import proofs.«01_k».proof.Proof.Ffn.Row

set_option maxRecDepth 16384

/-!
# What the reference of the memory's queries computes

A row divided by its root mean square, times the query projection.
-/

@[expose] public section
noncomputable section
namespace Cert.Query
open Idealize.ShloMosaic Idealize.ShloMosaic.TcCoe Idealize.SL.Sem

/-- The projection of whole arrays at one row and column. -/
def applied (x : FVec Ideal ⟨2, ![32768, 1024]⟩ .f32) (g : FVec Ideal ⟨1, ![1024]⟩ .f32) (w : FVec Ideal ⟨2, ![1024, 512]⟩ .f32) (R : Fin 32768) (C : Fin 512) : EReal :=
  ∑ k : Fin 1024, Ffn.rms (fun k => x (ix2 R k)) (fun k => g (ix1 k)) k * w (ix2 k C)

namespace Ref
open Cert.Reference5Ideal Cert.Reference5Ideal.Gen Cert.Reference5Ideal.Read

/-- The result at one row and column. -/
theorem result (x : FVec Ideal S32768x1024 .f32) (g : FVec Ideal S1024 .f32) (w : FVec Ideal S1024x512 .f32) (R : Fin 32768) (C : Fin 512) :
    val_main_v14 (F := Ideal) x g w (ix2 R C) = applied x g w R C := by
  unfold applied Ffn.rms
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Ref
end Cert.Query
-- ==== Proof.Query.Kernel.lean ====
module

public import proofs.«01_k».proof.Proof.Gen.Kernel5Ideal.Value
public import proofs.«01_k».proof.Proof.Query.Reference
public import Idealize.ShloMosaic.Lib.Pipeline.ReadBack

set_option maxRecDepth 16384

/-!
# What the kernel of the memory's queries computes

A grid point normalises 512 rows and multiplies them with the whole projection.
-/

@[expose] public section
noncomputable section
namespace Cert.Query
open Idealize.ShloMosaic Idealize.ShloMosaic.TcCoe Idealize.SL.Sem
open Cert.Kernel5Ideal Cert.Kernel5Ideal.Gen

/-- The normalised rows. -/
theorem pay_norm (x : FVec Ideal S512x1024 .f32) (g : FVec Ideal S1x1024 .f32) (r : Fin 512) (d : Fin 1024) :
    k0_pay1 (F := Ideal) x g (ix2 r d) = Ffn.rms (fun k => x (ix2 r k)) (fun k => g (ix2 0 k)) d := by
  unfold Ffn.rms
  pointwise [k0_pay1]

/-- The product. -/
theorem pay_product (h : FVec Ideal S512x1024 .bf16) (w : FVec Ideal S1024x512 .bf16) (r e : Fin 512) :
    k0_pay2 (F := Ideal) h w (ix2 r e) = ∑ k : Fin 1024, h (ix2 r k) * w (ix2 k e) := by
  pointwise [k0_pay2]

variable (m : (ℓ : Loc nD τ sig) → Buf (Elt Ideal) ℓ)

/-- What a grid point leaves. -/
theorem left (c : Dev nD) (t : Fin cfg0.N) :
    outsAt0 m c t = k0_pay2 (F := Ideal) (k0_pay1 (iblk m c 0 t) (iblk m c 1 t)) (iblk m c 2 t) := by
  unfold outsAt0
  frame_out

/-- Which block each window stages at a grid point. -/
theorem idx : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

theorem covers : (cfg0.win 3).Covers := by decide +kernel

theorem rows_at (c : Dev nD) (t : Fin cfg0.N) (r : Fin 512) (k : Fin 1024) (R : Fin 32768) (hR : R.val = t.val * 512 + r.val) :
    iblk m c 0 t (ix2 r k) = m ((c : Thread nD τ).loc main_arg0) (ix2 R k) := by
  blk_ext [iblk, V, idx t, hR]

theorem gain_at (c : Dev nD) (t : Fin cfg0.N) (k : Fin 1024) :
    iblk m c 1 t (ix2 (0 : Fin 1) k) = m ((c : Thread nD τ).loc main_arg1) (ix1 k) := by
  blk_simp [iblk, idx t]
  entry_read
  pointwise
  blk_ext [idx t]

theorem weights_at (c : Dev nD) (t : Fin cfg0.N) (k : Fin 1024) (e : Fin 512) :
    iblk m c 2 t (ix2 k e) = m ((c : Thread nD τ).loc main_arg2) (ix2 k e) := by
  blk_simp [iblk, idx t]
  entry_read
  pointwise
  blk_ext [idx t]

/-- What a grid point writes, of the whole arrays. -/
theorem point (c : Dev nD) (t : Fin cfg0.N) (r e : Fin 512) (R : Fin 32768) (hR : R.val = t.val * 512 + r.val) :
    outsAt0 m c t (ix2 r e)
      = applied (m ((c : Thread nD τ).loc main_arg0)) (m ((c : Thread nD τ).loc main_arg1)) (m ((c : Thread nD τ).loc main_arg2)) R e := by
  rw [left, pay_product]
  unfold applied
  refine Finset.sum_congr rfl fun k _ => ?_
  rw [pay_norm, weights_at m c t k e]
  rw [show (fun k : Fin 1024 => (iblk m c 0 t (ix2 r k) : EReal)) = _ from funext fun k => rows_at m c t r k R hR,
    show (fun k : Fin 1024 => (iblk m c 1 t (ix2 (0 : Fin 1) k) : EReal)) = _ from funext fun k => gain_at m c t k]

/-- The result array after the run. -/
theorem final (c : Dev nD) :
    (dats m 0 c).arrAt 3 (cfgs 0).N = fun i : S32768x512.Idx => applied (m ((c : Thread nD τ).loc main_arg0)) (m ((c : Thread nD τ).loc main_arg1))
      (m ((c : Thread nD τ).loc main_arg2)) (i 0) (i 1) := by
  refine (dats m 0 c).arrAt_eq_of_covers 3 _ covers fun t hf y => ?_
  blk_simp
  rw [after0_3]
  obtain ⟨r, e, rfl⟩ : ∃ (r : Fin 512) (e : Fin 512), y = ix2 r e := ⟨y 0, y 1, by funext a; match a with | ⟨0, _⟩ => rfl | ⟨1, _⟩ => rfl⟩
  refine (point m c t r e ((((cfg0.win 3).blk t).view.emb (ix2 r e)) 0) (by blk_simp [idx t])).trans ?_
  refine congrArg (applied _ _ _ _) (Fin.ext ?_)
  blk_simp [idx t]

end Cert.Query
-- ==== Proof.Query.Claims.lean ====
module

public import proofs.«01_k».proof.Defs
public import proofs.«01_k».proof.Proof.Query.Kernel
public import proofs.«01_k».proof.Proof.Query.Reference
public import proofs.«01_k».proof.Proof.Gen.Kernel5.Frame
public import proofs.«01_k».proof.Proof.Gen.Reference5Ideal.Run
public import Idealize.ShloMosaic.Lib.Quiescent

set_option maxRecDepth 16384

/-!
# The claims about the memory's queries

Kernel and reference were each shown to compute `applied` of the arguments; here the two meet.
-/

@[expose] public section
noncomputable section
namespace Cert.Query
open Idealize.ShloMosaic Idealize.ShloMosaic.TcCoe Idealize.SL.Sem

/-- The kernel runs and keeps its arguments. -/
theorem frame_p : Cert.quiescent_Kernel5 (hKernel5 := Cert.Kernel5.Gen.facts) := fun m ρ _ => Cert.Kernel5.Gen.frame m ρ

theorem frame_pi : Cert.quiescent_Kernel5Ideal (hKernel5Ideal := Cert.Kernel5Ideal.Gen.facts) := fun m ρ _ => Cert.Kernel5Ideal.Gen.frame m ρ

theorem frame_ri : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- No constant is renamed here. -/
theorem preserves : Cert.preserves_Kernel5_Kernel5Ideal := trivial

/-- The kernel's result is the reference's, for any arguments. -/
theorem algebraic : Cert.algebraic_Kernel5Ideal_Reference5Ideal (hKernel5Ideal := Cert.Kernel5Ideal.Gen.facts)
    (hReference5Ideal := Cert.Reference5Ideal.Gen.facts) := by
  intro m ρ m' ρ' hpre hagree
  refine ⟨_, Cert.Kernel5Ideal.Value.run_blocks (F := Ideal) m ρ, ?_⟩
  refine (θ_run Cert.Reference5Ideal.defs _ _).mono (fun _ h c => ⟨(h c).1.trans ?_, (h c).2⟩) (Cert.Reference5Ideal.Value.run (F := Ideal) m' ρ')
  obtain ⟨h0, h1, h2⟩ := hagree c
  rw [Cert.Reference5Ideal.Read.val_main_v14_eq, h0, h1, h2]
  refine ((final m c).trans ?_).symm
  funext i
  obtain ⟨r, d, rfl⟩ : ∃ (r : Fin 32768) (d : Fin 512), i = ix2 r d := ⟨i 0, i 1, by funext a; match a with | ⟨0, _⟩ => rfl | ⟨1, _⟩ => rfl⟩
  exact (Ref.result _ _ _ r d).symm

end Cert.Query
-- ==== Proof.Finite.lean ====
module

public import proofs.«01_k».proof.Proof.Softmax
public import Idealize.ShloMosaic.PureOps.Ideal

/-!
# Real numbers among the extended reals

Where a minus sign may leave a sum, and that a row of real numbers stays real when it is divided by its root mean square.
-/

@[expose] public section
noncomputable section
namespace Cert.Finite
open Idealize.ShloMosaic

/-- An extended real that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} {s : Finset ι} {f : ι → EReal} (h : ∀ k, IsReal (f k)) : IsReal (∑ k ∈ s, f k) := by
  choose r hr using h
  exact ⟨∑ k ∈ s, r k, by rw [Attention.coe_sum]; exact Finset.sum_congr rfl fun k _ => hr k⟩

theorem IsReal.zero : IsReal 0 := ⟨0, rfl⟩

/-- Two products summed, and the same with the sign of one factor changed. -/
theorem sum_mul_neg {ι : Type} {s : Finset ι} {n w : ι → EReal} (hn : ∀ k, IsReal (n k)) (hw : ∀ k, IsReal (w k)) :
    ∑ k ∈ s, n k * -w k = -∑ k ∈ s, n k * w k := by
  choose a ha using hn
  choose b hb using hw
  have h1 : ∑ k ∈ s, n k * w k = ((∑ k ∈ s, a k * b k : ℝ) : EReal) := by
    rw [Attention.coe_sum]
    exact Finset.sum_congr rfl fun k _ => by rw [ha, hb, EReal.coe_mul]
  have h2 : ∑ k ∈ s, n k * -w k = ((∑ k ∈ s, -(a k * b k) : ℝ) : EReal) := by
    rw [Attention.coe_sum]
    exact Finset.sum_congr rfl fun k _ => by rw [ha, hb, EReal.coe_neg, EReal.coe_mul, mul_neg]
  rw [h1, h2, Finset.sum_neg_distrib, EReal.coe_neg]

/-- The small number added to a mean square is a positive real. -/
theorem eps_pos : ∃ e : ℝ, 0 < e ∧ Ideal.ofBits .f32 0x358637BD#32 = (e : EReal) := by
  refine ⟨_, ?_, by simp [Ideal.ofBits, Ideal.ieee]; rfl⟩
  positivity

/-- One element of a row divided by its root mean square stays real. -/
theorem rms_real {ι : Type} [Fintype ι] (x g : ι → EReal) (d : ι) (b : BitVec 32) (hb : ∃ c : ℝ, 0 < c ∧ Ideal.ofBits .f32 b = (c : EReal))
    (hx : ∀ k, IsReal (x k)) (hg : ∀ k, IsReal (g k)) :
    IsReal (x d * Ideal.rsqrt (Ideal.div (∑ k, x k * x k) (Ideal.ofBits .f32 b) + Ideal.ofBits .f32 0x358637BD#32) * g d) := by
  obtain ⟨c, hc, hbc⟩ := hb
  obtain ⟨e, he, hbe⟩ := eps_pos
  refine ((hx d).mul ?_).mul (hg d)
  choose a ha using hx
  have h1 : ∑ k, x k * x k = ((∑ k, a k * a k : ℝ) : EReal) := by
    rw [Attention.coe_sum]
    exact Finset.sum_congr rfl fun k _ => by rw [ha, EReal.coe_mul]
  have h2 : 0 ≤ ∑ k, a k * a k := Finset.sum_nonneg fun k _ => mul_self_nonneg _
  have h3 : 0 < (∑ k, a k * a k) * c⁻¹ + e := by positivity
  have hc' : (c : EReal) ≠ 0 := by exact_mod_cast hc.ne'
  rw [h1, hbc, hbe, Ideal.div, if_neg hc', ← EReal.coe_inv, ← EReal.coe_mul, ← EReal.coe_add, Ideal.rsqrt_coe, if_neg h3.not_gt,
    if_neg h3.ne']
  exact ⟨_, rfl⟩

theorem mean_1024 : ∃ c : ℝ, 0 < c ∧ Ideal.ofBits .f32 0x44800000#32 = (c : EReal) := by
  refine ⟨_, ?_, by simp [Ideal.ofBits, Ideal.ieee]; rfl⟩
  positivity

end Cert.Finite
-- ==== Proof.Odd.Rows.lean ====
module

public import proofs.«01_k».proof.Proof.Ffn.Row
public import proofs.«01_k».proof.Proof.Finite

set_option maxRecDepth 16384

/-!
# The projection with rotated columns

A row divided by its root mean square times the packed projection, the same with each pair of columns turned by an
angle of the row, and why turning the weights beforehand gives the same: the minus sign leaves a sum of real numbers.
-/

@[expose] public section
noncomputable section
namespace Cert.Odd
open Idealize.ShloMosaic Idealize.ShloMosaic.TcCoe Idealize.SL.Sem

/-- One weight, at a column counted as a plain number. -/
def col (w : FVec Ideal ⟨2, ![1024, 1840]⟩ .f32) (k : Fin 1024) (C : ℕ) : EReal := if h : C < 1840 then w (ix2 k ⟨C, h⟩) else 0

theorem col_of (w : FVec Ideal ⟨2, ![1024, 1840]⟩ .f32) (k : Fin 1024) (C : ℕ) (h : C < 1840) : col w k C = w (ix2 k ⟨C, h⟩) := dif_pos h

/-- A row divided by its root mean square. -/
def normal (x : FVec Ideal ⟨2, ![32768, 1024]⟩ .f32) (g : FVec Ideal ⟨1, ![1024]⟩ .f32) (R : Fin 32768) (k : Fin 1024) : EReal :=
  Ffn.rms (fun k => x (ix2 R k)) (fun k => g (ix1 k)) k

variable (x : FVec Ideal ⟨2, ![32768, 1024]⟩ .f32) (g : FVec Ideal ⟨1, ![1024]⟩ .f32) (w : FVec Ideal ⟨2, ![1024, 1840]⟩ .f32)

/-- The projection of whole arrays at one row and column. -/
def projected (R : Fin 32768) (C : ℕ) : EReal := ∑ k : Fin 1024, normal x g R k * col w k C

/-- The angle of a position and a frequency. -/
def angle (p j : ℕ) : EReal :=
  FloatOps.sitofp (F := Ideal) .f32 (BitVec.ofNat 32 p)
    * Ideal.pow (Ideal.ofBits .f32 1176256512#32) (-FloatOps.sitofp (F := Ideal) .f32 (BitVec.ofNat 32 j) * Ideal.ofBits .f32 1023410176#32)

/-- The cosines and sines as the kernel's tables hold them: the 32 frequencies twice in each head. -/
def cosine (p e : ℕ) : EReal := if e % 64 < 32 then Ideal.cos (angle p (e % 64)) else Ideal.cos (angle p (e % 64 - 32))
def sine (p e : ℕ) : EReal := if e % 64 < 32 then Ideal.sin (angle p (e % 64)) else Ideal.sin (angle p (e % 64 - 32))

/-- The projection's columns from `b` on, turned by the row's angles. -/
def rotated (R : Fin 32768) (b e : ℕ) : EReal :=
  if e % 64 < 32 then
    projected x g w R (b + e) * Ideal.cos (angle (R.val % 4096) (e % 64)) - projected x g w R (b + e + 32) * Ideal.sin (angle (R.val % 4096) (e % 64))
  else
    projected x g w R (b + e) * Ideal.cos (angle (R.val % 4096) (e % 64 - 32))
      + projected x g w R (b + e - 32) * Ideal.sin (angle (R.val % 4096) (e % 64 - 32))

/-- The weights with each pair of columns exchanged and the first negated. -/
def turned (k : Fin 1024) (b e : ℕ) : EReal := if e % 64 < 32 then -col w k (b + e + 32) else col w k (b + e - 32)

/-- Which number two columns of doubled heads read. -/
def single (e : ℕ) : ℕ := e / 128 * 64 + e % 64

/-- The thirteen results at a row and a column. -/
def gate (R : Fin 32768) (e : ℕ) : EReal := if e < 48 then projected x g w R (1792 + e) else 0

variable {x g w}

theorem normal_real (hx : ∀ i, Finite.IsReal (x i)) (hg : ∀ i, Finite.IsReal (g i)) (R : Fin 32768) (k : Fin 1024) : Finite.IsReal (normal x g R k) :=
  Finite.rms_real _ _ k _ Finite.mean_1024 (fun _ => hx _) (fun _ => hg _)

theorem col_real (hw : ∀ i, Finite.IsReal (w i)) (k : Fin 1024) (C : ℕ) : Finite.IsReal (col w k C) := by
  unfold col
  split
  · exact hw _
  · exact Finite.IsReal.zero

/-- Turned weights give turned columns. -/
theorem turn (hx : ∀ i, Finite.IsReal (x i)) (hg : ∀ i, Finite.IsReal (g i)) (hw : ∀ i, Finite.IsReal (w i)) (R : Fin 32768) (b e : ℕ) :
    projected x g w R (b + e) * cosine (R.val % 4096) e + (∑ k : Fin 1024, normal x g R k * turned w k b e) * sine (R.val % 4096) e
      = rotated x g w R b e := by
  unfold rotated turned cosine sine
  by_cases h : e % 64 < 32
  · simp only [if_pos h]
    rw [Finite.sum_mul_neg (fun k => normal_real hx hg R k) (fun k => col_real hw k _), EReal.neg_mul, ← sub_eq_add_neg]
    rfl
  · simp only [if_neg h]
    rfl

end Cert.Odd
-- ==== Proof.Odd.Weights.lean ====
module

public import proofs.«01_k».proof.Proof.Gen.Kernel7Ideal.Frame
public import proofs.«01_k».proof.Proof.Odd.Rows
public import Idealize.ShloMosaic.Lib.Pointwise
public import Idealize.ShloMosaic.Lib.Pipeline.ValueKit
public import Idealize.ShloMosaic.Lib.Pipeline.ReadBack
public import Idealize.ShloMosaic.Lib.StableHlo.RunRead

set_option maxRecDepth 16384

/-!
# The weights the kernel is given

The host packs twelve pieces side by side: the projection's columns, the columns turned beforehand, and both once
more with every head doubled. Each piece at one row and column, of the weights argument; and the tables of cosines and sines.
-/

@[expose] public section
noncomputable section
namespace Cert.Odd
open Idealize.ShloMosaic Idealize.ShloMosaic.TcCoe Idealize.SL.Sem

open Cert.Kernel7Ideal Cert.Kernel7Ideal.Gen

/-- Two lines of host operations, one after the other. -/
theorem after_append {β : EltTy → Type} (l₁ l₂ : List (HloOp τ sig β)) (v : Valuation τ sig β) :
    StableHlo.after (l₁ ++ l₂) v = StableHlo.after l₂ (StableHlo.after l₁ v) := by
  induction l₁ generalizing v with
  | nil => rfl
  | cons op l ih => exact ih _

/-- One weight, whichever way its column is spelt. -/
theorem col_at (w : FVec Ideal ⟨2, ![1024, 1840]⟩ .f32) (k : Fin 1024) {a b : ℕ} (p : a < 1840) (h : a = b) : w (ix2 k ⟨a, p⟩) = col w k b := by
  subst h
  exact (col_of w k a p).symm

variable (m : (ℓ : Loc nD τ sig) → Buf (Elt Ideal) ℓ)

/-- What the host has computed before it packs the weights. -/
def W (c : Dev nD) : Valuation τ sig (Elt Ideal) := StableHlo.after (hostOps0 ++ hostOps0_1) (fun b => m (c, b))

theorem V_at (c : Dev nD) (r : Ref sig .tc) : V m c r = StableHlo.after hostOps0_2 (W m c) (Proc.devRef .tc r) := by
  unfold V W
  simp only [List.flatten_cons, List.flatten_nil, List.append_nil]
  rw [← List.append_assoc, after_append]

/-- What the host has computed before it packs the doubled weights. -/
def D (c : Dev nD) : Valuation τ sig (Elt Ideal) := StableHlo.after (hostOps0.take 62) (fun b => m (c, b))

theorem W_at (c : Dev nD) (r : Ref sig .tc) :
    W m c (Proc.devRef .tc r) = StableHlo.after (hostOps0.drop 62 ++ hostOps0_1) (D m c) (Proc.devRef .tc r) := by
  unfold W D
  rw [← after_append, ← List.append_assoc, List.take_append_drop]

/-- The twelve pieces, one beside the other. -/
theorem pieces (w : Valuation τ sig (Elt Ideal)) (k : Fin 1024) (C : Fin 4736) :
    (StableHlo.after hostOps0_2 w (Proc.devRef .tc main_v71) : S1024x4736.Idx → EReal) (ix2 k C) =
    (  if h0 : C.val < 1024 then (w (Proc.tc.devRef main_v18) : S1024x1024.Idx → EReal) (ix2 k ⟨C.val, by omega⟩)
    else   if h1 : C.val - 1024 < 1024 then (w (Proc.tc.devRef main_v68) : S1024x1024.Idx → EReal) (ix2 k ⟨C.val - 1024, by omega⟩)
    else   if h2 : C.val - 1024 - 1024 < 128 then (w (Proc.tc.devRef main_v19) : S1024x128.Idx → EReal) (ix2 k ⟨C.val - 1024 - 1024, by omega⟩)
    else   if h3 : C.val - 1024 - 1024 - 128 < 128 then (w (Proc.tc.devRef main_v20) : S1024x128.Idx → EReal) (ix2 k ⟨C.val - 1024 - 1024 - 128, by omega⟩)
    else   if h4 : C.val - 1024 - 1024 - 128 - 128 < 128 then (w (Proc.tc.devRef main_v21) : S1024x128.Idx → EReal) (ix2 k ⟨C.val - 1024 - 1024 - 128 - 128, by omega⟩)
    else   if h5 : C.val - 1024 - 1024 - 128 - 128 - 128 < 128 then (w (Proc.tc.devRef main_v33) : S1024x128.Idx → EReal) (ix2 k ⟨C.val - 1024 - 1024 - 128 - 128 - 128, by omega⟩)
    else   if h6 : C.val - 1024 - 1024 - 128 - 128 - 128 - 128 < 128 then (w (Proc.tc.devRef main_v22) : S1024x128.Idx → EReal) (ix2 k ⟨C.val - 1024 - 1024 - 128 - 128 - 128 - 128, by omega⟩)
    else   if h7 : C.val - 1024 - 1024 - 128 - 128 - 128 - 128 - 128 < 128 then (w (Proc.tc.devRef main_v23) : S1024x128.Idx → EReal) (ix2 k ⟨C.val - 1024 - 1024 - 128 - 128 - 128 - 128 - 128, by omega⟩)
    else   if h8 : C.val - 1024 - 1024 - 128 - 128 - 128 - 128 - 128 - 128 < 128 then (w (Proc.tc.devRef main_v41) : S1024x128.Idx → EReal) (ix2 k ⟨C.val - 1024 - 1024 - 128 - 128 - 128 - 128 - 128 - 128, by omega⟩)
    else   if h9 : C.val - 1024 - 1024 - 128 - 128 - 128 - 128 - 128 - 128 - 128 < 128 then (w (Proc.tc.devRef main_v24) : S1024x128.Idx → EReal) (ix2 k ⟨C.val - 1024 - 1024 - 128 - 128 - 128 - 128 - 128 - 128 - 128, by omega⟩)
    else   if h10 : C.val - 1024 - 1024 - 128 - 128 - 128 - 128 - 128 - 128 - 128 - 128 < 128 then (w (Proc.tc.devRef main_v69) : S1024x128.Idx → EReal) (ix2 k ⟨C.val - 1024 - 1024 - 128 - 128 - 128 - 128 - 128 - 128 - 128 - 128, by omega⟩)
    else (w (Proc.tc.devRef main_v60) : S1024x1536.Idx → EReal) (ix2 k ⟨C.val - 1024 - 1024 - 128 - 128 - 128 - 128 - 128 - 128 - 128 - 128 - 128, by omega⟩) : EReal) := by
  unfold hostOps0_2
  entry_read
  pointwise

/-- The six doubled pieces. -/
theorem doubled (w : Valuation τ sig (Elt Ideal)) (k : Fin 1024) (C : Fin 1536) :
    (StableHlo.after (hostOps0.drop 62 ++ hostOps0_1) w (Proc.devRef .tc main_v60) : S1024x1536.Idx → EReal) (ix2 k C) =
    (  if h0 : C.val < 256 then (w (Proc.tc.devRef main_v44) : S1024x256.Idx → EReal) (ix2 k ⟨C.val, by omega⟩)
    else   if h1 : C.val - 256 < 256 then (w (Proc.tc.devRef main_v47) : S1024x256.Idx → EReal) (ix2 k ⟨C.val - 256, by omega⟩)
    else   if h2 : C.val - 256 - 256 < 256 then (w (Proc.tc.devRef main_v50) : S1024x256.Idx → EReal) (ix2 k ⟨C.val - 256 - 256, by omega⟩)
    else   if h3 : C.val - 256 - 256 - 256 < 256 then (w (Proc.tc.devRef main_v53) : S1024x256.Idx → EReal) (ix2 k ⟨C.val - 256 - 256 - 256, by omega⟩)
    else   if h4 : C.val - 256 - 256 - 256 - 256 < 256 then (w (Proc.tc.devRef main_v56) : S1024x256.Idx → EReal) (ix2 k ⟨C.val - 256 - 256 - 256 - 256, by omega⟩)
    else (w (Proc.tc.devRef main_v59) : S1024x256.Idx → EReal) (ix2 k ⟨C.val - 256 - 256 - 256 - 256 - 256, by omega⟩) : EReal) := by
  unfold hostOps0 hostOps0_1
  simp only [List.cons_append, List.nil_append, List.drop_succ_cons, List.drop_zero]
  entry_read
  pointwise

theorem v18 (c : Dev nD) (k : Fin 1024) (e : Fin 1024) :
    (W m c (Proc.devRef .tc main_v18) : S1024x1024.Idx → EReal) (ix2 k e) = col (m ((c : Thread nD τ).loc main_arg2)) k (0 + e.val) := by
  have he := e.isLt
  unfold W hostOps0 hostOps0_1
  simp only [List.cons_append, List.nil_append]
  entry_read
  pointwise
  exact col_at _ k _ (by omega)

theorem v19 (c : Dev nD) (k : Fin 1024) (e : Fin 128) :
    (W m c (Proc.devRef .tc main_v19) : S1024x128.Idx → EReal) (ix2 k e) = col (m ((c : Thread nD τ).loc main_arg2)) k (1024 + e.val) := by
  have he := e.isLt
  unfold W hostOps0 hostOps0_1
  simp only [List.cons_append, List.nil_append]
  entry_read
  pointwise
  exact col_at _ k _ (by omega)

theorem v20 (c : Dev nD) (k : Fin 1024) (e : Fin 128) :
    (W m c (Proc.devRef .tc main_v20) : S1024x128.Idx → EReal) (ix2 k e) = col (m ((c : Thread nD τ).loc main_arg2)) k (1152 + e.val) := by
  have he := e.isLt
  unfold W hostOps0 hostOps0_1
  simp only [List.cons_append, List.nil_append]
  entry_read
  pointwise
  exact col_at _ k _ (by omega)

theorem v21 (c : Dev nD) (k : Fin 1024) (e : Fin 128) :
    (W m c (Proc.devRef .tc main_v21) : S1024x128.Idx → EReal) (ix2 k e) = col (m ((c : Thread nD τ).loc main_arg2)) k (1280 + e.val) := by
  have he := e.isLt
  unfold W hostOps0 hostOps0_1
  simp only [List.cons_append, List.nil_append]
  entry_read
  pointwise
  exact col_at _ k _ (by omega)

theorem v22 (c : Dev nD) (k : Fin 1024) (e : Fin 128) :
    (W m c (Proc.devRef .tc main_v22) : S1024x128.Idx → EReal) (ix2 k e) = col (m ((c : Thread nD τ).loc main_arg2)) k (1408 + e.val) := by
  have he := e.isLt
  unfold W hostOps0 hostOps0_1
  simp only [List.cons_append, List.nil_append]
  entry_read
  pointwise
  exact col_at _ k _ (by omega)

theorem v23 (c : Dev nD) (k : Fin 1024) (e : Fin 128) :
    (W m c (Proc.devRef .tc main_v23) : S1024x128.Idx → EReal) (ix2 k e) = col (m ((c : Thread nD τ).loc main_arg2)) k (1536 + e.val) := by
  have he := e.isLt
  unfold W hostOps0 hostOps0_1
  simp only [List.cons_append, List.nil_append]
  entry_read
  pointwise
  exact col_at _ k _ (by omega)

theorem v24 (c : Dev nD) (k : Fin 1024) (e : Fin 128) :
    (W m c (Proc.devRef .tc main_v24) : S1024x128.Idx → EReal) (ix2 k e) = col (m ((c : Thread nD τ).loc main_arg2)) k (1664 + e.val) := by
  have he := e.isLt
  unfold W hostOps0 hostOps0_1
  simp only [List.cons_append, List.nil_append]
  entry_read
  pointwise
  exact col_at _ k _ (by omega)

theorem v68 (c : Dev nD) (k : Fin 1024) (e : Fin 1024) :
    (W m c (Proc.devRef .tc main_v68) : S1024x1024.Idx → EReal) (ix2 k e) = turned (m ((c : Thread nD τ).loc main_arg2)) k 0 e.val := by
  have he := e.isLt
  unfold W hostOps0 hostOps0_1
  simp only [List.cons_append, List.nil_append]
  entry_read
  pointwise
  unfold turned
  by_cases h : e.val % 64 < 32
  · simp only [dif_pos h, if_pos (show e.val % 64 < 32 by omega)]
    exact congrArg (fun z : EReal => -z) (col_at _ k _ (by omega))
  · simp only [dif_neg h, if_neg (show ¬ e.val % 64 < 32 by omega)]
    exact col_at _ k _ (by omega)

theorem v33 (c : Dev nD) (k : Fin 1024) (e : Fin 128) :
    (W m c (Proc.devRef .tc main_v33) : S1024x128.Idx → EReal) (ix2 k e) = turned (m ((c : Thread nD τ).loc main_arg2)) k 1280 e.val := by
  have he := e.isLt
  unfold W hostOps0 hostOps0_1
  simp only [List.cons_append, List.nil_append]
  entry_read
  pointwise
  unfold turned
  by_cases h : e.val % 64 < 32
  · simp only [dif_pos h, if_pos (show e.val % 64 < 32 by omega)]
    exact congrArg (fun z : EReal => -z) (col_at _ k _ (by omega))
  · simp only [dif_neg h, if_neg (show ¬ e.val % 64 < 32 by omega)]
    exact col_at _ k _ (by omega)

theorem v41 (c : Dev nD) (k : Fin 1024) (e : Fin 128) :
    (W m c (Proc.devRef .tc main_v41) : S1024x128.Idx → EReal) (ix2 k e) = turned (m ((c : Thread nD τ).loc main_arg2)) k 1536 e.val := by
  have he := e.isLt
  unfold W hostOps0 hostOps0_1
  simp only [List.cons_append, List.nil_append]
  entry_read
  pointwise
  unfold turned
  by_cases h : e.val % 64 < 32
  · simp only [dif_pos h, if_pos (show e.val % 64 < 32 by omega)]
    exact congrArg (fun z : EReal => -z) (col_at _ k _ (by omega))
  · simp only [dif_neg h, if_neg (show ¬ e.val % 64 < 32 by omega)]
    exact col_at _ k _ (by omega)

theorem v69 (c : Dev nD) (k : Fin 1024) (e : Fin 128) :
    (W m c (Proc.devRef .tc main_v69) : S1024x128.Idx → EReal) (ix2 k e) = if e.val < 48 then col (m ((c : Thread nD τ).loc main_arg2)) k (1792 + e.val) else 0 := by
  have he := e.isLt
  unfold W hostOps0 hostOps0_1
  simp only [List.cons_append, List.nil_append]
  entry_read
  refine Eq.trans (b := pad S1024x128 ![0, 0] ![0, 80] ![0, 0] (extractStridedSlice S1024x48 ![0, 1792] (m (c, Proc.tc.devRef main_arg2)) slices_S1024x1840_S1024x48_0_1792)
    (sitofp FTy.f32 (constantI S_ 32 0#32) : FVec Ideal S_ .f32) pads_S1024x48_S1024x128_000_0800 h_S_ (ix2 k e)) rfl ?_
  pointwise
  by_cases h : e.val < 48
  · simp only [dif_pos h, if_pos h]
    exact col_at _ k _ (by omega)
  · simp only [dif_neg h, if_neg h]
    simp [FloatOps.sitofp]

theorem v44 (c : Dev nD) (k : Fin 1024) (e : Fin 256) :
    (D m c (Proc.devRef .tc main_v44) : S1024x256.Idx → EReal) (ix2 k e) = col (m ((c : Thread nD τ).loc main_arg2)) k (1280 + single e.val) := by
  have he := e.isLt
  unfold D hostOps0
  simp only [List.take_succ_cons, List.take_zero]
  entry_read
  pointwise
  unfold single
  exact col_at _ k _ (by omega)

theorem v50 (c : Dev nD) (k : Fin 1024) (e : Fin 256) :
    (D m c (Proc.devRef .tc main_v50) : S1024x256.Idx → EReal) (ix2 k e) = col (m ((c : Thread nD τ).loc main_arg2)) k (1408 + single e.val) := by
  have he := e.isLt
  unfold D hostOps0
  simp only [List.take_succ_cons, List.take_zero]
  entry_read
  pointwise
  unfold single
  exact col_at _ k _ (by omega)

theorem v53 (c : Dev nD) (k : Fin 1024) (e : Fin 256) :
    (D m c (Proc.devRef .tc main_v53) : S1024x256.Idx → EReal) (ix2 k e) = col (m ((c : Thread nD τ).loc main_arg2)) k (1536 + single e.val) := by
  have he := e.isLt
  unfold D hostOps0
  simp only [List.take_succ_cons, List.take_zero]
  entry_read
  pointwise
  unfold single
  exact col_at _ k _ (by omega)

theorem v59 (c : Dev nD) (k : Fin 1024) (e : Fin 256) :
    (D m c (Proc.devRef .tc main_v59) : S1024x256.Idx → EReal) (ix2 k e) = col (m ((c : Thread nD τ).loc main_arg2)) k (1664 + single e.val) := by
  have he := e.isLt
  unfold D hostOps0
  simp only [List.take_succ_cons, List.take_zero]
  entry_read
  pointwise
  unfold single
  exact col_at _ k _ (by omega)

theorem v47 (c : Dev nD) (k : Fin 1024) (e : Fin 256) :
    (D m c (Proc.devRef .tc main_v47) : S1024x256.Idx → EReal) (ix2 k e) = turned (m ((c : Thread nD τ).loc main_arg2)) k 1280 (single e.val) := by
  have he := e.isLt
  unfold D hostOps0
  simp only [List.take_succ_cons, List.take_zero]
  entry_read
  pointwise
  unfold single
  unfold turned
  by_cases h : e.val % 64 < 32
  · simp only [dif_pos h, if_pos (show (e.val / 128 * 64 + e.val % 64) % 64 < 32 by omega)]
    exact congrArg (fun z : EReal => -z) (col_at _ k _ (by omega))
  · simp only [dif_neg h, if_neg (show ¬ (e.val / 128 * 64 + e.val % 64) % 64 < 32 by omega)]
    exact col_at _ k _ (by omega)

theorem v56 (c : Dev nD) (k : Fin 1024) (e : Fin 256) :
    (D m c (Proc.devRef .tc main_v56) : S1024x256.Idx → EReal) (ix2 k e) = turned (m ((c : Thread nD τ).loc main_arg2)) k 1536 (single e.val) := by
  have he := e.isLt
  unfold D hostOps0
  simp only [List.take_succ_cons, List.take_zero]
  entry_read
  pointwise
  unfold single
  unfold turned
  by_cases h : e.val % 64 < 32
  · simp only [dif_pos h, if_pos (show (e.val / 128 * 64 + e.val % 64) % 64 < 32 by omega)]
    exact congrArg (fun z : EReal => -z) (col_at _ k _ (by omega))
  · simp only [dif_neg h, if_neg (show ¬ (e.val / 128 * 64 + e.val % 64) % 64 < 32 by omega)]
    exact col_at _ k _ (by omega)

/-- The piece from column 0 on. -/
theorem piece_v18 (c : Dev nD) (k : Fin 1024) (e : Fin 1024) (C : Fin 4736) (hC : C.val = 0 + e.val) :
    (V m c main_v71 : S1024x4736.Idx → EReal) (ix2 k C) = (W m c (Proc.devRef .tc main_v18) : S1024x1024.Idx → EReal) (ix2 k e) := by
  have he := e.isLt
  rw [V_at, pieces]
  refine (dif_pos (by omega)).trans ?_
  exact congrArg (fun i : Fin 1024 => (W m c (Proc.devRef .tc main_v18) : S1024x1024.Idx → EReal) (ix2 k i)) (Fin.ext (by dsimp only; omega))

/-- The piece from column 1024 on. -/
theorem piece_v68 (c : Dev nD) (k : Fin 1024) (e : Fin 1024) (C : Fin 4736) (hC : C.val = 1024 + e.val) :
    (V m c main_v71 : S1024x4736.Idx → EReal) (ix2 k C) = (W m c (Proc.devRef .tc main_v68) : S1024x1024.Idx → EReal) (ix2 k e) := by
  have he := e.isLt
  rw [V_at, pieces]
  refine (dif_neg (by omega)).trans ?_
  refine (dif_pos (by omega)).trans ?_
  exact congrArg (fun i : Fin 1024 => (W m c (Proc.devRef .tc main_v68) : S1024x1024.Idx → EReal) (ix2 k i)) (Fin.ext (by dsimp only; omega))

/-- The piece from column 2048 on. -/
theorem piece_v19 (c : Dev nD) (k : Fin 1024) (e : Fin 128) (C : Fin 4736) (hC : C.val = 2048 + e.val) :
    (V m c main_v71 : S1024x4736.Idx → EReal) (ix2 k C) = (W m c (Proc.devRef .tc main_v19) : S1024x128.Idx → EReal) (ix2 k e) := by
  have he := e.isLt
  rw [V_at, pieces]
  refine (dif_neg (by omega)).trans ?_
  refine (dif_neg (by omega)).trans ?_
  refine (dif_pos (by omega)).trans ?_
  exact congrArg (fun i : Fin 128 => (W m c (Proc.devRef .tc main_v19) : S1024x128.Idx → EReal) (ix2 k i)) (Fin.ext (by dsimp only; omega))

/-- The piece from column 2176 on. -/
theorem piece_v20 (c : Dev nD) (k : Fin 1024) (e : Fin 128) (C : Fin 4736) (hC : C.val = 2176 + e.val) :
    (V m c main_v71 : S1024x4736.Idx → EReal) (ix2 k C) = (W m c (Proc.devRef .tc main_v20) : S1024x128.Idx → EReal) (ix2 k e) := by
  have he := e.isLt
  rw [V_at, pieces]
  refine (dif_neg (by omega)).trans ?_
  refine (dif_neg (by omega)).trans ?_
  refine (dif_neg (by omega)).trans ?_
  refine (dif_pos (by omega)).trans ?_
  exact congrArg (fun i : Fin 128 => (W m c (Proc.devRef .tc main_v20) : S1024x128.Idx → EReal) (ix2 k i)) (Fin.ext (by dsimp only; omega))

/-- The piece from column 2304 on. -/
theorem piece_v21 (c : Dev nD) (k : Fin 1024) (e : Fin 128) (C : Fin 4736) (hC : C.val = 2304 + e.val) :
    (V m c main_v71 : S1024x4736.Idx → EReal) (ix2 k C) = (W m c (Proc.devRef .tc main_v21) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_pos (by omega)).trans ?_
  exact congrArg (fun i : Fin 128 => (W m c (Proc.devRef .tc main_v21) : S1024x128.Idx → EReal) (ix2 k i)) (Fin.ext (by dsimp only; omega))

/-- The piece from column 2432 on. -/
theorem piece_v33 (c : Dev nD) (k : Fin 1024) (e : Fin 128) (C : Fin 4736) (hC : C.val = 2432 + e.val) :
    (V m c main_v71 : S1024x4736.Idx → EReal) (ix2 k C) = (W m c (Proc.devRef .tc main_v33) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 128 => (W m c (Proc.devRef .tc main_v33) : S1024x128.Idx → EReal) (ix2 k i)) (Fin.ext (by dsimp only; omega))

/-- The piece from column 2560 on. -/
theorem piece_v22 (c : Dev nD) (k : Fin 1024) (e : Fin 128) (C : Fin 4736) (hC : C.val = 2560 + e.val) :
    (V m c main_v71 : S1024x4736.Idx → EReal) (ix2 k C) = (W m c (Proc.devRef .tc main_v22) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 128 => (W m c (Proc.devRef .tc main_v22) : S1024x128.Idx → EReal) (ix2 k i)) (Fin.ext (by dsimp only; omega))

/-- The piece from column 2688 on. -/
theorem piece_v23 (c : Dev nD) (k : Fin 1024) (e : Fin 128) (C : Fin 4736) (hC : C.val = 2688 + e.val) :
    (V m c main_v71 : S1024x4736.Idx → EReal) (ix2 k C) = (W m c (Proc.devRef .tc main_v23) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 128 => (W m c (Proc.devRef .tc main_v23) : S1024x128.Idx → EReal) (ix2 k i)) (Fin.ext (by dsimp only; omega))

/-- The piece from column 2816 on. -/
theorem piece_v41 (c : Dev nD) (k : Fin 1024) (e : Fin 128) (C : Fin 4736) (hC : C.val = 2816 + e.val) :
    (V m c main_v71 : S1024x4736.Idx → EReal) (ix2 k C) = (W m c (Proc.devRef .tc main_v41) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 128 => (W m c (Proc.devRef .tc main_v41) : S1024x128.Idx → EReal) (ix2 k i)) (Fin.ext (by dsimp only; omega))

/-- The piece from column 2944 on. -/
theorem piece_v24 (c : Dev nD) (k : Fin 1024) (e : Fin 128) (C : Fin 4736) (hC : C.val = 2944 + e.val) :
    (V m c main_v71 : S1024x4736.Idx → EReal) (ix2 k C) = (W m c (Proc.devRef .tc main_v24) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 128 => (W m c (Proc.devRef .tc main_v24) : S1024x128.Idx → EReal) (ix2 k i)) (Fin.ext (by dsimp only; omega))

/-- The piece from column 3072 on. -/
theorem piece_v69 (c : Dev nD) (k : Fin 1024) (e : Fin 128) (C : Fin 4736) (hC : C.val = 3072 + e.val) :
    (V m c main_v71 : S1024x4736.Idx → EReal) (ix2 k C) = (W m c (Proc.devRef .tc main_v69) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 128 => (W m c (Proc.devRef .tc main_v69) : S1024x128.Idx → EReal) (ix2 k i)) (Fin.ext (by dsimp only; omega))

/-- The piece from column 3200 on. -/
theorem piece_v60 (c : Dev nD) (k : Fin 1024) (e : Fin 1536) (C : Fin 4736) (hC : C.val = 3200 + e.val) :
    (V m c main_v71 : S1024x4736.Idx → EReal) (ix2 k C) = (W m c (Proc.devRef .tc main_v60) : S1024x1536.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact congrArg (fun i : Fin 1536 => (W m c (Proc.devRef .tc main_v60) : S1024x1536.Idx → EReal) (ix2 k i)) (Fin.ext (by dsimp only; omega))

theorem piece_v44 (c : Dev nD) (k : Fin 1024) (e : Fin 256) (C : Fin 1536) (hC : C.val = 0 + e.val) :
    (W m c (Proc.devRef .tc main_v60) : S1024x1536.Idx → EReal) (ix2 k C) = (D m c (Proc.devRef .tc main_v44) : S1024x256.Idx → EReal) (ix2 k e) := by
  have he := e.isLt
  rw [W_at, doubled]
  refine (dif_pos (by omega)).trans ?_
  exact congrArg (fun i : Fin 256 => (D m c (Proc.devRef .tc main_v44) : S1024x256.Idx → EReal) (ix2 k i)) (Fin.ext (by dsimp only; omega))

theorem piece_v47 (c : Dev nD) (k : Fin 1024) (e : Fin 256) (C : Fin 1536) (hC : C.val = 256 + e.val) :
    (W m c (Proc.devRef .tc main_v60) : S1024x1536.Idx → EReal) (ix2 k C) = (D m c (Proc.devRef .tc main_v47) : S1024x256.Idx → EReal) (ix2 k e) := by
  have he := e.isLt
  rw [W_at, doubled]
  refine (dif_neg (by omega)).trans ?_
  refine (dif_pos (by omega)).trans ?_
  exact congrArg (fun i : Fin 256 => (D m c (Proc.devRef .tc main_v47) : S1024x256.Idx → EReal) (ix2 k i)) (Fin.ext (by dsimp only; omega))

theorem piece_v50 (c : Dev nD) (k : Fin 1024) (e : Fin 256) (C : Fin 1536) (hC : C.val = 512 + e.val) :
    (W m c (Proc.devRef .tc main_v60) : S1024x1536.Idx → EReal) (ix2 k C) = (D m c (Proc.devRef .tc main_v50) : S1024x256.Idx → EReal) (ix2 k e) := by
  have he := e.isLt
  rw [W_at, doubled]
  refine (dif_neg (by omega)).trans ?_
  refine (dif_neg (by omega)).trans ?_
  refine (dif_pos (by omega)).trans ?_
  exact congrArg (fun i : Fin 256 => (D m c (Proc.devRef .tc main_v50) : S1024x256.Idx → EReal) (ix2 k i)) (Fin.ext (by dsimp only; omega))

theorem piece_v53 (c : Dev nD) (k : Fin 1024) (e : Fin 256) (C : Fin 1536) (hC : C.val = 768 + e.val) :
    (W m c (Proc.devRef .tc main_v60) : S1024x1536.Idx → EReal) (ix2 k C) = (D m c (Proc.devRef .tc main_v53) : S1024x256.Idx → EReal) (ix2 k e) := by
  have he := e.isLt
  rw [W_at, doubled]
  refine (dif_neg (by omega)).trans ?_
  refine (dif_neg (by omega)).trans ?_
  refine (dif_neg (by omega)).trans ?_
  refine (dif_pos (by omega)).trans ?_
  exact congrArg (fun i : Fin 256 => (D m c (Proc.devRef .tc main_v53) : S1024x256.Idx → EReal) (ix2 k i)) (Fin.ext (by dsimp only; omega))

theorem piece_v56 (c : Dev nD) (k : Fin 1024) (e : Fin 256) (C : Fin 1536) (hC : C.val = 1024 + e.val) :
    (W m c (Proc.devRef .tc main_v60) : S1024x1536.Idx → EReal) (ix2 k C) = (D m c (Proc.devRef .tc main_v56) : S1024x256.Idx → EReal) (ix2 k e) := by
  have he := e.isLt
  rw [W_at, doubled]
  refine (dif_neg (by omega)).trans ?_
  refine (dif_neg (by omega)).trans ?_
  refine (dif_neg (by omega)).trans ?_
  refine (dif_neg (by omega)).trans ?_
  refine (dif_pos (by omega)).trans ?_
  exact congrArg (fun i : Fin 256 => (D m c (Proc.devRef .tc main_v56) : S1024x256.Idx → EReal) (ix2 k i)) (Fin.ext (by dsimp only; omega))

theorem piece_v59 (c : Dev nD) (k : Fin 1024) (e : Fin 256) (C : Fin 1536) (hC : C.val = 1280 + e.val) :
    (W m c (Proc.devRef .tc main_v60) : S1024x1536.Idx → EReal) (ix2 k C) = (D m c (Proc.devRef .tc main_v59) : S1024x256.Idx → EReal) (ix2 k e) := by
  have he := e.isLt
  rw [W_at, doubled]
  refine (dif_neg (by omega)).trans ?_
  refine (dif_neg (by omega)).trans ?_
  refine (dif_neg (by omega)).trans ?_
  refine (dif_neg (by omega)).trans ?_
  refine (dif_neg (by omega)).trans ?_
  exact congrArg (fun i : Fin 256 => (D m c (Proc.devRef .tc main_v59) : S1024x256.Idx → EReal) (ix2 k i)) (Fin.ext (by dsimp only; omega))

/-- The table of cosines. -/
theorem table_cos (c : Dev nD) (p : Fin 4096) (e : Fin 128) : (V m c main_v74 : S4096x128.Idx → EReal) (ix2 p e) = cosine p.val e.val := by
  unfold cosine angle V hostOps0 hostOps0_1 hostOps0_2
  simp only [List.flatten_cons, List.flatten_nil, List.cons_append, List.nil_append, List.append_nil]
  entry_read
  pointwise
  by_cases h : e.val % 64 < 32
  · simp only [dif_pos h, if_pos h]
  · simp only [dif_neg h, if_neg h]

/-- The table of sines. -/
theorem table_sin (c : Dev nD) (p : Fin 4096) (e : Fin 128) : (V m c main_v77 : S4096x128.Idx → EReal) (ix2 p e) = sine p.val e.val := by
  unfold sine angle V hostOps0 hostOps0_1 hostOps0_2
  simp only [List.flatten_cons, List.flatten_nil, List.cons_append, List.nil_append, List.append_nil]
  entry_read
  pointwise
  by_cases h : e.val % 64 < 32
  · simp only [dif_pos h, if_pos h]
  · simp only [dif_neg h, if_neg h]

end Cert.Odd
-- ==== Proof.Odd.Kernel.lean ====
module

public import proofs.«01_k».proof.Proof.Gen.Kernel7Ideal.Value
public import proofs.«01_k».proof.Proof.Odd.Weights

set_option maxRecDepth 16384

/-!
# What the kernel of the odd layers' projection computes

A grid point normalises 256 rows and multiplies them with the packed weights; every result is a run of columns of that
product, or such a run times the cosines plus another times the sines.
-/

@[expose] public section
noncomputable section
namespace Cert.Odd
open Idealize.ShloMosaic Idealize.ShloMosaic.TcCoe Idealize.SL.Sem

open Cert.Kernel7Ideal Cert.Kernel7Ideal.Gen Cert.Kernel7Ideal.Value

/-- The product of the normalised rows with the packed weights. -/
theorem pay_product (X : FVec Ideal S256x1024 .f32) (G : FVec Ideal S1x1024 .f32) (P : FVec Ideal S1024x4736 .bf16) (r : Fin 256) (C : Fin 4736) :
    k0_pay3 (F := Ideal) X G P (ix2 r C) = ∑ k : Fin 1024, Ffn.rms (fun k => X (ix2 r k)) (fun k => G (ix2 0 k)) k * P (ix2 k C) := by
  unfold Ffn.rms
  pointwise [k0_pay3]

/-- The tables repeat every 64 columns. -/
theorem cosine_congr (p : ℕ) {a b : ℕ} (h : a % 64 = b % 64) : cosine p a = cosine p b := by
  unfold cosine
  rw [h]

theorem sine_congr (p : ℕ) {a b : ℕ} (h : a % 64 = b % 64) : sine p a = sine p b := by
  unfold sine
  rw [h]

theorem single_mod (e : ℕ) : single e % 64 = e % 64 := by
  unfold single
  omega

variable (m : (ℓ : Loc nD τ sig) → Buf (Elt Ideal) ℓ)

/-- Which block each window stages at a grid point. -/
theorem idx : ∀ t : Fin cfg0.N,
    win0_0.index t = ![t.val, 0] ∧ win0_1.index t = ![0, 0] ∧ win0_2.index t = ![0, 0] ∧ win0_3.index t = ![t.val % 16, 0] ∧ win0_4.index t = ![t.val % 16, 0] :=
  (by decide +kernel : ∀ t : Fin grid0.N, _)

theorem idx_out : ∀ t : Fin cfg0.N,
    win0_5.index t = ![t.val, 0] ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0] ∧ win0_12.index t = ![t.val, 0] ∧ win0_13.index t = ![t.val, 0]
      ∧ win0_14.index t = ![t.val, 0] ∧ win0_15.index t = ![t.val, 0] ∧ win0_16.index t = ![t.val, 0] ∧ win0_17.index t = ![t.val, 0] :=
  (by decide +kernel : ∀ t : Fin grid0.N, _)

theorem rows_at (c : Dev nD) (t : Fin cfg0.N) (r : Fin 256) (k : Fin 1024) (R : Fin 32768) (hR : R.val = t.val * 256 + r.val) :
    iblk m c 0 t (ix2 r k) = m ((c : Thread nD τ).loc main_arg0) (ix2 R k) := by
  blk_ext [iblk, V, idx t, hR]

theorem gain_at (c : Dev nD) (t : Fin cfg0.N) (k : Fin 1024) :
    iblk m c 1 t (ix2 (0 : Fin 1) k) = m ((c : Thread nD τ).loc main_arg1) (ix1 k) := by
  blk_simp [iblk, idx t]
  unfold V hostOps0 hostOps0_1 hostOps0_2
  simp only [List.flatten_cons, List.flatten_nil, List.cons_append, List.nil_append, List.append_nil]
  entry_read
  pointwise
  blk_ext [idx t]

theorem packed_at (c : Dev nD) (t : Fin cfg0.N) (k : Fin 1024) (C : Fin 4736) :
    iblk m c 2 t (ix2 k C) = (V m c main_v71 : S1024x4736.Idx → EReal) (ix2 k C) := by
  blk_ext [iblk, idx t]

theorem cos_at (c : Dev nD) (t : Fin cfg0.N) (r : Fin 256) (e : Fin 128) (R : Fin 32768) (hR : R.val = t.val * 256 + r.val) :
    iblk m c 3 t (ix2 r e) = cosine (R.val % 4096) e.val := by
  have hr := r.isLt
  refine Eq.trans ?_ (table_cos m c ⟨R.val % 4096, by omega⟩ e)
  have hp : R.val % 4096 = t.val % 16 * 256 + r.val := by omega
  blk_ext [iblk, idx t, hp]

theorem sin_at (c : Dev nD) (t : Fin cfg0.N) (r : Fin 256) (e : Fin 128) (R : Fin 32768) (hR : R.val = t.val * 256 + r.val) :
    iblk m c 4 t (ix2 r e) = sine (R.val % 4096) e.val := by
  have hr := r.isLt
  refine Eq.trans ?_ (table_sin m c ⟨R.val % 4096, by omega⟩ e)
  have hp : R.val % 4096 = t.val % 16 * 256 + r.val := by omega
  blk_ext [iblk, idx t, hp]

/-- A column of the product, of the whole arrays. -/
theorem product_at (c : Dev nD) (t : Fin cfg0.N) (r : Fin 256) (R : Fin 32768) (hR : R.val = t.val * 256 + r.val) (C : Fin 4736) (f : Fin 1024 → EReal)
    (hf : ∀ k : Fin 1024, (V m c main_v71 : S1024x4736.Idx → EReal) (ix2 k C) = f k) :
    k0_pay3 (F := Ideal) (iblk m c 0 t) (iblk m c 1 t) (iblk m c 2 t) (ix2 r C)
      = ∑ k : Fin 1024, normal (m ((c : Thread nD τ).loc main_arg0)) (m ((c : Thread nD τ).loc main_arg1)) R k * f k := by
  rw [pay_product]
  refine Finset.sum_congr rfl fun k _ => ?_
  unfold normal
  rw [packed_at m c t k C, hf k]
  rw [show (fun k : Fin 1024 => (iblk m c 0 t (ix2 r k) : EReal)) = _ from funext fun k => rows_at m c t r k R hR,
    show (fun k : Fin 1024 => (iblk m c 1 t (ix2 (0 : Fin 1) k) : EReal)) = _ from funext fun k => gain_at m c t k]

/-- The arguments of a core are real numbers. -/
def RealArgs (c : Dev nD) : Prop :=
  (∀ i, Finite.IsReal ((m ((c : Thread nD τ).loc main_arg0) : FVec Ideal S32768x1024 .f32) i))
    ∧ (∀ i, Finite.IsReal ((m ((c : Thread nD τ).loc main_arg1) : FVec Ideal S1024 .f32) i))
    ∧ (∀ i, Finite.IsReal ((m ((c : Thread nD τ).loc main_arg2) : FVec Ideal S1024x1840 .f32) i))

/-- A run of columns times the cosines plus the turned run times the sines. -/
theorem rotated_at (c : Dev nD) (hm : RealArgs m c) (t : Fin cfg0.N) (r : Fin 256) (R : Fin 32768) (hR : R.val = t.val * 256 + r.val)
    (A B : Fin 4736) (u : Fin 128) (b e : ℕ) (hu : u.val % 64 = e % 64)
    (hA : ∀ k : Fin 1024, (V m c main_v71 : S1024x4736.Idx → EReal) (ix2 k A) = col (m ((c : Thread nD τ).loc main_arg2)) k (b + e))
    (hB : ∀ k : Fin 1024, (V m c main_v71 : S1024x4736.Idx → EReal) (ix2 k B) = turned (m ((c : Thread nD τ).loc main_arg2)) k b e) :
    (k0_pay3 (F := Ideal) (iblk m c 0 t) (iblk m c 1 t) (iblk m c 2 t) (ix2 r A) * iblk m c 3 t (ix2 r u)
        + k0_pay3 (F := Ideal) (iblk m c 0 t) (iblk m c 1 t) (iblk m c 2 t) (ix2 r B) * iblk m c 4 t (ix2 r u) : EReal)
      = rotated (m ((c : Thread nD τ).loc main_arg0)) (m ((c : Thread nD τ).loc main_arg1)) (m ((c : Thread nD τ).loc main_arg2)) R b e := by
  rw [product_at m c t r R hR A _ hA, product_at m c t r R hR B _ hB, cos_at m c t r u R hR, sin_at m c t r u R hR, cosine_congr _ hu, sine_congr _ hu]
  exact turn hm.1 hm.2.1 hm.2.2 R b e

/-- What the stores of window 5 leave. -/
theorem stored_q (X : FVec Ideal S256x1024 .f32) (G : FVec Ideal S1x1024 .f32) (P : FVec Ideal S1024x4736 .bf16) (U T : FVec Ideal S256x128 .f32) (y : S256x1024.Idx) :
    out0_5 (F := Ideal) X G P U T y = E5 (F := Ideal) X G P y := by
  unfold_out out0_5
  refine (canon5_eq _ _ _ y).trans ?_
  frame_out

theorem point_q (c : Dev nD) (t : Fin cfg0.N) (r : Fin 256) (e : Fin 1024) (R : Fin 32768) (hR : R.val = t.val * 256 + r.val) :
    out0_5 (F := Ideal) (iblk m c 0 t) (iblk m c 1 t) (iblk m c 2 t) (iblk m c 3 t) (iblk m c 4 t) (ix2 r e) = projected (m ((c : Thread nD τ).loc main_arg0)) (m ((c : Thread nD τ).loc main_arg1)) (m ((c : Thread nD τ).loc main_arg2)) R (0 + e.val) := by
  have he := e.isLt
  rw [stored_q]
  have h0 : ix5_0 (ix2 r e) = ix2 r (⟨0 + e.val, by omega⟩ : Fin 4736) := by
    funext a
    match a with
    | ⟨0, _⟩ => rfl
    | ⟨1, _⟩ => exact Fin.ext (Nat.zero_add _).symm
  show k0_pay3 (F := Ideal) (iblk m c 0 t) (iblk m c 1 t) (iblk m c 2 t) (ix5_0 (ix2 r e)) = _
  rw [h0]
  refine (product_at m c t r R hR _ _ (fun k => (piece_v18 m c k e _ (by dsimp only <;> omega)).trans (v18 m c k e))).trans ?_
  rfl

theorem covers_q : (cfg0.win 5).Covers := by decide +kernel

theorem final_q (c : Dev nD) : (dats m 0 c).arrAt 5 (cfgs 0).N = fun i : S32768x1024.Idx => projected (m ((c : Thread nD τ).loc main_arg0)) (m ((c : Thread nD τ).loc main_arg1)) (m ((c : Thread nD τ).loc main_arg2)) (i 0) (0 + (i 1).val) := by
  refine (dats m 0 c).arrAt_eq_of_covers 5 _ covers_q fun t hf y => ?_
  blk_simp
  rw [after0_5]
  obtain ⟨r, e, rfl⟩ : ∃ (r : Fin 256) (e : Fin 1024), y = ix2 r e := ⟨y 0, y 1, by funext a; match a with | ⟨0, _⟩ => rfl | ⟨1, _⟩ => rfl⟩
  refine (point_q m c t r e ((((cfg0.win 5).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg2)) ((((cfg0.win 5).blk t).view.emb (ix2 r e)) 0) (0 + z)) ?_
  blk_simp [idx_out t]

/-- What the stores of window 6 leave. -/
theorem stored_qr (X : FVec Ideal S256x1024 .f32) (G : FVec Ideal S1x1024 .f32) (P : FVec Ideal S1024x4736 .bf16) (U T : FVec Ideal S256x128 .f32) (y : S256x1024.Idx) :
    out0_6 (F := Ideal) X G P U T y = E6 (F := Ideal) X G P U T y := by
  unfold_out out0_6
  refine (canon6_eq _ _ _ _ _ y).trans ?_
  frame_out

theorem point_qr (c : Dev nD) (hm : RealArgs m c) (t : Fin cfg0.N) (r : Fin 256) (e : Fin 1024) (R : Fin 32768) (hR : R.val = t.val * 256 + r.val) :
    out0_6 (F := Ideal) (iblk m c 0 t) (iblk m c 1 t) (iblk m c 2 t) (iblk m c 3 t) (iblk m c 4 t) (ix2 r e) = rotated (m ((c : Thread nD τ).loc main_arg0)) (m ((c : Thread nD τ).loc main_arg1)) (m ((c : Thread nD τ).loc main_arg2)) R 0 e.val := by
  have he := e.isLt
  rw [stored_qr]
  have h0 : ix6_0 (ix2 r e) = ix2 r (⟨0 + e.val, by omega⟩ : Fin 4736) := by
    funext a
    match a with
    | ⟨0, _⟩ => rfl
    | ⟨1, _⟩ => exact Fin.ext (Nat.zero_add _).symm
  have h1 : ix6_1 (ix2 r e) = ix2 r (⟨e.val % 128, by omega⟩ : Fin 128) := by
    funext a
    match a with
    | ⟨0, _⟩ => rfl
    | ⟨1, _⟩ => exact Fin.ext (by first | rfl | exact Nat.add_comm _ _)
  have h2 : ix6_2 (ix2 r e) = ix2 r (⟨1024 + e.val, by omega⟩ : Fin 4736) := by
    funext a
    match a with
    | ⟨0, _⟩ => rfl
    | ⟨1, _⟩ => exact Fin.ext (by first | rfl | exact Nat.add_comm _ _)
  have h3 : ix6_3 (ix2 r e) = ix2 r (⟨e.val % 128, by omega⟩ : Fin 128) := by
    funext a
    match a with
    | ⟨0, _⟩ => rfl
    | ⟨1, _⟩ => exact Fin.ext (by first | rfl | exact Nat.add_comm _ _)
  show (k0_pay3 (F := Ideal) (iblk m c 0 t) (iblk m c 1 t) (iblk m c 2 t) (ix6_0 (ix2 r e)) * iblk m c 3 t (ix6_1 (ix2 r e))
    + k0_pay3 (F := Ideal) (iblk m c 0 t) (iblk m c 1 t) (iblk m c 2 t) (ix6_2 (ix2 r e)) * iblk m c 4 t (ix6_3 (ix2 r e)) : EReal) = _
  rw [h0, h1, h2, h3]
  exact rotated_at m c hm t r R hR _ _ _ 0 e.val (by first | (dsimp only; omega) | (rw [single_mod]; dsimp only; omega))
    (fun k => (piece_v18 m c k e _ (by dsimp only <;> omega)).trans (v18 m c k e))
    (fun k => (piece_v68 m c k e _ (by dsimp only)).trans (v68 m c k e))

theorem covers_qr : (cfg0.win 6).Covers := by decide +kernel

theorem final_qr (c : Dev nD) (hm : RealArgs m c) : (dats m 0 c).arrAt 6 (cfgs 0).N = fun i : S32768x1024.Idx => rotated (m ((c : Thread nD τ).loc main_arg0)) (m ((c : Thread nD τ).loc main_arg1)) (m ((c : Thread nD τ).loc main_arg2)) (i 0) 0 (i 1).val := by
  refine (dats m 0 c).arrAt_eq_of_covers 6 _ covers_qr fun t hf y => ?_
  blk_simp
  rw [after0_6]
  obtain ⟨r, e, rfl⟩ : ∃ (r : Fin 256) (e : Fin 1024), y = ix2 r e := ⟨y 0, y 1, by funext a; match a with | ⟨0, _⟩ => rfl | ⟨1, _⟩ => rfl⟩
  refine (point_qr m c hm t r e ((((cfg0.win 6).blk t).view.emb (ix2 r e)) 0) (by blk_simp [idx_out t])).trans ?_
  refine congrArg (fun z : ℕ => rotated (m ((c : Thread nD τ).loc main_arg0)) (m ((c : Thread nD τ).loc main_arg1)) (m ((c : Thread nD τ).loc main_arg2)) ((((cfg0.win 6).blk t).view.emb (ix2 r e)) 0) 0 z) ?_
  blk_simp [idx_out t]

/-- What the stores of window 7 leave. -/
theorem stored_ck (X : FVec Ideal S256x1024 .f32) (G : FVec Ideal S1x1024 .f32) (P : FVec Ideal S1024x4736 .bf16) (U T : FVec Ideal S256x128 .f32) (y : S256x128.Idx) :
    out0_7 (F := Ideal) X G P U T y = E7 (F := Ideal) X G P y := by
  unfold_out out0_7
  refine (canon7_eq _ _ _ y).trans ?_
  frame_out

theorem point_ck (c : Dev nD) (t : Fin cfg0.N) (r : Fin 256) (e : Fin 128) (R : Fin 32768) (hR : R.val = t.val * 256 + r.val) :
    out0_7 (F := Ideal) (iblk m c 0 t) (iblk m c 1 t) (iblk m c 2 t) (iblk m c 3 t) (iblk m c 4 t) (ix2 r e) = projected (m ((c : Thread nD τ).loc main_arg0)) (m ((c : Thread nD τ).loc main_arg1)) (m ((c : Thread nD τ).loc main_arg2)) R (1024 + e.val) := by
  have he := e.isLt
  rw [stored_ck]
  have h0 : ix7_0 (ix2 r e) = ix2 r (⟨2048 + e.val, by omega⟩ : Fin 4736) := by
    funext a
    match a with
    | ⟨0, _⟩ => rfl
    | ⟨1, _⟩ => exact Fin.ext (by first | rfl | exact Nat.add_comm _ _)
  show k0_pay3 (F := Ideal) (iblk m c 0 t) (iblk m c 1 t) (iblk m c 2 t) (ix7_0 (ix2 r e)) = _
  rw [h0]
  refine (product_at m c t r R hR _ _ (fun k => (piece_v19 m c k e _ (by dsimp only)).trans (v19 m c k e))).trans ?_
  rfl

theorem covers_ck : (cfg0.win 7).Covers := by decide +kernel

theorem final_ck (c : Dev nD) : (dats m 0 c).arrAt 7 (cfgs 0).N = fun i : S32768x128.Idx => projected (m ((c : Thread nD τ).loc main_arg0)) (m ((c : Thread nD τ).loc main_arg1)) (m ((c : Thread nD τ).loc main_arg2)) (i 0) (1024 + (i 1).val) := by
  refine (dats m 0 c).arrAt_eq_of_covers 7 _ covers_ck fun t hf y => ?_
  blk_simp
  rw [after0_7]
  obtain ⟨r, e, rfl⟩ : ∃ (r : Fin 256) (e : Fin 128), y = ix2 r e := ⟨y 0, y 1, by funext a; match a with | ⟨0, _⟩ => rfl | ⟨1, _⟩ => rfl⟩
  refine (point_ck m c t r e ((((cfg0.win 7).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg2)) ((((cfg0.win 7).blk t).view.emb (ix2 r e)) 0) (1024 + z)) ?_
  blk_simp [idx_out t]

/-- What the stores of window 8 leave. -/
theorem stored_cv (X : FVec Ideal S256x1024 .f32) (G : FVec Ideal S1x1024 .f32) (P : FVec Ideal S1024x4736 .bf16) (U T : FVec Ideal S256x128 .f32) (y : S256x128.Idx) :
    out0_8 (F := Ideal) X G P U T y = E8 (F := Ideal) X G P y := by
  unfold_out out0_8
  refine (canon8_eq _ _ _ y).trans ?_
  frame_out

theorem point_cv (c : Dev nD) (t : Fin cfg0.N) (r : Fin 256) (e : Fin 128) (R : Fin 32768) (hR : R.val = t.val * 256 + r.val) :
    out0_8 (F := Ideal) (iblk m c 0 t) (iblk m c 1 t) (iblk m c 2 t) (iblk m c 3 t) (iblk m c 4 t) (ix2 r e) = projected (m ((c : Thread nD τ).loc main_arg0)) (m ((c : Thread nD τ).loc main_arg1)) (m ((c : Thread nD τ).loc main_arg2)) R (1152 + e.val) := by
  have he := e.isLt
  rw [stored_cv]
  have h0 : ix8_0 (ix2 r e) = ix2 r (⟨2176 + e.val, by omega⟩ : Fin 4736) := by
    funext a
    match a with
    | ⟨0, _⟩ => rfl
    | ⟨1, _⟩ => exact Fin.ext (by first | rfl | exact Nat.add_comm _ _)
  show k0_pay3 (F := Ideal) (iblk m c 0 t) (iblk m c 1 t) (iblk m c 2 t) (ix8_0 (ix2 r e)) = _
  rw [h0]
  refine (product_at m c t r R hR _ _ (fun k => (piece_v20 m c k e _ (by dsimp only)).trans (v20 m c k e))).trans ?_
  rfl

theorem covers_cv : (cfg0.win 8).Covers := by decide +kernel

theorem final_cv (c : Dev nD) : (dats m 0 c).arrAt 8 (cfgs 0).N = fun i : S32768x128.Idx => projected (m ((c : Thread nD τ).loc main_arg0)) (m ((c : Thread nD τ).loc main_arg1)) (m ((c : Thread nD τ).loc main_arg2)) (i 0) (1152 + (i 1).val) := by
  refine (dats m 0 c).arrAt_eq_of_covers 8 _ covers_cv fun t hf y => ?_
  blk_simp
  rw [after0_8]
  obtain ⟨r, e, rfl⟩ : ∃ (r : Fin 256) (e : Fin 128), y = ix2 r e := ⟨y 0, y 1, by funext a; match a with | ⟨0, _⟩ => rfl | ⟨1, _⟩ => rfl⟩
  refine (point_cv m c t r e ((((cfg0.win 8).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg2)) ((((cfg0.win 8).blk t).view.emb (ix2 r e)) 0) (1152 + z)) ?_
  blk_simp [idx_out t]

/-- What the stores of window 9 leave. -/
theorem stored_sk (X : FVec Ideal S256x1024 .f32) (G : FVec Ideal S1x1024 .f32) (P : FVec Ideal S1024x4736 .bf16) (U T : FVec Ideal S256x128 .f32) (y : S256x128.Idx) :
    out0_9 (F := Ideal) X G P U T y = E9 (F := Ideal) X G P U T y := by
  unfold_out out0_9
  refine (canon9_eq _ _ _ _ _ y).trans ?_
  frame_out

theorem point_sk (c : Dev nD) (hm : RealArgs m c) (t : Fin cfg0.N) (r : Fin 256) (e : Fin 128) (R : Fin 32768) (hR : R.val = t.val * 256 + r.val) :
    out0_9 (F := Ideal) (iblk m c 0 t) (iblk m c 1 t) (iblk m c 2 t) (iblk m c 3 t) (iblk m c 4 t) (ix2 r e) = rotated (m ((c : Thread nD τ).loc main_arg0)) (m ((c : Thread nD τ).loc main_arg1)) (m ((c : Thread nD τ).loc main_arg2)) R 1280 e.val := by
  have he := e.isLt
  rw [stored_sk]
  have h0 : ix9_0 (ix2 r e) = ix2 r (⟨2304 + e.val, by omega⟩ : Fin 4736) := by
    funext a
    match a with
    | ⟨0, _⟩ => rfl
    | ⟨1, _⟩ => exact Fin.ext (by first | rfl | exact Nat.add_comm _ _)
  have h1 : ix9_1 (ix2 r e) = ix2 r (⟨e.val, by omega⟩ : Fin 128) := by
    funext a
    match a with
    | ⟨0, _⟩ => rfl
    | ⟨1, _⟩ => exact Fin.ext (by first | rfl | exact Nat.add_comm _ _)
  have h2 : ix9_2 (ix2 r e) = ix2 r (⟨2432 + e.val, by omega⟩ : Fin 4736) := by
    funext a
    match a with
    | ⟨0, _⟩ => rfl
    | ⟨1, _⟩ => exact Fin.ext (by first | rfl | exact Nat.add_comm _ _)
  have h3 : ix9_3 (ix2 r e) = ix2 r (⟨e.val, by omega⟩ : Fin 128) := by
    funext a
    match a with
    | ⟨0, _⟩ => rfl
    | ⟨1, _⟩ => exact Fin.ext (by first | rfl | exact Nat.add_comm _ _)
  show (k0_pay3 (F := Ideal) (iblk m c 0 t) (iblk m c 1 t) (iblk m c 2 t) (ix9_0 (ix2 r e)) * iblk m c 3 t (ix9_1 (ix2 r e))
    + k0_pay3 (F := Ideal) (iblk m c 0 t) (iblk m c 1 t) (iblk m c 2 t) (ix9_2 (ix2 r e)) * iblk m c 4 t (ix9_3 (ix2 r e)) : EReal) = _
  rw [h0, h1, h2, h3]
  exact rotated_at m c hm t r R hR _ _ _ 1280 e.val (by dsimp only)
    (fun k => (piece_v21 m c k e _ (by dsimp only)).trans (v21 m c k e))
    (fun k => (piece_v33 m c k e _ (by dsimp only)).trans (v33 m c k e))

theorem covers_sk : (cfg0.win 9).Covers := by decide +kernel

theorem final_sk (c : Dev nD) (hm : RealArgs m c) : (dats m 0 c).arrAt 9 (cfgs 0).N = fun i : S32768x128.Idx => rotated (m ((c : Thread nD τ).loc main_arg0)) (m ((c : Thread nD τ).loc main_arg1)) (m ((c : Thread nD τ).loc main_arg2)) (i 0) 1280 (i 1).val := by
  refine (dats m 0 c).arrAt_eq_of_covers 9 _ covers_sk fun t hf y => ?_
  blk_simp
  rw [after0_9]
  obtain ⟨r, e, rfl⟩ : ∃ (r : Fin 256) (e : Fin 128), y = ix2 r e := ⟨y 0, y 1, by funext a; match a with | ⟨0, _⟩ => rfl | ⟨1, _⟩ => rfl⟩
  refine (point_sk m c hm t r e ((((cfg0.win 9).blk t).view.emb (ix2 r e)) 0) (by blk_simp [idx_out t])).trans ?_
  refine congrArg (fun z : ℕ => rotated (m ((c : Thread nD τ).loc main_arg0)) (m ((c : Thread nD τ).loc main_arg1)) (m ((c : Thread nD τ).loc main_arg2)) ((((cfg0.win 9).blk t).view.emb (ix2 r e)) 0) 1280 z) ?_
  blk_simp [idx_out t]

/-- What the stores of window 10 leave. -/
theorem stored_sv (X : FVec Ideal S256x1024 .f32) (G : FVec Ideal S1x1024 .f32) (P : FVec Ideal S1024x4736 .bf16) (U T : FVec Ideal S256x128 .f32) (y : S256x128.Idx) :
    out0_10 (F := Ideal) X G P U T y = E10 (F := Ideal) X G P y := by
  unfold_out out0_10
  refine (canon10_eq _ _ _ y).trans ?_
  frame_out

theorem point_sv (c : Dev nD) (t : Fin cfg0.N) (r : Fin 256) (e : Fin 128) (R : Fin 32768) (hR : R.val = t.val * 256 + r.val) :
    out0_10 (F := Ideal) (iblk m c 0 t) (iblk m c 1 t) (iblk m c 2 t) (iblk m c 3 t) (iblk m c 4 t) (ix2 r e) = projected (m ((c : Thread nD τ).loc main_arg0)) (m ((c : Thread nD τ).loc main_arg1)) (m ((c : Thread nD τ).loc main_arg2)) R (1408 + e.val) := by
  have he := e.isLt
  rw [stored_sv]
  have h0 : ix10_0 (ix2 r e) = ix2 r (⟨2560 + e.val, by omega⟩ : Fin 4736) := by
    funext a
    match a with
    | ⟨0, _⟩ => rfl
    | ⟨1, _⟩ => exact Fin.ext (by first | rfl | exact Nat.add_comm _ _)
  show k0_pay3 (F := Ideal) (iblk m c 0 t) (iblk m c 1 t) (iblk m c 2 t) (ix10_0 (ix2 r e)) = _
  rw [h0]
  refine (product_at m c t r R hR _ _ (fun k => (piece_v22 m c k e _ (by dsimp only)).trans (v22 m c k e))).trans ?_
  rfl

theorem covers_sv : (cfg0.win 10).Covers := by decide +kernel

theorem final_sv (c : Dev nD) : (dats m 0 c).arrAt 10 (cfgs 0).N = fun i : S32768x128.Idx => projected (m ((c : Thread nD τ).loc main_arg0)) (m ((c : Thread nD τ).loc main_arg1)) (m ((c : Thread nD τ).loc main_arg2)) (i 0) (1408 + (i 1).val) := by
  refine (dats m 0 c).arrAt_eq_of_covers 10 _ covers_sv fun t hf y => ?_
  blk_simp
  rw [after0_10]
  obtain ⟨r, e, rfl⟩ : ∃ (r : Fin 256) (e : Fin 128), y = ix2 r e := ⟨y 0, y 1, by funext a; match a with | ⟨0, _⟩ => rfl | ⟨1, _⟩ => rfl⟩
  refine (point_sv m c t r e ((((cfg0.win 10).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg2)) ((((cfg0.win 10).blk t).view.emb (ix2 r e)) 0) (1408 + z)) ?_
  blk_simp [idx_out t]

/-- What the stores of window 11 leave. -/
theorem stored_wk (X : FVec Ideal S256x1024 .f32) (G : FVec Ideal S1x1024 .f32) (P : FVec Ideal S1024x4736 .bf16) (U T : FVec Ideal S256x128 .f32) (y : S256x128.Idx) :
    out0_11 (F := Ideal) X G P U T y = E11 (F := Ideal) X G P U T y := by
  unfold_out out0_11
  refine (canon11_eq _ _ _ _ _ y).trans ?_
  frame_out

theorem point_wk (c : Dev nD) (hm : RealArgs m c) (t : Fin cfg0.N) (r : Fin 256) (e : Fin 128) (R : Fin 32768) (hR : R.val = t.val * 256 + r.val) :
    out0_11 (F := Ideal) (iblk m c 0 t) (iblk m c 1 t) (iblk m c 2 t) (iblk m c 3 t) (iblk m c 4 t) (ix2 r e) = rotated (m ((c : Thread nD τ).loc main_arg0)) (m ((c : Thread nD τ).loc main_arg1)) (m ((c : Thread nD τ).loc main_arg2)) R 1536 e.val := by
  have he := e.isLt
  rw [stored_wk]
  have h0 : ix11_0 (ix2 r e) = ix2 r (⟨2688 + e.val, by omega⟩ : Fin 4736) := by
    funext a
    match a with
    | ⟨0, _⟩ => rfl
    | ⟨1, _⟩ => exact Fin.ext (by first | rfl | exact Nat.add_comm _ _)
  have h1 : ix11_1 (ix2 r e) = ix2 r (⟨e.val, by omega⟩ : Fin 128) := by
    funext a
    match a with
    | ⟨0, _⟩ => rfl
    | ⟨1, _⟩ => exact Fin.ext (by first | rfl | exact Nat.add_comm _ _)
  have h2 : ix11_2 (ix2 r e) = ix2 r (⟨2816 + e.val, by omega⟩ : Fin 4736) := by
    funext a
    match a with
    | ⟨0, _⟩ => rfl
    | ⟨1, _⟩ => exact Fin.ext (by first | rfl | exact Nat.add_comm _ _)
  have h3 : ix11_3 (ix2 r e) = ix2 r (⟨e.val, by omega⟩ : Fin 128) := by
    funext a
    match a with
    | ⟨0, _⟩ => rfl
    | ⟨1, _⟩ => exact Fin.ext (by first | rfl | exact Nat.add_comm _ _)
  show (k0_pay3 (F := Ideal) (iblk m c 0 t) (iblk m c 1 t) (iblk m c 2 t) (ix11_0 (ix2 r e)) * iblk m c 3 t (ix11_1 (ix2 r e))
    + k0_pay3 (F := Ideal) (iblk m c 0 t) (iblk m c 1 t) (iblk m c 2 t) (ix11_2 (ix2 r e)) * iblk m c 4 t (ix11_3 (ix2 r e)) : EReal) = _
  rw [h0, h1, h2, h3]
  exact rotated_at m c hm t r R hR _ _ _ 1536 e.val (by dsimp only)
    (fun k => (piece_v23 m c k e _ (by dsimp only)).trans (v23 m c k e))
    (fun k => (piece_v41 m c k e _ (by dsimp only)).trans (v41 m c k e))

theorem covers_wk : (cfg0.win 11).Covers := by decide +kernel

theorem final_wk (c : Dev nD) (hm : RealArgs m c) : (dats m 0 c).arrAt 11 (cfgs 0).N = fun i : S32768x128.Idx => rotated (m ((c : Thread nD τ).loc main_arg0)) (m ((c : Thread nD τ).loc main_arg1)) (m ((c : Thread nD τ).loc main_arg2)) (i 0) 1536 (i 1).val := by
  refine (dats m 0 c).arrAt_eq_of_covers 11 _ covers_wk fun t hf y => ?_
  blk_simp
  rw [after0_11]
  obtain ⟨r, e, rfl⟩ : ∃ (r : Fin 256) (e : Fin 128), y = ix2 r e := ⟨y 0, y 1, by funext a; match a with | ⟨0, _⟩ => rfl | ⟨1, _⟩ => rfl⟩
  refine (point_wk m c hm t r e ((((cfg0.win 11).blk t).view.emb (ix2 r e)) 0) (by blk_simp [idx_out t])).trans ?_
  refine congrArg (fun z : ℕ => rotated (m ((c : Thread nD τ).loc main_arg0)) (m ((c : Thread nD τ).loc main_arg1)) (m ((c : Thread nD τ).loc main_arg2)) ((((cfg0.win 11).blk t).view.emb (ix2 r e)) 0) 1536 z) ?_
  blk_simp [idx_out t]

/-- What the stores of window 12 leave. -/
theorem stored_wv (X : FVec Ideal S256x1024 .f32) (G : FVec Ideal S1x1024 .f32) (P : FVec Ideal S1024x4736 .bf16) (U T : FVec Ideal S256x128 .f32) (y : S256x128.Idx) :
    out0_12 (F := Ideal) X G P U T y = E12 (F := Ideal) X G P y := by
  unfold_out out0_12
  refine (canon12_eq _ _ _ y).trans ?_
  frame_out

theorem point_wv (c : Dev nD) (t : Fin cfg0.N) (r : Fin 256) (e : Fin 128) (R : Fin 32768) (hR : R.val = t.val * 256 + r.val) :
    out0_12 (F := Ideal) (iblk m c 0 t) (iblk m c 1 t) (iblk m c 2 t) (iblk m c 3 t) (iblk m c 4 t) (ix2 r e) = projected (m ((c : Thread nD τ).loc main_arg0)) (m ((c : Thread nD τ).loc main_arg1)) (m ((c : Thread nD τ).loc main_arg2)) R (1664 + e.val) := by
  have he := e.isLt
  rw [stored_wv]
  have h0 : ix12_0 (ix2 r e) = ix2 r (⟨2944 + e.val, by omega⟩ : Fin 4736) := by
    funext a
    match a with
    | ⟨0, _⟩ => rfl
    | ⟨1, _⟩ => exact Fin.ext (by first | rfl | exact Nat.add_comm _ _)
  show k0_pay3 (F := Ideal) (iblk m c 0 t) (iblk m c 1 t) (iblk m c 2 t) (ix12_0 (ix2 r e)) = _
  rw [h0]
  refine (product_at m c t r R hR _ _ (fun k => (piece_v24 m c k e _ (by dsimp only)).trans (v24 m c k e))).trans ?_
  rfl

theorem covers_wv : (cfg0.win 12).Covers := by decide +kernel

theorem final_wv (c : Dev nD) : (dats m 0 c).arrAt 12 (cfgs 0).N = fun i : S32768x128.Idx => projected (m ((c : Thread nD τ).loc main_arg0)) (m ((c : Thread nD τ).loc main_arg1)) (m ((c : Thread nD τ).loc main_arg2)) (i 0) (1664 + (i 1).val) := by
  refine (dats m 0 c).arrAt_eq_of_covers 12 _ covers_wv fun t hf y => ?_
  blk_simp
  rw [after0_12]
  obtain ⟨r, e, rfl⟩ : ∃ (r : Fin 256) (e : Fin 128), y = ix2 r e := ⟨y 0, y 1, by funext a; match a with | ⟨0, _⟩ => rfl | ⟨1, _⟩ => rfl⟩
  refine (point_wv m c t r e ((((cfg0.win 12).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg2)) ((((cfg0.win 12).blk t).view.emb (ix2 r e)) 0) (1664 + z)) ?_
  blk_simp [idx_out t]

/-- What the stores of window 13 leave. -/
theorem stored_gates (X : FVec Ideal S256x1024 .f32) (G : FVec Ideal S1x1024 .f32) (P : FVec Ideal S1024x4736 .bf16) (U T : FVec Ideal S256x128 .f32) (y : S256x128.Idx) :
    out0_13 (F := Ideal) X G P U T y = E13 (F := Ideal) X G P y := by
  unfold_out out0_13
  refine (canon13_eq _ _ _ y).trans ?_
  frame_out

theorem point_gates (c : Dev nD) (t : Fin cfg0.N) (r : Fin 256) (e : Fin 128) (R : Fin 32768) (hR : R.val = t.val * 256 + r.val) :
    out0_13 (F := Ideal) (iblk m c 0 t) (iblk m c 1 t) (iblk m c 2 t) (iblk m c 3 t) (iblk m c 4 t) (ix2 r e) = gate (m ((c : Thread nD τ).loc main_arg0)) (m ((c : Thread nD τ).loc main_arg1)) (m ((c : Thread nD τ).loc main_arg2)) R e.val := by
  have he := e.isLt
  rw [stored_gates]
  have h0 : ix13_0 (ix2 r e) = ix2 r (⟨3072 + e.val, by omega⟩ : Fin 4736) := by
    funext a
    match a with
    | ⟨0, _⟩ => rfl
    | ⟨1, _⟩ => exact Fin.ext (by first | rfl | exact Nat.add_comm _ _)
  show k0_pay3 (F := Ideal) (iblk m c 0 t) (iblk m c 1 t) (iblk m c 2 t) (ix13_0 (ix2 r e)) = _
  rw [h0]
  refine (product_at m c t r R hR _ _ (fun k => (piece_v69 m c k e _ (by dsimp only)).trans (v69 m c k e))).trans ?_
  unfold gate
  by_cases h : e.val < 48
  · simp only [if_pos h]
    rfl
  · simp only [if_neg h, mul_zero, Finset.sum_const_zero]

theorem covers_gates : (cfg0.win 13).Covers := by decide +kernel

theorem final_gates (c : Dev nD) : (dats m 0 c).arrAt 13 (cfgs 0).N = fun i : S32768x128.Idx => gate (m ((c : Thread nD τ).loc main_arg0)) (m ((c : Thread nD τ).loc main_arg1)) (m ((c : Thread nD τ).loc main_arg2)) (i 0) (i 1).val := by
  refine (dats m 0 c).arrAt_eq_of_covers 13 _ covers_gates fun t hf y => ?_
  blk_simp
  rw [after0_13]
  obtain ⟨r, e, rfl⟩ : ∃ (r : Fin 256) (e : Fin 128), y = ix2 r e := ⟨y 0, y 1, by funext a; match a with | ⟨0, _⟩ => rfl | ⟨1, _⟩ => rfl⟩
  refine (point_gates m c t r e ((((cfg0.win 13).blk t).view.emb (ix2 r e)) 0) (by blk_simp [idx_out t])).trans ?_
  refine congrArg (fun z : ℕ => gate (m ((c : Thread nD τ).loc main_arg0)) (m ((c : Thread nD τ).loc main_arg1)) (m ((c : Thread nD τ).loc main_arg2)) ((((cfg0.win 13).blk t).view.emb (ix2 r e)) 0) z) ?_
  blk_simp [idx_out t]

/-- What the stores of window 14 leave. -/
theorem stored_skd (X : FVec Ideal S256x1024 .f32) (G : FVec Ideal S1x1024 .f32) (P : FVec Ideal S1024x4736 .bf16) (U T : FVec Ideal S256x128 .f32) (y : S256x256.Idx) :
    out0_14 (F := Ideal) X G P U T y = E14 (F := Ideal) X G P U T y := by
  unfold_out out0_14
  refine (canon14_eq _ _ _ _ _ y).trans ?_
  frame_out

theorem point_skd (c : Dev nD) (hm : RealArgs m c) (t : Fin cfg0.N) (r : Fin 256) (e : Fin 256) (R : Fin 32768) (hR : R.val = t.val * 256 + r.val) :
    out0_14 (F := Ideal) (iblk m c 0 t) (iblk m c 1 t) (iblk m c 2 t) (iblk m c 3 t) (iblk m c 4 t) (ix2 r e) = rotated (m ((c : Thread nD τ).loc main_arg0)) (m ((c : Thread nD τ).loc main_arg1)) (m ((c : Thread nD τ).loc main_arg2)) R 1280 (single e.val) := by
  have he := e.isLt
  rw [stored_skd]
  have h0 : ix14_0 (ix2 r e) = ix2 r (⟨3200 + e.val, by omega⟩ : Fin 4736) := by
    funext a
    match a with
    | ⟨0, _⟩ => rfl
    | ⟨1, _⟩ => exact Fin.ext (by first | rfl | exact Nat.add_comm _ _)
  have h1 : ix14_1 (ix2 r e) = ix2 r (⟨e.val % 128, by omega⟩ : Fin 128) := by
    funext a
    match a with
    | ⟨0, _⟩ => rfl
    | ⟨1, _⟩ => exact Fin.ext (by first | rfl | exact Nat.add_comm _ _)
  have h2 : ix14_2 (ix2 r e) = ix2 r (⟨3456 + e.val, by omega⟩ : Fin 4736) := by
    funext a
    match a with
    | ⟨0, _⟩ => rfl
    | ⟨1, _⟩ => exact Fin.ext (by first | rfl | exact Nat.add_comm _ _)
  have h3 : ix14_3 (ix2 r e) = ix2 r (⟨e.val % 128, by omega⟩ : Fin 128) := by
    funext a
    match a with
    | ⟨0, _⟩ => rfl
    | ⟨1, _⟩ => exact Fin.ext (by first | rfl | exact Nat.add_comm _ _)
  show (k0_pay3 (F := Ideal) (iblk m c 0 t) (iblk m c 1 t) (iblk m c 2 t) (ix14_0 (ix2 r e)) * iblk m c 3 t (ix14_1 (ix2 r e))
    + k0_pay3 (F := Ideal) (iblk m c 0 t) (iblk m c 1 t) (iblk m c 2 t) (ix14_2 (ix2 r e)) * iblk m c 4 t (ix14_3 (ix2 r e)) : EReal) = _
  rw [h0, h1, h2, h3]
  exact rotated_at m c hm t r R hR _ _ _ 1280 (single e.val) (by first | (dsimp only; omega) | (rw [single_mod]; dsimp only; omega))
    (fun k => (piece_v60 m c k ⟨0 + e.val, by omega⟩ _ (by dsimp only; omega)).trans ((piece_v44 m c k e _ (by dsimp only)).trans (v44 m c k e)))
    (fun k => (piece_v60 m c k ⟨256 + e.val, by omega⟩ _ (by dsimp only; omega)).trans ((piece_v47 m c k e _ (by dsimp only)).trans (v47 m c k e)))

theorem covers_skd : (cfg0.win 14).Covers := by decide +kernel

theorem final_skd (c : Dev nD) (hm : RealArgs m c) : (dats m 0 c).arrAt 14 (cfgs 0).N = fun i : S32768x256.Idx => rotated (m ((c : Thread nD τ).loc main_arg0)) (m ((c : Thread nD τ).loc main_arg1)) (m ((c : Thread nD τ).loc main_arg2)) (i 0) 1280 (single (i 1).val) := by
  refine (dats m 0 c).arrAt_eq_of_covers 14 _ covers_skd fun t hf y => ?_
  blk_simp
  rw [after0_14]
  obtain ⟨r, e, rfl⟩ : ∃ (r : Fin 256) (e : Fin 256), y = ix2 r e := ⟨y 0, y 1, by funext a; match a with | ⟨0, _⟩ => rfl | ⟨1, _⟩ => rfl⟩
  refine (point_skd m c hm t r e ((((cfg0.win 14).blk t).view.emb (ix2 r e)) 0) (by blk_simp [idx_out t])).trans ?_
  refine congrArg (fun z : ℕ => rotated (m ((c : Thread nD τ).loc main_arg0)) (m ((c : Thread nD τ).loc main_arg1)) (m ((c : Thread nD τ).loc main_arg2)) ((((cfg0.win 14).blk t).view.emb (ix2 r e)) 0) 1280 (single z)) ?_
  blk_simp [idx_out t]

/-- What the stores of window 15 leave. -/
theorem stored_svd (X : FVec Ideal S256x1024 .f32) (G : FVec Ideal S1x1024 .f32) (P : FVec Ideal S1024x4736 .bf16) (U T : FVec Ideal S256x128 .f32) (y : S256x256.Idx) :
    out0_15 (F := Ideal) X G P U T y = E15 (F := Ideal) X G P y := by
  unfold_out out0_15
  refine (canon15_eq _ _ _ y).trans ?_
  frame_out

theorem point_svd (c : Dev nD) (t : Fin cfg0.N) (r : Fin 256) (e : Fin 256) (R : Fin 32768) (hR : R.val = t.val * 256 + r.val) :
    out0_15 (F := Ideal) (iblk m c 0 t) (iblk m c 1 t) (iblk m c 2 t) (iblk m c 3 t) (iblk m c 4 t) (ix2 r e) = projected (m ((c : Thread nD τ).loc main_arg0)) (m ((c : Thread nD τ).loc main_arg1)) (m ((c : Thread nD τ).loc main_arg2)) R (1408 + single e.val) := by
  have he := e.isLt
  rw [stored_svd]
  have h0 : ix15_0 (ix2 r e) = ix2 r (⟨3712 + e.val, by omega⟩ : Fin 4736) := by
    funext a
    match a with
    | ⟨0, _⟩ => rfl
    | ⟨1, _⟩ => exact Fin.ext (by first | rfl | exact Nat.add_comm _ _)
  show k0_pay3 (F := Ideal) (iblk m c 0 t) (iblk m c 1 t) (iblk m c 2 t) (ix15_0 (ix2 r e)) = _
  rw [h0]
  refine (product_at m c t r R hR _ _ (fun k => (piece_v60 m c k ⟨512 + e.val, by omega⟩ _ (by dsimp only; omega)).trans ((piece_v50 m c k e _ (by dsimp only)).trans (v50 m c k e)))).trans ?_
  rfl

theorem covers_svd : (cfg0.win 15).Covers := by decide +kernel

theorem final_svd (c : Dev nD) : (dats m 0 c).arrAt 15 (cfgs 0).N = fun i : S32768x256.Idx => projected (m ((c : Thread nD τ).loc main_arg0)) (m ((c : Thread nD τ).loc main_arg1)) (m ((c : Thread nD τ).loc main_arg2)) (i 0) (1408 + single (i 1).val) := by
  refine (dats m 0 c).arrAt_eq_of_covers 15 _ covers_svd fun t hf y => ?_
  blk_simp
  rw [after0_15]
  obtain ⟨r, e, rfl⟩ : ∃ (r : Fin 256) (e : Fin 256), y = ix2 r e := ⟨y 0, y 1, by funext a; match a with | ⟨0, _⟩ => rfl | ⟨1, _⟩ => rfl⟩
  refine (point_svd m c t r e ((((cfg0.win 15).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg2)) ((((cfg0.win 15).blk t).view.emb (ix2 r e)) 0) (1408 + single z)) ?_
  blk_simp [idx_out t]

/-- What the stores of window 16 leave. -/
theorem stored_wkd (X : FVec Ideal S256x1024 .f32) (G : FVec Ideal S1x1024 .f32) (P : FVec Ideal S1024x4736 .bf16) (U T : FVec Ideal S256x128 .f32) (y : S256x256.Idx) :
    out0_16 (F := Ideal) X G P U T y = E16 (F := Ideal) X G P U T y := by
  unfold_out out0_16
  refine (canon16_eq _ _ _ _ _ y).trans ?_
  frame_out

theorem point_wkd (c : Dev nD) (hm : RealArgs m c) (t : Fin cfg0.N) (r : Fin 256) (e : Fin 256) (R : Fin 32768) (hR : R.val = t.val * 256 + r.val) :
    out0_16 (F := Ideal) (iblk m c 0 t) (iblk m c 1 t) (iblk m c 2 t) (iblk m c 3 t) (iblk m c 4 t) (ix2 r e) = rotated (m ((c : Thread nD τ).loc main_arg0)) (m ((c : Thread nD τ).loc main_arg1)) (m ((c : Thread nD τ).loc main_arg2)) R 1536 (single e.val) := by
  have he := e.isLt
  rw [stored_wkd]
  have h0 : ix16_0 (ix2 r e) = ix2 r (⟨3968 + e.val, by omega⟩ : Fin 4736) := by
    funext a
    match a with
    | ⟨0, _⟩ => rfl
    | ⟨1, _⟩ => exact Fin.ext (by first | rfl | exact Nat.add_comm _ _)
  have h1 : ix16_1 (ix2 r e) = ix2 r (⟨e.val % 128, by omega⟩ : Fin 128) := by
    funext a
    match a with
    | ⟨0, _⟩ => rfl
    | ⟨1, _⟩ => exact Fin.ext (by first | rfl | exact Nat.add_comm _ _)
  have h2 : ix16_2 (ix2 r e) = ix2 r (⟨4224 + e.val, by omega⟩ : Fin 4736) := by
    funext a
    match a with
    | ⟨0, _⟩ => rfl
    | ⟨1, _⟩ => exact Fin.ext (by first | rfl | exact Nat.add_comm _ _)
  have h3 : ix16_3 (ix2 r e) = ix2 r (⟨e.val % 128, by omega⟩ : Fin 128) := by
    funext a
    match a with
    | ⟨0, _⟩ => rfl
    | ⟨1, _⟩ => exact Fin.ext (by first | rfl | exact Nat.add_comm _ _)
  show (k0_pay3 (F := Ideal) (iblk m c 0 t) (iblk m c 1 t) (iblk m c 2 t) (ix16_0 (ix2 r e)) * iblk m c 3 t (ix16_1 (ix2 r e))
    + k0_pay3 (F := Ideal) (iblk m c 0 t) (iblk m c 1 t) (iblk m c 2 t) (ix16_2 (ix2 r e)) * iblk m c 4 t (ix16_3 (ix2 r e)) : EReal) = _
  rw [h0, h1, h2, h3]
  exact rotated_at m c hm t r R hR _ _ _ 1536 (single e.val) (by first | (dsimp only; omega) | (rw [single_mod]; dsimp only; omega))
    (fun k => (piece_v60 m c k ⟨768 + e.val, by omega⟩ _ (by dsimp only; omega)).trans ((piece_v53 m c k e _ (by dsimp only)).trans (v53 m c k e)))
    (fun k => (piece_v60 m c k ⟨1024 + e.val, by omega⟩ _ (by dsimp only; omega)).trans ((piece_v56 m c k e _ (by dsimp only)).trans (v56 m c k e)))

theorem covers_wkd : (cfg0.win 16).Covers := by decide +kernel

theorem final_wkd (c : Dev nD) (hm : RealArgs m c) : (dats m 0 c).arrAt 16 (cfgs 0).N = fun i : S32768x256.Idx => rotated (m ((c : Thread nD τ).loc main_arg0)) (m ((c : Thread nD τ).loc main_arg1)) (m ((c : Thread nD τ).loc main_arg2)) (i 0) 1536 (single (i 1).val) := by
  refine (dats m 0 c).arrAt_eq_of_covers 16 _ covers_wkd fun t hf y => ?_
  blk_simp
  rw [after0_16]
  obtain ⟨r, e, rfl⟩ : ∃ (r : Fin 256) (e : Fin 256), y = ix2 r e := ⟨y 0, y 1, by funext a; match a with | ⟨0, _⟩ => rfl | ⟨1, _⟩ => rfl⟩
  refine (point_wkd m c hm t r e ((((cfg0.win 16).blk t).view.emb (ix2 r e)) 0) (by blk_simp [idx_out t])).trans ?_
  refine congrArg (fun z : ℕ => rotated (m ((c : Thread nD τ).loc main_arg0)) (m ((c : Thread nD τ).loc main_arg1)) (m ((c : Thread nD τ).loc main_arg2)) ((((cfg0.win 16).blk t).view.emb (ix2 r e)) 0) 1536 (single z)) ?_
  blk_simp [idx_out t]

/-- What the stores of window 17 leave. -/
theorem stored_wvd (X : FVec Ideal S256x1024 .f32) (G : FVec Ideal S1x1024 .f32) (P : FVec Ideal S1024x4736 .bf16) (U T : FVec Ideal S256x128 .f32) (y : S256x256.Idx) :
    out0_17 (F := Ideal) X G P U T y = E17 (F := Ideal) X G P y := by
  unfold_out out0_17
  refine (canon17_eq _ _ _ y).trans ?_
  frame_out

theorem point_wvd (c : Dev nD) (t : Fin cfg0.N) (r : Fin 256) (e : Fin 256) (R : Fin 32768) (hR : R.val = t.val * 256 + r.val) :
    out0_17 (F := Ideal) (iblk m c 0 t) (iblk m c 1 t) (iblk m c 2 t) (iblk m c 3 t) (iblk m c 4 t) (ix2 r e) = projected (m ((c : Thread nD τ).loc main_arg0)) (m ((c : Thread nD τ).loc main_arg1)) (m ((c : Thread nD τ).loc main_arg2)) R (1664 + single e.val) := by
  have he := e.isLt
  rw [stored_wvd]
  have h0 : ix17_0 (ix2 r e) = ix2 r (⟨4480 + e.val, by omega⟩ : Fin 4736) := by
    funext a
    match a with
    | ⟨0, _⟩ => rfl
    | ⟨1, _⟩ => exact Fin.ext (by first | rfl | exact Nat.add_comm _ _)
  show k0_pay3 (F := Ideal) (iblk m c 0 t) (iblk m c 1 t) (iblk m c 2 t) (ix17_0 (ix2 r e)) = _
  rw [h0]
  refine (product_at m c t r R hR _ _ (fun k => (piece_v60 m c k ⟨1280 + e.val, by omega⟩ _ (by dsimp only; omega)).trans ((piece_v59 m c k e _ (by dsimp only)).trans (v59 m c k e)))).trans ?_
  rfl

theorem covers_wvd : (cfg0.win 17).Covers := by decide +kernel

theorem final_wvd (c : Dev nD) : (dats m 0 c).arrAt 17 (cfgs 0).N = fun i : S32768x256.Idx => projected (m ((c : Thread nD τ).loc main_arg0)) (m ((c : Thread nD τ).loc main_arg1)) (m ((c : Thread nD τ).loc main_arg2)) (i 0) (1664 + single (i 1).val) := by
  refine (dats m 0 c).arrAt_eq_of_covers 17 _ covers_wvd fun t hf y => ?_
  blk_simp
  rw [after0_17]
  obtain ⟨r, e, rfl⟩ : ∃ (r : Fin 256) (e : Fin 256), y = ix2 r e := ⟨y 0, y 1, by funext a; match a with | ⟨0, _⟩ => rfl | ⟨1, _⟩ => rfl⟩
  refine (point_wvd m c t r e ((((cfg0.win 17).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg2)) ((((cfg0.win 17).blk t).view.emb (ix2 r e)) 0) (1664 + single z)) ?_
  blk_simp [idx_out t]

end Cert.Odd
-- ==== Proof.Odd.Reference.lean ====
module

public import proofs.«01_k».proof.Proof.Gen.Reference7Ideal.Read
public import proofs.«01_k».proof.Proof.Odd.Rows

set_option maxRecDepth 16384

/-!
# What the reference of the odd layers' projection computes

Each of the thirteen results at one row and column, through the projection and its turned columns.
-/

@[expose] public section
noncomputable section
namespace Cert.Odd.Ref
open Idealize.ShloMosaic Idealize.ShloMosaic.TcCoe Idealize.SL.Sem

open Cert.Reference7Ideal Cert.Reference7Ideal.Gen Cert.Reference7Ideal.Read

variable (x : FVec Ideal S32768x1024 .f32) (g : FVec Ideal S1024 .f32) (w : FVec Ideal S1024x1840 .f32)

/-- The whole projection. -/
theorem product (R : Fin 32768) (C : Fin 1840) : val_main_v13 (F := Ideal) x g w (ix2 R C) = projected x g w R C.val := by
  unfold projected normal Ffn.rms
  simp only [fun k : Fin 1024 => col_of w k C.val C.isLt]
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem cos_q (p : Fin 4096) (j : Fin 32) : val_main_v36 (F := Ideal) (ix2 p j) = Ideal.cos (angle p.val j.val) := by
  unfold angle
  pointwise [val_main_v36, val_main_v35, val_main_v34, val_main_v33, val_main_v32, val_main_v31, val_main_v30, val_main_v29, val_main_v28, val_main_v27, val_main_v26, val_main_v25, val_main_v24, val_main_v23, val_main_cst_2, val_main_cst_3]

theorem sin_q (p : Fin 4096) (j : Fin 32) : val_main_v38 (F := Ideal) (ix2 p j) = Ideal.sin (angle p.val j.val) := by
  unfold angle
  pointwise [val_main_v38, val_main_v35, val_main_v34, val_main_v33, val_main_v32, val_main_v31, val_main_v30, val_main_v29, val_main_v28, val_main_v27, val_main_v26, val_main_v25, val_main_v24, val_main_v23, val_main_cst_2, val_main_cst_3]

theorem cos_sk (p : Fin 4096) (j : Fin 32) : val_main_v72 (F := Ideal) (ix2 p j) = Ideal.cos (angle p.val j.val) := by
  unfold angle
  pointwise [val_main_v72, val_main_v71, val_main_v70, val_main_v69, val_main_v68, val_main_v67, val_main_v66, val_main_v65, val_main_v64, val_main_v63, val_main_v62, val_main_v61, val_main_v60, val_main_v59, val_main_cst_4, val_main_cst_5]

theorem sin_sk (p : Fin 4096) (j : Fin 32) : val_main_v74 (F := Ideal) (ix2 p j) = Ideal.sin (angle p.val j.val) := by
  unfold angle
  pointwise [val_main_v74, val_main_v71, val_main_v70, val_main_v69, val_main_v68, val_main_v67, val_main_v66, val_main_v65, val_main_v64, val_main_v63, val_main_v62, val_main_v61, val_main_v60, val_main_v59, val_main_cst_4, val_main_cst_5]

theorem cos_wk (p : Fin 4096) (j : Fin 32) : val_main_v108 (F := Ideal) (ix2 p j) = Ideal.cos (angle p.val j.val) := by
  unfold angle
  pointwise [val_main_v108, val_main_v107, val_main_v106, val_main_v105, val_main_v104, val_main_v103, val_main_v102, val_main_v101, val_main_v100, val_main_v99, val_main_v98, val_main_v97, val_main_v96, val_main_v95, val_main_cst_6, val_main_cst_7]

theorem sin_wk (p : Fin 4096) (j : Fin 32) : val_main_v110 (F := Ideal) (ix2 p j) = Ideal.sin (angle p.val j.val) := by
  unfold angle
  pointwise [val_main_v110, val_main_v107, val_main_v106, val_main_v105, val_main_v104, val_main_v103, val_main_v102, val_main_v101, val_main_v100, val_main_v99, val_main_v98, val_main_v97, val_main_v96, val_main_v95, val_main_cst_6, val_main_cst_7]

/-- Two columns turned, whichever way their numbers are spelt. -/
theorem pair_sub (R : Fin 32768) {a a' b b' p p' j j' i : ℕ} (ha : a = a') (hb : b = b') (hp : p = p') (hj : j = j') (hi : i = j') :
    projected x g w R a * Ideal.cos (angle p j) - projected x g w R b * Ideal.sin (angle p i)
      = projected x g w R a' * Ideal.cos (angle p' j') - projected x g w R b' * Ideal.sin (angle p' j') := by
  subst ha hb hp hj hi
  rfl

theorem pair_add (R : Fin 32768) {a a' b b' p p' j j' i : ℕ} (ha : a = a') (hb : b = b') (hp : p = p') (hj : j = j') (hi : i = j') :
    projected x g w R a * Ideal.cos (angle p j) + projected x g w R b * Ideal.sin (angle p i)
      = projected x g w R a' * Ideal.cos (angle p' j') + projected x g w R b' * Ideal.sin (angle p' j') := by
  subst ha hb hp hj hi
  rfl

/-- The columns from 0 on, turned. -/
theorem turned_q (R : Fin 32768) (e : Fin 1024) : val_main_v57 (F := Ideal) x g w (ix2 R e) = rotated x g w R 0 e.val := by
  have he := e.isLt
  have hR := R.isLt
  unfold rotated
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v37, val_main_v22, val_main_v14]
  by_cases h : e.val % 64 < 32
  · simp only [dif_pos h, if_pos h, product, cos_q, sin_q]
    exact pair_sub x g w R (by omega) (by omega) (by omega) (by omega) (by omega)
  · simp only [dif_neg h, if_neg h, product, cos_q, sin_q]
    exact pair_add x g w R (by omega) (by omega) (by omega) (by omega) (by omega)

/-- The columns from 1280 on, turned. -/
theorem turned_sk (R : Fin 32768) (e : Fin 128) : val_main_v93 (F := Ideal) x g w (ix2 R e) = rotated x g w R 1280 e.val := by
  have he := e.isLt
  have hR := R.isLt
  unfold rotated
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v73, val_main_v58, val_main_v17]
  by_cases h : e.val % 64 < 32
  · simp only [dif_pos h, if_pos h, product, cos_sk, sin_sk]
    exact pair_sub x g w R (by omega) (by omega) (by omega) (by omega) (by omega)
  · simp only [dif_neg h, if_neg h, product, cos_sk, sin_sk]
    exact pair_add x g w R (by omega) (by omega) (by omega) (by omega) (by omega)

/-- The columns from 1536 on, turned. -/
theorem turned_wk (R : Fin 32768) (e : Fin 128) : val_main_v129 (F := Ideal) x g w (ix2 R e) = rotated x g w R 1536 e.val := by
  have he := e.isLt
  have hR := R.isLt
  unfold rotated
  pointwise [val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v109, val_main_v94, val_main_v19]
  by_cases h : e.val % 64 < 32
  · simp only [dif_pos h, if_pos h, product, cos_wk, sin_wk]
    exact pair_sub x g w R (by omega) (by omega) (by omega) (by omega) (by omega)
  · simp only [dif_neg h, if_neg h, product, cos_wk, sin_wk]
    exact pair_add x g w R (by omega) (by omega) (by omega) (by omega) (by omega)

theorem res_q (R : Fin 32768) (e : Fin 1024) : val_main_v132 (F := Ideal) x g w (ix2 R e) = projected x g w R (0 + e.val) := by
  rw [Nat.zero_add]
  pointwise [val_main_v132, val_main_v14]
  exact product x g w R ⟨e.val, _⟩

theorem res_qr (R : Fin 32768) (e : Fin 1024) : val_main_v133 (F := Ideal) x g w (ix2 R e) = rotated x g w R 0 e.val := turned_q x g w R e

theorem res_ck (R : Fin 32768) (e : Fin 128) : val_main_v15 (F := Ideal) x g w (ix2 R e) = projected x g w R (1024 + e.val) := by
  pointwise [val_main_v15]
  exact product x g w R ⟨1024 + e.val, _⟩

theorem res_cv (R : Fin 32768) (e : Fin 128) : val_main_v16 (F := Ideal) x g w (ix2 R e) = projected x g w R (1152 + e.val) := by
  pointwise [val_main_v16]
  exact product x g w R ⟨1152 + e.val, _⟩

theorem res_sv (R : Fin 32768) (e : Fin 128) : val_main_v18 (F := Ideal) x g w (ix2 R e) = projected x g w R (1408 + e.val) := by
  pointwise [val_main_v18]
  exact product x g w R ⟨1408 + e.val, _⟩

theorem res_wv (R : Fin 32768) (e : Fin 128) : val_main_v20 (F := Ideal) x g w (ix2 R e) = projected x g w R (1664 + e.val) := by
  pointwise [val_main_v20]
  exact product x g w R ⟨1664 + e.val, _⟩

theorem res_gates (R : Fin 32768) (e : Fin 128) : val_main_v131 (F := Ideal) x g w (ix2 R e) = gate x g w R e.val := by
  unfold gate
  pointwise [val_main_v131, val_main_v130, val_main_v21, val_main_cst_8]
  by_cases h : e.val < 48
  · simp only [dif_pos h, if_pos h, product]
  · simp only [dif_neg h, if_neg h]

theorem res_skd (R : Fin 32768) (e : Fin 256) : val_main_v137 (F := Ideal) x g w (ix2 R e) = rotated x g w R 1280 (single e.val) := by
  unfold single
  pointwise [val_main_v137, val_main_v136, val_main_v135, val_main_v134]
  by_cases h : e.val / 64 % 2 < 1
  · simp only [dif_pos h, turned_sk]
  · simp only [dif_neg h, turned_sk]

theorem res_svd (R : Fin 32768) (e : Fin 256) : val_main_v141 (F := Ideal) x g w (ix2 R e) = projected x g w R (1408 + single e.val) := by
  unfold single
  pointwise [val_main_v141, val_main_v140, val_main_v139, val_main_v138]
  by_cases h : e.val / 64 % 2 < 1
  · simp only [dif_pos h, res_sv]
  · simp only [dif_neg h, res_sv]

theorem res_wkd (R : Fin 32768) (e : Fin 256) : val_main_v145 (F := Ideal) x g w (ix2 R e) = rotated x g w R 1536 (single e.val) := by
  unfold single
  pointwise [val_main_v145, val_main_v144, val_main_v143, val_main_v142]
  by_cases h : e.val / 64 % 2 < 1
  · simp only [dif_pos h, turned_wk]
  · simp only [dif_neg h, turned_wk]

theorem res_wvd (R : Fin 32768) (e : Fin 256) : val_main_v149 (F := Ideal) x g w (ix2 R e) = projected x g w R (1664 + single e.val) := by
  unfold single
  pointwise [val_main_v149, val_main_v148, val_main_v147, val_main_v146]
  by_cases h : e.val / 64 % 2 < 1
  · simp only [dif_pos h, res_wv]
  · simp only [dif_neg h, res_wv]

end Cert.Odd.Ref
-- ==== Proof.Odd.Claims.lean ====
module

public import proofs.«01_k».proof.Defs
public import proofs.«01_k».proof.Proof.Odd.Kernel
public import proofs.«01_k».proof.Proof.Odd.Reference
public import proofs.«01_k».proof.Proof.Gen.Kernel7.Frame
public import proofs.«01_k».proof.Proof.Gen.Reference7Ideal.Run
public import Idealize.ShloMosaic.Lib.Quiescent

set_option maxRecDepth 16384

/-!
# The claims about the odd layers' projection

Kernel and reference were each shown to compute the same functions of the arguments; here they meet, result by result.
-/

@[expose] public section
noncomputable section
namespace Cert.Odd
open Idealize.ShloMosaic Idealize.ShloMosaic.TcCoe Idealize.SL.Sem

theorem preFacts : Cert.Pre_finite7.Facts := ⟨by decide, by decide, by decide⟩

/-- An extended real strictly between the infinities is a real number. -/
theorem real_of_between (x : EReal) (h : (Ideal.cmp .ogt x (Ideal.ofBits .f32 0xFF800000#32) &&& Ideal.cmp .olt x (Ideal.ofBits .f32 0x7F800000#32)) = 1#1) :
    Finite.IsReal x := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  have h1 : ⊥ < x := by
    by_contra hc
    simp [Ideal.cmp, hc] at h
  have h2 : x < ⊤ := by
    by_contra hc
    simp [Ideal.cmp, hc] at h
  exact ⟨x.toReal, (EReal.coe_toReal h2.ne h1.ne').symm⟩

/-- The precondition says that the arguments are real numbers. -/
theorem real_of_pre (m : (ℓ : Loc Cert.Kernel7Ideal.nD Cert.Kernel7Ideal.τ Cert.Kernel7Ideal.sig) → Buf (Elt Ideal) ℓ) (h : Cert.Pre_Kernel7Ideal_finite7 (hPre_finite7 := preFacts) m)
    (c : Dev Cert.Kernel7Ideal.nD) : RealArgs m c :=
  ⟨fun i => real_of_between _ (congrFun (h c).1 i), fun i => real_of_between _ (congrFun (h c).2.1 i), fun i => real_of_between _ (congrFun (h c).2.2 i)⟩

/-- The kernel runs and keeps its arguments. -/
theorem frame_p : Cert.quiescent_Kernel7 (hKernel7 := Cert.Kernel7.Gen.facts) := fun m ρ _ => Cert.Kernel7.Gen.frame m ρ

theorem frame_pi : Cert.quiescent_Kernel7Ideal (hKernel7Ideal := Cert.Kernel7Ideal.Gen.facts) := fun m ρ _ => Cert.Kernel7Ideal.Gen.frame m ρ

theorem frame_pi_pre : Cert.quiescent_Kernel7Ideal_pre_finite7 (hKernel7Ideal := Cert.Kernel7Ideal.Gen.facts) (hPre_finite7 := preFacts) :=
  fun m ρ _ => Cert.Kernel7Ideal.Gen.frame m ρ

theorem frame_ri : Cert.quiescent_Reference7Ideal (hReference7Ideal := Cert.Reference7Ideal.Gen.facts) := fun m ρ _ =>
  (θ_run Cert.Reference7Ideal.defs _ _).mono (fun r h => ⟨fun c => (h c).2.2.2.2.2.2.2.2.2.2.2.2.2, sem_eq_zero_of_no_sems (by decide) r.2⟩)
    (Cert.Reference7Ideal.Value.run (F := Ideal) m ρ)

theorem frame_ri_pre : Cert.quiescent_Reference7Ideal_pre_finite7 (hReference7Ideal := Cert.Reference7Ideal.Gen.facts) (hPre_finite7 := preFacts) :=
  fun m ρ _ => frame_ri m ρ trivial

/-- No constant is renamed here. -/
theorem preserves : Cert.preserves_Kernel7_Kernel7Ideal := trivial

variable (m : (ℓ : Loc Cert.Kernel7Ideal.nD Cert.Kernel7Ideal.τ Cert.Kernel7Ideal.sig) → Buf (Elt Ideal) ℓ)

theorem meet_q (c : Dev Cert.Kernel7Ideal.nD) :
    Cert.Reference7Ideal.Read.val_main_v132 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 5 (Cert.Kernel7Ideal.cfgs 0).N := by
  refine Eq.trans ?_ (final_q m c).symm
  funext i
  obtain ⟨r, d, rfl⟩ : ∃ (r : Fin 32768) (d : Fin 1024), i = ix2 r d := ⟨i 0, i 1, by funext a; match a with | ⟨0, _⟩ => rfl | ⟨1, _⟩ => rfl⟩
  exact Ref.res_q _ _ _ r d

theorem meet_qr (c : Dev Cert.Kernel7Ideal.nD) (hm : RealArgs m c) :
    Cert.Reference7Ideal.Read.val_main_v133 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 6 (Cert.Kernel7Ideal.cfgs 0).N := by
  refine Eq.trans ?_ (final_qr m c hm).symm
  funext i
  obtain ⟨r, d, rfl⟩ : ∃ (r : Fin 32768) (d : Fin 1024), i = ix2 r d := ⟨i 0, i 1, by funext a; match a with | ⟨0, _⟩ => rfl | ⟨1, _⟩ => rfl⟩
  exact Ref.res_qr _ _ _ r d

theorem meet_ck (c : Dev Cert.Kernel7Ideal.nD) :
    Cert.Reference7Ideal.Read.val_main_v15 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 7 (Cert.Kernel7Ideal.cfgs 0).N := by
  refine Eq.trans ?_ (final_ck m c).symm
  funext i
  obtain ⟨r, d, rfl⟩ : ∃ (r : Fin 32768) (d : Fin 128), i = ix2 r d := ⟨i 0, i 1, by funext a; match a with | ⟨0, _⟩ => rfl | ⟨1, _⟩ => rfl⟩
  exact Ref.res_ck _ _ _ r d

theorem meet_cv (c : Dev Cert.Kernel7Ideal.nD) :
    Cert.Reference7Ideal.Read.val_main_v16 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 8 (Cert.Kernel7Ideal.cfgs 0).N := by
  refine Eq.trans ?_ (final_cv m c).symm
  funext i
  obtain ⟨r, d, rfl⟩ : ∃ (r : Fin 32768) (d : Fin 128), i = ix2 r d := ⟨i 0, i 1, by funext a; match a with | ⟨0, _⟩ => rfl | ⟨1, _⟩ => rfl⟩
  exact Ref.res_cv _ _ _ r d

theorem meet_sk (c : Dev Cert.Kernel7Ideal.nD) (hm : RealArgs m c) :
    Cert.Reference7Ideal.Read.val_main_v93 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 9 (Cert.Kernel7Ideal.cfgs 0).N := by
  refine Eq.trans ?_ (final_sk m c hm).symm
  funext i
  obtain ⟨r, d, rfl⟩ : ∃ (r : Fin 32768) (d : Fin 128), i = ix2 r d := ⟨i 0, i 1, by funext a; match a with | ⟨0, _⟩ => rfl | ⟨1, _⟩ => rfl⟩
  exact Ref.turned_sk _ _ _ r d

theorem meet_sv (c : Dev Cert.Kernel7Ideal.nD) :
    Cert.Reference7Ideal.Read.val_main_v18 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 10 (Cert.Kernel7Ideal.cfgs 0).N := by
  refine Eq.trans ?_ (final_sv m c).symm
  funext i
  obtain ⟨r, d, rfl⟩ : ∃ (r : Fin 32768) (d : Fin 128), i = ix2 r d := ⟨i 0, i 1, by funext a; match a with | ⟨0, _⟩ => rfl | ⟨1, _⟩ => rfl⟩
  exact Ref.res_sv _ _ _ r d

theorem meet_wk (c : Dev Cert.Kernel7Ideal.nD) (hm : RealArgs m c) :
    Cert.Reference7Ideal.Read.val_main_v129 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 11 (Cert.Kernel7Ideal.cfgs 0).N := by
  refine Eq.trans ?_ (final_wk m c hm).symm
  funext i
  obtain ⟨r, d, rfl⟩ : ∃ (r : Fin 32768) (d : Fin 128), i = ix2 r d := ⟨i 0, i 1, by funext a; match a with | ⟨0, _⟩ => rfl | ⟨1, _⟩ => rfl⟩
  exact Ref.turned_wk _ _ _ r d

theorem meet_wv (c : Dev Cert.Kernel7Ideal.nD) :
    Cert.Reference7Ideal.Read.val_main_v20 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 12 (Cert.Kernel7Ideal.cfgs 0).N := by
  refine Eq.trans ?_ (final_wv m c).symm
  funext i
  obtain ⟨r, d, rfl⟩ : ∃ (r : Fin 32768) (d : Fin 128), i = ix2 r d := ⟨i 0, i 1, by funext a; match a with | ⟨0, _⟩ => rfl | ⟨1, _⟩ => rfl⟩
  exact Ref.res_wv _ _ _ r d

theorem meet_gates (c : Dev Cert.Kernel7Ideal.nD) :
    Cert.Reference7Ideal.Read.val_main_v131 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 13 (Cert.Kernel7Ideal.cfgs 0).N := by
  refine Eq.trans ?_ (final_gates m c).symm
  funext i
  obtain ⟨r, d, rfl⟩ : ∃ (r : Fin 32768) (d : Fin 128), i = ix2 r d := ⟨i 0, i 1, by funext a; match a with | ⟨0, _⟩ => rfl | ⟨1, _⟩ => rfl⟩
  exact Ref.res_gates _ _ _ r d

theorem meet_skd (c : Dev Cert.Kernel7Ideal.nD) (hm : RealArgs m c) :
    Cert.Reference7Ideal.Read.val_main_v137 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 14 (Cert.Kernel7Ideal.cfgs 0).N := by
  refine Eq.trans ?_ (final_skd m c hm).symm
  funext i
  obtain ⟨r, d, rfl⟩ : ∃ (r : Fin 32768) (d : Fin 256), i = ix2 r d := ⟨i 0, i 1, by funext a; match a with | ⟨0, _⟩ => rfl | ⟨1, _⟩ => rfl⟩
  exact Ref.res_skd _ _ _ r d

theorem meet_svd (c : Dev Cert.Kernel7Ideal.nD) :
    Cert.Reference7Ideal.Read.val_main_v141 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 15 (Cert.Kernel7Ideal.cfgs 0).N := by
  refine Eq.trans ?_ (final_svd m c).symm
  funext i
  obtain ⟨r, d, rfl⟩ : ∃ (r : Fin 32768) (d : Fin 256), i = ix2 r d := ⟨i 0, i 1, by funext a; match a with | ⟨0, _⟩ => rfl | ⟨1, _⟩ => rfl⟩
  exact Ref.res_svd _ _ _ r d

theorem meet_wkd (c : Dev Cert.Kernel7Ideal.nD) (hm : RealArgs m c) :
    Cert.Reference7Ideal.Read.val_main_v145 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 16 (Cert.Kernel7Ideal.cfgs 0).N := by
  refine Eq.trans ?_ (final_wkd m c hm).symm
  funext i
  obtain ⟨r, d, rfl⟩ : ∃ (r : Fin 32768) (d : Fin 256), i = ix2 r d := ⟨i 0, i 1, by funext a; match a with | ⟨0, _⟩ => rfl | ⟨1, _⟩ => rfl⟩
  exact Ref.res_wkd _ _ _ r d

theorem meet_wvd (c : Dev Cert.Kernel7Ideal.nD) :
    Cert.Reference7Ideal.Read.val_main_v149 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) = (Cert.Kernel7Ideal.Gen.dats m 0 c).arrAt 17 (Cert.Kernel7Ideal.cfgs 0).N := by
  refine Eq.trans ?_ (final_wvd m c).symm
  funext i
  obtain ⟨r, d, rfl⟩ : ∃ (r : Fin 32768) (d : Fin 256), i = ix2 r d := ⟨i 0, i 1, by funext a; match a with | ⟨0, _⟩ => rfl | ⟨1, _⟩ => rfl⟩
  exact Ref.res_wvd _ _ _ r d

/-- On real arguments each of the kernel's results is the reference's. -/
theorem algebraic : Cert.algebraic_Kernel7Ideal_Reference7Ideal_pre_finite7 (hKernel7Ideal := Cert.Kernel7Ideal.Gen.facts)
    (hReference7Ideal := Cert.Reference7Ideal.Gen.facts) (hPre_finite7 := preFacts) := by
  intro m ρ m' ρ' hpre hagree
  refine ⟨_, _, _, _, _, _, _, _, _, _, _, _, _, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨h0, h1, h2⟩ := hagree c
  have hm := real_of_pre m hpre c
  obtain ⟨r0, r1, r2, r3, r4, r5, r6, r7, r8, r9, r10, r11, r12, hargs⟩ := h c
  rw [Cert.Reference7Ideal.Read.val_main_v132_eq, h0, h1, h2, meet_q m c] at r0
  rw [Cert.Reference7Ideal.Read.val_main_v133_eq, h0, h1, h2, meet_qr m c hm] at r1
  rw [Cert.Reference7Ideal.Read.val_main_v15_eq, h0, h1, h2, meet_ck m c] at r2
  rw [Cert.Reference7Ideal.Read.val_main_v16_eq, h0, h1, h2, meet_cv m c] at r3
  rw [Cert.Reference7Ideal.Read.val_main_v93_eq, h0, h1, h2, meet_sk m c hm] at r4
  rw [Cert.Reference7Ideal.Read.val_main_v18_eq, h0, h1, h2, meet_sv m c] at r5
  rw [Cert.Reference7Ideal.Read.val_main_v129_eq, h0, h1, h2, meet_wk m c hm] at r6
  rw [Cert.Reference7Ideal.Read.val_main_v20_eq, h0, h1, h2, meet_wv m c] at r7
  rw [Cert.Reference7Ideal.Read.val_main_v131_eq, h0, h1, h2, meet_gates m c] at r8
  rw [Cert.Reference7Ideal.Read.val_main_v137_eq, h0, h1, h2, meet_skd m c hm] at r9
  rw [Cert.Reference7Ideal.Read.val_main_v141_eq, h0, h1, h2, meet_svd m c] at r10
  rw [Cert.Reference7Ideal.Read.val_main_v145_eq, h0, h1, h2, meet_wkd m c hm] at r11
  rw [Cert.Reference7Ideal.Read.val_main_v149_eq, h0, h1, h2, meet_wvd m c] at r12
  exact ⟨r0, r1, r2, r3, r4, r5, r6, r7, r8, r9, r10, r11, r12, hargs⟩

end Cert.Odd
-- ==== Proof.Even.Rows.lean ====
module

public import proofs.«01_k».proof.Proof.Ffn.Row
public import proofs.«01_k».proof.Proof.Finite

set_option maxRecDepth 16384

/-!
# The projection of the even layers

A row divided by its root mean square times the packed projection; its parts divided by their own root mean squares
and projected once more; some columns turned in pairs by an angle of the row. And why turning the weights beforehand
gives the same: the minus sign leaves a sum of real numbers.
-/

@[expose] public section
noncomputable section
namespace Cert.Even
open Idealize.ShloMosaic Idealize.ShloMosaic.TcCoe Idealize.SL.Sem

/-- One weight, at a column counted as a plain number. -/
def col {K N : ℕ} (w : FVec Ideal ⟨2, ![K, N]⟩ .f32) (k : Fin K) (C : ℕ) : EReal := if h : C < N then w (ix2 k ⟨C, h⟩) else 0

theorem col_of {K N : ℕ} (w : FVec Ideal ⟨2, ![K, N]⟩ .f32) (k : Fin K) (C : ℕ) (h : C < N) : col w k C = w (ix2 k ⟨C, h⟩) := dif_pos h

/-- One weight, whichever way its column is spelt. -/
theorem col_at {K N : ℕ} (w : FVec Ideal ⟨2, ![K, N]⟩ .f32) (k : Fin K) {a b : ℕ} (p : a < N) (h : a = b) : w (ix2 k ⟨a, p⟩) = col w k b := by
  subst h
  exact (col_of w k a p).symm

theorem col_real {K N : ℕ} {w : FVec Ideal ⟨2, ![K, N]⟩ .f32} (hw : ∀ i, Finite.IsReal (w i)) (k : Fin K) (C : ℕ) : Finite.IsReal (col w k C) := by
  unfold col
  split
  · exact hw _
  · exact Finite.IsReal.zero

/-- A row of any length divided by its root mean square, times a gain per entry; the length comes as a number's bits. -/
def rms {K : ℕ} (b : BitVec 32) (x g : Fin K → EReal) (d : Fin K) : EReal :=
  x d * Ideal.rsqrt (Ideal.div (∑ k, x k * x k) (Ideal.ofBits .f32 b) + Ideal.ofBits .f32 0x358637BD#32) * g d

theorem mean_384 : ∃ c : ℝ, 0 < c ∧ Ideal.ofBits .f32 0x43C00000#32 = (c : EReal) := by
  refine ⟨_, ?_, by simp [Ideal.ofBits, Ideal.ieee]; rfl⟩
  positivity

/-- The angle of a position and a frequency. -/
def angle (p j : ℕ) : EReal :=
  FloatOps.sitofp (F := Ideal) .f32 (BitVec.ofNat 32 p)
    * Ideal.pow (Ideal.ofBits .f32 1176256512#32) (-FloatOps.sitofp (F := Ideal) .f32 (BitVec.ofNat 32 j) * Ideal.ofBits .f32 1031798784#32)

/-- The cosines and sines: the 16 frequencies twice in each head of 32. -/
def cosine (p e : ℕ) : EReal := if e % 32 < 16 then Ideal.cos (angle p (e % 32)) else Ideal.cos (angle p (e % 32 - 16))
def sine (p e : ℕ) : EReal := if e % 32 < 16 then Ideal.sin (angle p (e % 32)) else Ideal.sin (angle p (e % 32 - 16))

/-- Columns from `b` on, turned in pairs by the angles of a position. -/
def rot (f : ℕ → EReal) (p b e : ℕ) : EReal :=
  if e % 32 < 16 then f (b + e) * Ideal.cos (angle p (e % 32)) - f (b + e + 16) * Ideal.sin (angle p (e % 32))
  else f (b + e) * Ideal.cos (angle p (e % 32 - 16)) + f (b + e - 16) * Ideal.sin (angle p (e % 32 - 16))

/-- Weights with each pair of columns exchanged and the first negated. -/
def turned (c : ℕ → EReal) (b e : ℕ) : EReal := if e % 32 < 16 then -c (b + e + 16) else c (b + e - 16)

/-- Turned weights give turned columns. -/
theorem turn {K : ℕ} (n : Fin K → EReal) (c : Fin K → ℕ → EReal) (hn : ∀ k, Finite.IsReal (n k)) (hc : ∀ k C, Finite.IsReal (c k C)) (p b e : ℕ) :
    (∑ k, n k * c k (b + e)) * cosine p e + (∑ k, n k * turned (c k) b e) * sine p e = rot (fun C => ∑ k, n k * c k C) p b e := by
  unfold rot turned cosine sine
  by_cases h : e % 32 < 16
  · simp only [if_pos h]
    rw [Finite.sum_mul_neg hn (fun k => hc k _), EReal.neg_mul, ← sub_eq_add_neg]
  · simp only [if_neg h]

theorem pair_sub (f : ℕ → EReal) {a a' b b' p p' j j' i : ℕ} (ha : a = a') (hb : b = b') (hp : p = p') (hj : j = j') (hi : i = j') :
    f a * Ideal.cos (angle p j) - f b * Ideal.sin (angle p i) = f a' * Ideal.cos (angle p' j') - f b' * Ideal.sin (angle p' j') := by
  subst ha hb hp hj hi
  rfl

theorem pair_add (f : ℕ → EReal) {a a' b b' p p' j j' i : ℕ} (ha : a = a') (hb : b = b') (hp : p = p') (hj : j = j') (hi : i = j') :
    f a * Ideal.cos (angle p j) + f b * Ideal.sin (angle p i) = f a' * Ideal.cos (angle p' j') + f b' * Ideal.sin (angle p' j') := by
  subst ha hb hp hj hi
  rfl

section

variable (x : FVec Ideal ⟨2, ![32768, 1024]⟩ .f32) (g : FVec Ideal ⟨1, ![1024]⟩ .f32) (qg : FVec Ideal ⟨1, ![384]⟩ .f32) (kg : FVec Ideal ⟨1, ![256]⟩ .f32)
  (w : FVec Ideal ⟨2, ![1024, 1440]⟩ .f32) (uq : FVec Ideal ⟨2, ![384, 1152]⟩ .f32) (uk uv : FVec Ideal ⟨2, ![256, 768]⟩ .f32)

/-- A row divided by its root mean square. -/
def normal (R : Fin 32768) (k : Fin 1024) : EReal := rms 0x44800000#32 (fun k => x (ix2 R k)) (fun k => g (ix1 k)) k

/-- The projection at one row and column. -/
def projected (R : Fin 32768) (C : ℕ) : EReal := ∑ k : Fin 1024, normal x g R k * col w k C

/-- The projection's columns from `b` on, turned by the row's angles. -/
def rotated (R : Fin 32768) (b e : ℕ) : EReal := rot (projected x g w R) (R.val % 4096) b e

/-- The part for the queries, divided by its root mean square. -/
def inner (R : Fin 32768) (k : Fin 384) : EReal := rms 0x43C00000#32 (fun k : Fin 384 => projected x g w R k.val) (fun k => qg (ix1 k)) k

/-- The latents: their part divided by its root mean square. -/
def latent (R : Fin 32768) (k : Fin 256) : EReal := rms 0x43800000#32 (fun k : Fin 256 => projected x g w R (384 + k.val)) (fun k => kg (ix1 k)) k

/-- One number of a query, before it is turned. -/
def query (R : Fin 32768) (C : ℕ) : EReal := ∑ k : Fin 384, inner x g qg w R k * col uq k C

/-- The queries in heads of 128: 64 numbers as they are, 32 turned, the rest nothing. -/
def queries (R : Fin 32768) (e : ℕ) : EReal :=
  if e % 128 < 64 then query x g qg w uq R (e / 128 * 96 + e % 128)
  else if e % 128 < 96 then rot (query x g qg w uq R) (R.val % 4096) (e / 128 * 96 + 64) (e % 128 - 64) else 0

/-- The 32 turned numbers that all heads' keys share, and nothing after them. -/
def shared (R : Fin 32768) (e : ℕ) : EReal := if e < 32 then rotated x g w R 640 e else 0

/-- The keys in heads of 128: 64 numbers from the latents, the shared 32, the rest nothing. -/
def keys (R : Fin 32768) (e : ℕ) : EReal :=
  if e % 128 < 64 then ∑ k : Fin 256, latent x g kg w R k * col uk k (e / 128 * 64 + e % 128)
  else if e % 128 < 96 then rotated x g w R 640 (e % 128 - 64) else 0

/-- The values. -/
def values (R : Fin 32768) (e : Fin 768) : EReal := ∑ k : Fin 256, latent x g kg w R k * uv (ix2 k e)

end

variable {x : FVec Ideal ⟨2, ![32768, 1024]⟩ .f32} {g : FVec Ideal ⟨1, ![1024]⟩ .f32} {qg : FVec Ideal ⟨1, ![384]⟩ .f32}
  {w : FVec Ideal ⟨2, ![1024, 1440]⟩ .f32}

theorem normal_real (hx : ∀ i, Finite.IsReal (x i)) (hg : ∀ i, Finite.IsReal (g i)) (R : Fin 32768) (k : Fin 1024) : Finite.IsReal (normal x g R k) :=
  Finite.rms_real _ _ k _ Finite.mean_1024 (fun _ => hx _) (fun _ => hg _)

theorem projected_real (hx : ∀ i, Finite.IsReal (x i)) (hg : ∀ i, Finite.IsReal (g i)) (hw : ∀ i, Finite.IsReal (w i)) (R : Fin 32768) (C : ℕ) :
    Finite.IsReal (projected x g w R C) :=
  Finite.IsReal.sum fun k => (normal_real hx hg R k).mul (col_real hw k C)

theorem inner_real (hx : ∀ i, Finite.IsReal (x i)) (hg : ∀ i, Finite.IsReal (g i)) (hw : ∀ i, Finite.IsReal (w i)) (hq : ∀ i, Finite.IsReal (qg i))
    (R : Fin 32768) (k : Fin 384) : Finite.IsReal (inner x g qg w R k) :=
  Finite.rms_real _ _ k _ mean_384 (fun _ => projected_real hx hg hw R _) (fun _ => hq _)

end Cert.Even
-- ==== Proof.Even.Weights.lean ====
module

public import proofs.«01_k».proof.Proof.Gen.Kernel8Ideal.Frame
public import proofs.«01_k».proof.Proof.Even.Rows
public import Idealize.ShloMosaic.Lib.Pointwise
public import Idealize.ShloMosaic.Lib.Pipeline.ValueKit
public import Idealize.ShloMosaic.Lib.Pipeline.ReadBack
public import Idealize.ShloMosaic.Lib.StableHlo.RunRead

set_option maxRecDepth 16384

/-!
# The weights the kernel is given

The host packs nine pieces side by side: the projection's columns, and the columns turned beforehand. Each piece at one
row and column, of the weights argument; the queries' weights in heads of 128, plain and turned; and the tables of cosines
and sines.
-/

@[expose] public section
noncomputable section
namespace Cert.Even
open Idealize.ShloMosaic Idealize.ShloMosaic.TcCoe Idealize.SL.Sem

open Cert.Kernel8Ideal Cert.Kernel8Ideal.Gen

/-- Two lines of host operations, one after the other. -/
theorem after_append {β : EltTy → Type} (l₁ l₂ : List (HloOp τ sig β)) (v : Valuation τ sig β) :
    StableHlo.after (l₁ ++ l₂) v = StableHlo.after l₂ (StableHlo.after l₁ v) := by
  induction l₁ generalizing v with
  | nil => rfl
  | cons op l ih => exact ih _

variable (m : (ℓ : Loc nD τ sig) → Buf (Elt Ideal) ℓ)

/-- What the host has computed before it packs the weights. -/
def W (c : Dev nD) : Valuation τ sig (Elt Ideal) := StableHlo.after (hostOps0 ++ hostOps0_1 ++ hostOps0_2 ++ hostOps0_3) (fun b => m (c, b))

theorem V_at (c : Dev nD) (r : Ref sig .tc) : V m c r = StableHlo.after hostOps0_4 (W m c) (Proc.devRef .tc r) := by
  unfold V W
  simp only [List.flatten_cons, List.flatten_nil, List.append_nil]
  rw [show (hostOps0 ++ (hostOps0_1 ++ (hostOps0_2 ++ (hostOps0_3 ++ hostOps0_4))) : List (HloOp τ sig (Elt Ideal)))
    = (hostOps0 ++ hostOps0_1 ++ hostOps0_2 ++ hostOps0_3) ++ hostOps0_4 by simp only [List.append_assoc], after_append]

/-- Thirty-two columns and nothing after them. -/
theorem padded (f : FVec Ideal S1024x32 .f32) (k : Fin 1024) (e : Fin 128) :
    pad S1024x128 ![0, 0] ![0, 96] ![0, 0] f (sitofp FTy.f32 (constantI S_ 32 0#32) : FVec Ideal S_ .f32) pads_S1024x32_S1024x128_000_0960 h_S_ (ix2 k e)
      = if h : e.val < 32 then f (ix2 k ⟨e.val, h⟩) else (0 : EReal) := by
  pointwise
  by_cases h : e.val < 32
  · simp only [dif_pos h]
  · simp only [dif_neg h]
    simp [FloatOps.sitofp]

/-- The nine pieces, one beside the other. -/
theorem pieces (w : Valuation τ sig (Elt Ideal)) (k : Fin 1024) (C : Fin 2176) :
    (StableHlo.after hostOps0_4 w (Proc.devRef .tc main_v65) : S1024x2176.Idx → EReal) (ix2 k C) =
    (  if h0 : C.val < 384 then (w (Proc.tc.devRef main_v32) : S1024x384.Idx → EReal) (ix2 k ⟨C.val, by omega⟩)
    else   if h1 : C.val - 384 < 256 then (w (Proc.tc.devRef main_v33) : S1024x256.Idx → EReal) (ix2 k ⟨C.val - 384, by omega⟩)
    else   if h2 : C.val - 384 - 256 < 256 then (w (Proc.tc.devRef main_v37) : S1024x256.Idx → EReal) (ix2 k ⟨C.val - 384 - 256, by omega⟩)
    else   if h3 : C.val - 384 - 256 - 256 < 256 then (w (Proc.tc.devRef main_v35) : S1024x256.Idx → EReal) (ix2 k ⟨C.val - 384 - 256 - 256, by omega⟩)
    else   if h4 : C.val - 384 - 256 - 256 - 256 < 256 then (w (Proc.tc.devRef main_v36) : S1024x256.Idx → EReal) (ix2 k ⟨C.val - 384 - 256 - 256 - 256, by omega⟩)
    else   if h5 : C.val - 384 - 256 - 256 - 256 - 256 < 128 then (w (Proc.tc.devRef main_v38) : S1024x128.Idx → EReal) (ix2 k ⟨C.val - 384 - 256 - 256 - 256 - 256, by omega⟩)
    else   if h6 : C.val - 384 - 256 - 256 - 256 - 256 - 128 < 256 then (w (Proc.tc.devRef main_v46) : S1024x256.Idx → EReal) (ix2 k ⟨C.val - 384 - 256 - 256 - 256 - 256 - 128, by omega⟩)
    else   if h7 : C.val - 384 - 256 - 256 - 256 - 256 - 128 - 256 < 256 then (w (Proc.tc.devRef main_v54) : S1024x256.Idx → EReal) (ix2 k ⟨C.val - 384 - 256 - 256 - 256 - 256 - 128 - 256, by omega⟩)
    else (w (Proc.tc.devRef main_v63) : S1024x128.Idx → EReal) (ix2 k ⟨C.val - 384 - 256 - 256 - 256 - 256 - 128 - 256 - 256, by omega⟩) : EReal) := by
  unfold hostOps0_4
  entry_read
  pointwise

theorem v32 (c : Dev nD) (k : Fin 1024) (e : Fin 384) :
    (W m c (Proc.devRef .tc main_v32) : S1024x384.Idx → EReal) (ix2 k e) = col (m ((c : Thread nD τ).loc main_arg4)) k (0 + e.val) := by
  have he := e.isLt
  unfold W hostOps0 hostOps0_1 hostOps0_2 hostOps0_3
  simp only [List.cons_append, List.nil_append]
  entry_read
  pointwise
  exact col_at _ k _ (by omega)

theorem v33 (c : Dev nD) (k : Fin 1024) (e : Fin 256) :
    (W m c (Proc.devRef .tc main_v33) : S1024x256.Idx → EReal) (ix2 k e) = col (m ((c : Thread nD τ).loc main_arg4)) k (384 + e.val) := by
  have he := e.isLt
  unfold W hostOps0 hostOps0_1 hostOps0_2 hostOps0_3
  simp only [List.cons_append, List.nil_append]
  entry_read
  pointwise
  exact col_at _ k _ (by omega)

theorem v35 (c : Dev nD) (k : Fin 1024) (e : Fin 256) :
    (W m c (Proc.devRef .tc main_v35) : S1024x256.Idx → EReal) (ix2 k e) = col (m ((c : Thread nD τ).loc main_arg4)) k (672 + e.val) := by
  have he := e.isLt
  unfold W hostOps0 hostOps0_1 hostOps0_2 hostOps0_3
  simp only [List.cons_append, List.nil_append]
  entry_read
  pointwise
  exact col_at _ k _ (by omega)

theorem v36 (c : Dev nD) (k : Fin 1024) (e : Fin 256) :
    (W m c (Proc.devRef .tc main_v36) : S1024x256.Idx → EReal) (ix2 k e) = col (m ((c : Thread nD τ).loc main_arg4)) k (928 + e.val) := by
  have he := e.isLt
  unfold W hostOps0 hostOps0_1 hostOps0_2 hostOps0_3
  simp only [List.cons_append, List.nil_append]
  entry_read
  pointwise
  exact col_at _ k _ (by omega)

theorem v37 (c : Dev nD) (k : Fin 1024) (e : Fin 256) :
    (W m c (Proc.devRef .tc main_v37) : S1024x256.Idx → EReal) (ix2 k e) = col (m ((c : Thread nD τ).loc main_arg4)) k (1184 + e.val) := by
  have he := e.isLt
  unfold W hostOps0 hostOps0_1 hostOps0_2 hostOps0_3
  simp only [List.cons_append, List.nil_append]
  entry_read
  pointwise
  exact col_at _ k _ (by omega)

theorem v34 (c : Dev nD) (k : Fin 1024) (e : Fin 32) :
    (W m c (Proc.devRef .tc main_v34) : S1024x32.Idx → EReal) (ix2 k e) = col (m ((c : Thread nD τ).loc main_arg4)) k (640 + e.val) := by
  have he := e.isLt
  unfold W hostOps0 hostOps0_1 hostOps0_2 hostOps0_3
  simp only [List.cons_append, List.nil_append]
  entry_read
  pointwise
  exact col_at _ k _ (by omega)

theorem v46 (c : Dev nD) (k : Fin 1024) (e : Fin 256) :
    (W m c (Proc.devRef .tc main_v46) : S1024x256.Idx → EReal) (ix2 k e) = turned (col (m ((c : Thread nD τ).loc main_arg4)) k) 672 e.val := by
  have he := e.isLt
  unfold W hostOps0 hostOps0_1 hostOps0_2 hostOps0_3
  simp only [List.cons_append, List.nil_append]
  entry_read
  pointwise
  unfold turned
  by_cases h : e.val % 32 < 16
  · simp only [dif_pos h, if_pos h]
    exact congrArg (fun z : EReal => -z) (col_at _ k _ (by omega))
  · simp only [dif_neg h, if_neg h]
    exact col_at _ k _ (by omega)

theorem v54 (c : Dev nD) (k : Fin 1024) (e : Fin 256) :
    (W m c (Proc.devRef .tc main_v54) : S1024x256.Idx → EReal) (ix2 k e) = turned (col (m ((c : Thread nD τ).loc main_arg4)) k) 928 e.val := by
  have he := e.isLt
  unfold W hostOps0 hostOps0_1 hostOps0_2 hostOps0_3
  simp only [List.cons_append, List.nil_append]
  entry_read
  pointwise
  unfold turned
  by_cases h : e.val % 32 < 16
  · simp only [dif_pos h, if_pos h]
    exact congrArg (fun z : EReal => -z) (col_at _ k _ (by omega))
  · simp only [dif_neg h, if_neg h]
    exact col_at _ k _ (by omega)

theorem v62 (c : Dev nD) (k : Fin 1024) (e : Fin 32) :
    (W m c (Proc.devRef .tc main_v62) : S1024x32.Idx → EReal) (ix2 k e) = turned (col (m ((c : Thread nD τ).loc main_arg4)) k) 640 e.val := by
  have he := e.isLt
  unfold W hostOps0 hostOps0_1 hostOps0_2 hostOps0_3
  simp only [List.cons_append, List.nil_append]
  entry_read
  pointwise
  unfold turned
  by_cases h : e.val % 32 < 16
  · simp only [dif_pos (show e.val < 16 by omega), if_pos h]
    exact congrArg (fun z : EReal => -z) (col_at _ k _ (by omega))
  · simp only [dif_neg (show ¬ e.val < 16 by omega), if_neg h]
    exact col_at _ k _ (by omega)

theorem v38_pad (c : Dev nD) : (W m c (Proc.devRef .tc main_v38) : S1024x128.Idx → EReal)
    = pad S1024x128 ![0, 0] ![0, 96] ![0, 0] (W m c (Proc.devRef .tc main_v34) : S1024x32.Idx → EReal)
    (sitofp FTy.f32 (constantI S_ 32 0#32) : FVec Ideal S_ .f32) pads_S1024x32_S1024x128_000_0960 h_S_ := by
  unfold W hostOps0 hostOps0_1 hostOps0_2 hostOps0_3
  simp only [List.cons_append, List.nil_append]
  entry_read
  rfl

theorem v38 (c : Dev nD) (k : Fin 1024) (e : Fin 128) :
    (W m c (Proc.devRef .tc main_v38) : S1024x128.Idx → EReal) (ix2 k e) = if e.val < 32 then col (m ((c : Thread nD τ).loc main_arg4)) k (640 + e.val) else 0 := by
  rw [v38_pad]
  refine (padded _ k e).trans ?_
  by_cases h : e.val < 32
  · rw [dif_pos h, if_pos h]
    exact v34 m c k ⟨e.val, h⟩
  · rw [dif_neg h, if_neg h]

theorem v63_pad (c : Dev nD) : (W m c (Proc.devRef .tc main_v63) : S1024x128.Idx → EReal)
    = pad S1024x128 ![0, 0] ![0, 96] ![0, 0] (W m c (Proc.devRef .tc main_v62) : S1024x32.Idx → EReal)
    (sitofp FTy.f32 (constantI S_ 32 0#32) : FVec Ideal S_ .f32) pads_S1024x32_S1024x128_000_0960 h_S_ := by
  unfold W hostOps0 hostOps0_1 hostOps0_2 hostOps0_3
  simp only [List.cons_append, List.nil_append]
  entry_read
  rfl

theorem v63 (c : Dev nD) (k : Fin 1024) (e : Fin 128) :
    (W m c (Proc.devRef .tc main_v63) : S1024x128.Idx → EReal) (ix2 k e) = if e.val < 32 then turned (col (m ((c : Thread nD τ).loc main_arg4)) k) 640 e.val else 0 := by
  rw [v63_pad]
  refine (padded _ k e).trans ?_
  by_cases h : e.val < 32
  · rw [dif_pos h, if_pos h]
    exact v62 m c k ⟨e.val, h⟩
  · rw [dif_neg h, if_neg h]

/-- The piece from column 0 on. -/
theorem piece_v32 (c : Dev nD) (k : Fin 1024) (e : Fin 384) (C : Fin 2176) (hC : C.val = 0 + e.val) :
    (V m c main_v65 : S1024x2176.Idx → EReal) (ix2 k C) = (W m c (Proc.devRef .tc main_v32) : S1024x384.Idx → EReal) (ix2 k e) := by
  have he := e.isLt
  rw [V_at, pieces]
  refine (dif_pos (by omega)).trans ?_
  exact congrArg (fun i : Fin 384 => (W m c (Proc.devRef .tc main_v32) : S1024x384.Idx → EReal) (ix2 k i)) (Fin.ext (by dsimp only; omega))

/-- The piece from column 384 on. -/
theorem piece_v33 (c : Dev nD) (k : Fin 1024) (e : Fin 256) (C : Fin 2176) (hC : C.val = 384 + e.val) :
    (V m c main_v65 : S1024x2176.Idx → EReal) (ix2 k C) = (W m c (Proc.devRef .tc main_v33) : S1024x256.Idx → EReal) (ix2 k e) := by
  have he := e.isLt
  rw [V_at, pieces]
  refine (dif_neg (by omega)).trans ?_
  refine (dif_pos (by omega)).trans ?_
  exact congrArg (fun i : Fin 256 => (W m c (Proc.devRef .tc main_v33) : S1024x256.Idx → EReal) (ix2 k i)) (Fin.ext (by dsimp only; omega))

/-- The piece from column 640 on. -/
theorem piece_v37 (c : Dev nD) (k : Fin 1024) (e : Fin 256) (C : Fin 2176) (hC : C.val = 640 + e.val) :
    (V m c main_v65 : S1024x2176.Idx → EReal) (ix2 k C) = (W m c (Proc.devRef .tc main_v37) : S1024x256.Idx → EReal) (ix2 k e) := by
  have he := e.isLt
  rw [V_at, pieces]
  refine (dif_neg (by omega)).trans ?_
  refine (dif_neg (by omega)).trans ?_
  refine (dif_pos (by omega)).trans ?_
  exact congrArg (fun i : Fin 256 => (W m c (Proc.devRef .tc main_v37) : S1024x256.Idx → EReal) (ix2 k i)) (Fin.ext (by dsimp only; omega))

/-- The piece from column 896 on. -/
theorem piece_v35 (c : Dev nD) (k : Fin 1024) (e : Fin 256) (C : Fin 2176) (hC : C.val = 896 + e.val) :
    (V m c main_v65 : S1024x2176.Idx → EReal) (ix2 k C) = (W m c (Proc.devRef .tc main_v35) : S1024x256.Idx → EReal) (ix2 k e) := by
  have he := e.isLt
  rw [V_at, pieces]
  refine (dif_neg (by omega)).trans ?_
  refine (dif_neg (by omega)).trans ?_
  refine (dif_neg (by omega)).trans ?_
  refine (dif_pos (by omega)).trans ?_
  exact congrArg (fun i : Fin 256 => (W m c (Proc.devRef .tc main_v35) : S1024x256.Idx → EReal) (ix2 k i)) (Fin.ext (by dsimp only; omega))

/-- The piece from column 1152 on. -/
theorem piece_v36 (c : Dev nD) (k : Fin 1024) (e : Fin 256) (C : Fin 2176) (hC : C.val = 1152 + e.val) :
    (V m c main_v65 : S1024x2176.Idx → EReal) (ix2 k C) = (W m c (Proc.devRef .tc main_v36) : S1024x256.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_pos (by omega)).trans ?_
  exact congrArg (fun i : Fin 256 => (W m c (Proc.devRef .tc main_v36) : S1024x256.Idx → EReal) (ix2 k i)) (Fin.ext (by dsimp only; omega))

/-- The piece from column 1408 on. -/
theorem piece_v38 (c : Dev nD) (k : Fin 1024) (e : Fin 128) (C : Fin 2176) (hC : C.val = 1408 + e.val) :
    (V m c main_v65 : S1024x2176.Idx → EReal) (ix2 k C) = (W m c (Proc.devRef .tc main_v38) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 128 => (W m c (Proc.devRef .tc main_v38) : S1024x128.Idx → EReal) (ix2 k i)) (Fin.ext (by dsimp only; omega))

/-- The piece from column 1536 on. -/
theorem piece_v46 (c : Dev nD) (k : Fin 1024) (e : Fin 256) (C : Fin 2176) (hC : C.val = 1536 + e.val) :
    (V m c main_v65 : S1024x2176.Idx → EReal) (ix2 k C) = (W m c (Proc.devRef .tc main_v46) : S1024x256.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 256 => (W m c (Proc.devRef .tc main_v46) : S1024x256.Idx → EReal) (ix2 k i)) (Fin.ext (by dsimp only; omega))

/-- The piece from column 1792 on. -/
theorem piece_v54 (c : Dev nD) (k : Fin 1024) (e : Fin 256) (C : Fin 2176) (hC : C.val = 1792 + e.val) :
    (V m c main_v65 : S1024x2176.Idx → EReal) (ix2 k C) = (W m c (Proc.devRef .tc main_v54) : S1024x256.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun i : Fin 256 => (W m c (Proc.devRef .tc main_v54) : S1024x256.Idx → EReal) (ix2 k i)) (Fin.ext (by dsimp only; omega))

/-- The piece from column 2048 on. -/
theorem piece_v63 (c : Dev nD) (k : Fin 1024) (e : Fin 128) (C : Fin 2176) (hC : C.val = 2048 + e.val) :
    (V m c main_v65 : S1024x2176.Idx → EReal) (ix2 k C) = (W m c (Proc.devRef .tc main_v63) : S1024x128.Idx → EReal) (ix2 k e) := by
  have he := e.isLt
  rw [V_at, pieces]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact congrArg (fun i : Fin 128 => (W m c (Proc.devRef .tc main_v63) : S1024x128.Idx → EReal) (ix2 k i)) (Fin.ext (by dsimp only; omega))

/-- The table of cosines. -/
theorem table_cos (c : Dev nD) (p : Fin 4096) (e : Fin 256) : (V m c main_v19 : S4096x256.Idx → EReal) (ix2 p e) = cosine p.val e.val := by
  unfold cosine angle V hostOps0 hostOps0_1 hostOps0_2 hostOps0_3 hostOps0_4
  simp only [List.flatten_cons, List.flatten_nil, List.cons_append, List.nil_append, List.append_nil]
  entry_read
  pointwise
  by_cases h : e.val % 32 < 16
  · simp only [dif_pos h, if_pos h]
  · simp only [dif_neg h, if_neg h]

/-- The table of sines. -/
theorem table_sin (c : Dev nD) (p : Fin 4096) (e : Fin 256) : (V m c main_v22 : S4096x256.Idx → EReal) (ix2 p e) = sine p.val e.val := by
  unfold sine angle V hostOps0 hostOps0_1 hostOps0_2 hostOps0_3 hostOps0_4
  simp only [List.flatten_cons, List.flatten_nil, List.cons_append, List.nil_append, List.append_nil]
  entry_read
  pointwise
  by_cases h : e.val % 32 < 16
  · simp only [dif_pos h, if_pos h]
  · simp only [dif_neg h, if_neg h]

/-- What the host has computed before it lays the table of cosines out. -/
def T (c : Dev nD) : Valuation τ sig (Elt Ideal) := StableHlo.after (hostOps0.take 29) (fun b => m (c, b))

theorem V_at_T (c : Dev nD) (r : Ref sig .tc) :
    V m c r = StableHlo.after (hostOps0.drop 29 ++ (hostOps0_1 ++ (hostOps0_2 ++ (hostOps0_3 ++ hostOps0_4)))) (T m c) (Proc.devRef .tc r) := by
  unfold V T
  simp only [List.flatten_cons, List.flatten_nil, List.append_nil]
  rw [← after_append, ← List.append_assoc (hostOps0.take 29), List.take_append_drop]

theorem half_cosine (c : Dev nD) (p : Fin 4096) (e : Fin 32) : (T m c (Proc.devRef .tc main_v15) : S4096x32.Idx → EReal) (ix2 p e) = cosine p.val e.val := by
  have he := e.isLt
  unfold cosine angle T hostOps0
  simp only [List.take_succ_cons, List.take_zero]
  entry_read
  pointwise
  have hm : e.val % 32 = e.val := by omega
  by_cases h : e.val < 16
  · simp only [dif_pos h, hm, if_pos h]
  · simp only [dif_neg h, hm, if_neg h]

theorem before_cosine (c : Dev nD) (p : Fin 4096) (e : Fin 64) : (T m c (Proc.devRef .tc main_v23) : S4096x64.Idx → EReal) (ix2 p e) = (1 : EReal) := by
  unfold T hostOps0
  simp only [List.take_succ_cons, List.take_zero]
  entry_read
  pointwise

theorem after_cosine (c : Dev nD) (p : Fin 4096) (e : Fin 32) : (T m c (Proc.devRef .tc main_v24) : S4096x32.Idx → EReal) (ix2 p e) = (0 : EReal) := by
  unfold T hostOps0
  simp only [List.take_succ_cons, List.take_zero]
  entry_read
  pointwise

theorem laid_cosine (w : Valuation τ sig (Elt Ideal)) (p : Fin 4096) (e : Fin 128) :
    (StableHlo.after (hostOps0.drop 29 ++ (hostOps0_1 ++ (hostOps0_2 ++ (hostOps0_3 ++ hostOps0_4)))) w (Proc.devRef .tc main_v25) : S4096x128.Idx → EReal) (ix2 p e)
      = (if h0 : e.val < 64 then (w (Proc.tc.devRef main_v23) : S4096x64.Idx → EReal) (ix2 p ⟨e.val, by omega⟩)
    else if h1 : e.val - 64 < 32 then (w (Proc.tc.devRef main_v15) : S4096x32.Idx → EReal) (ix2 p ⟨e.val - 64, by omega⟩)
    else (w (Proc.tc.devRef main_v24) : S4096x32.Idx → EReal) (ix2 p ⟨e.val - 64 - 32, by omega⟩) : EReal) := by
  unfold hostOps0 hostOps0_1 hostOps0_2 hostOps0_3 hostOps0_4
  simp only [List.drop_succ_cons, List.drop_zero, List.cons_append, List.nil_append]
  entry_read
  pointwise

/-- The table of cosines for one head of the queries. -/
theorem table_cosq (c : Dev nD) (p : Fin 4096) (e : Fin 128) :
    (V m c main_v25 : S4096x128.Idx → EReal) (ix2 p e) = if e.val < 64 then 1 else if e.val < 96 then cosine p.val (e.val - 64) else 0 := by
  have he := e.isLt
  rw [V_at_T, laid_cosine]
  by_cases h : e.val < 64
  · rw [dif_pos h, if_pos h]
    exact before_cosine m c p _
  by_cases h1 : e.val < 96
  · rw [dif_neg h, if_neg h, dif_pos (show e.val - 64 < 32 by omega), if_pos h1]
    exact half_cosine m c p ⟨e.val - 64, by omega⟩
  · rw [dif_neg h, if_neg h, dif_neg (show ¬ e.val - 64 < 32 by omega), if_neg h1]
    exact after_cosine m c p _

/-- What the host has computed before it lays the table of sines out. -/
def U (c : Dev nD) : Valuation τ sig (Elt Ideal) := StableHlo.after (hostOps0.take 34) (fun b => m (c, b))

theorem V_at_U (c : Dev nD) (r : Ref sig .tc) :
    V m c r = StableHlo.after (hostOps0.drop 34 ++ (hostOps0_1 ++ (hostOps0_2 ++ (hostOps0_3 ++ hostOps0_4)))) (U m c) (Proc.devRef .tc r) := by
  unfold V U
  simp only [List.flatten_cons, List.flatten_nil, List.append_nil]
  rw [← after_append, ← List.append_assoc (hostOps0.take 34), List.take_append_drop]

theorem half_sine (c : Dev nD) (p : Fin 4096) (e : Fin 32) : (U m c (Proc.devRef .tc main_v16) : S4096x32.Idx → EReal) (ix2 p e) = sine p.val e.val := by
  have he := e.isLt
  unfold sine angle U hostOps0
  simp only [List.take_succ_cons, List.take_zero]
  entry_read
  pointwise
  have hm : e.val % 32 = e.val := by omega
  by_cases h : e.val < 16
  · simp only [dif_pos h, hm, if_pos h]
  · simp only [dif_neg h, hm, if_neg h]

theorem before_sine (c : Dev nD) (p : Fin 4096) (e : Fin 64) : (U m c (Proc.devRef .tc main_v26) : S4096x64.Idx → EReal) (ix2 p e) = (0 : EReal) := by
  unfold U hostOps0
  simp only [List.take_succ_cons, List.take_zero]
  entry_read
  pointwise

theorem after_sine (c : Dev nD) (p : Fin 4096) (e : Fin 32) : (U m c (Proc.devRef .tc main_v27) : S4096x32.Idx → EReal) (ix2 p e) = (0 : EReal) := by
  unfold U hostOps0
  simp only [List.take_succ_cons, List.take_zero]
  entry_read
  pointwise

theorem laid_sine (w : Valuation τ sig (Elt Ideal)) (p : Fin 4096) (e : Fin 128) :
    (StableHlo.after (hostOps0.drop 34 ++ (hostOps0_1 ++ (hostOps0_2 ++ (hostOps0_3 ++ hostOps0_4)))) w (Proc.devRef .tc main_v28) : S4096x128.Idx → EReal) (ix2 p e)
      = (if h0 : e.val < 64 then (w (Proc.tc.devRef main_v26) : S4096x64.Idx → EReal) (ix2 p ⟨e.val, by omega⟩)
    else if h1 : e.val - 64 < 32 then (w (Proc.tc.devRef main_v16) : S4096x32.Idx → EReal) (ix2 p ⟨e.val - 64, by omega⟩)
    else (w (Proc.tc.devRef main_v27) : S4096x32.Idx → EReal) (ix2 p ⟨e.val - 64 - 32, by omega⟩) : EReal) := by
  unfold hostOps0 hostOps0_1 hostOps0_2 hostOps0_3 hostOps0_4
  simp only [List.drop_succ_cons, List.drop_zero, List.cons_append, List.nil_append]
  entry_read
  pointwise

/-- The table of sines for one head of the queries. -/
theorem table_sinq (c : Dev nD) (p : Fin 4096) (e : Fin 128) :
    (V m c main_v28 : S4096x128.Idx → EReal) (ix2 p e) = if e.val < 64 then 0 else if e.val < 96 then sine p.val (e.val - 64) else 0 := by
  have he := e.isLt
  rw [V_at_U, laid_sine]
  by_cases h : e.val < 64
  · rw [dif_pos h, if_pos h]
    exact before_sine m c p _
  by_cases h1 : e.val < 96
  · rw [dif_neg h, if_neg h, dif_pos (show e.val - 64 < 32 by omega), if_pos h1]
    exact half_sine m c p ⟨e.val - 64, by omega⟩
  · rw [dif_neg h, if_neg h, dif_neg (show ¬ e.val - 64 < 32 by omega), if_neg h1]
    exact after_sine m c p _

/-- The queries' weights in heads of 128. -/
theorem heads_q (c : Dev nD) (k : Fin 384) (C : Fin 1536) :
    (V m c main_v70 : S384x1536.Idx → EReal) (ix2 k C) = if C.val % 128 < 96 then col (m ((c : Thread nD τ).loc main_arg5)) k (C.val / 128 * 96 + C.val % 128) else 0 := by
  have hC := C.isLt
  unfold V hostOps0 hostOps0_1 hostOps0_2 hostOps0_3 hostOps0_4
  simp only [List.flatten_cons, List.flatten_nil, List.cons_append, List.nil_append, List.append_nil]
  entry_read
  pointwise
  by_cases h : C.val % 128 < 96
  · simp only [dif_pos h, if_pos h]
    exact col_at _ k _ (by omega)
  · simp only [dif_neg h, if_neg h]

/-- What the host has computed when the queries' turned weights are there. -/
def Q (c : Dev nD) : Valuation τ sig (Elt Ideal) := StableHlo.after (hostOps0_4.take 22) (W m c)

theorem V_at'' (c : Dev nD) (r : Ref sig .tc) : V m c r = StableHlo.after (hostOps0_4.drop 22) (Q m c) (Proc.devRef .tc r) := by
  rw [V_at]
  unfold Q
  rw [← after_append, List.take_append_drop]

theorem arg5_W (c : Dev nD) : W m c (Proc.devRef .tc main_arg5) = (m ((c : Thread nD τ).loc main_arg5)) := by
  unfold W hostOps0 hostOps0_1 hostOps0_2 hostOps0_3
  simp only [List.cons_append, List.nil_append]
  entry_read
  rfl

theorem turned_q (c : Dev nD) (k : Fin 384) (h : Fin 12) (e : Fin 32) :
    (Q m c (Proc.devRef .tc main_v81) : S384x12x32.Idx → EReal) (ix3 k h e) = turned (col (m ((c : Thread nD τ).loc main_arg5)) k) (h.val * 96 + 64) e.val := by
  have he := e.isLt
  have hh := h.isLt
  rw [← arg5_W m c]
  unfold turned Q hostOps0_4
  simp only [List.take_succ_cons, List.take_zero]
  entry_read
  pointwise
  have hm : e.val % 32 = e.val := by omega
  by_cases hl : e.val < 16
  · simp only [dif_pos hl, hm, if_pos hl]
    exact congrArg (fun z : EReal => -z) (col_at _ k _ (by omega))
  · simp only [dif_neg hl, hm, if_neg hl]
    exact col_at _ k _ (by omega)

theorem blank_q (c : Dev nD) (k : Fin 384) (h : Fin 12) (e : Fin 32) :
    (Q m c (Proc.devRef .tc main_v67) : S384x12x32.Idx → EReal) (ix3 k h e) = (0 : EReal) := by
  unfold Q hostOps0_4
  simp only [List.take_succ_cons, List.take_zero]
  entry_read
  pointwise

theorem blank_q' (c : Dev nD) (k : Fin 384) (h : Fin 12) (e : Fin 64) :
    (Q m c (Proc.devRef .tc main_v83) : S384x12x64.Idx → EReal) (ix3 k h e) = (0 : EReal) := by
  unfold Q hostOps0_4
  simp only [List.take_succ_cons, List.take_zero]
  entry_read
  pointwise

theorem laid_q (w : Valuation τ sig (Elt Ideal)) (k : Fin 384) (C : Fin 1536) :
    (StableHlo.after (hostOps0_4.drop 22) w (Proc.devRef .tc main_v86) : S384x1536.Idx → EReal) (ix2 k C)
      = (if h0 : C.val % 128 < 64 then (w (Proc.tc.devRef main_v83) : S384x12x64.Idx → EReal) (ix3 k ⟨C.val / 128, by omega⟩ ⟨C.val % 128, by omega⟩)
    else if h1 : C.val % 128 - 64 < 32 then (w (Proc.tc.devRef main_v81) : S384x12x32.Idx → EReal) (ix3 k ⟨C.val / 128, by omega⟩ ⟨C.val % 128 - 64, by omega⟩)
    else (w (Proc.tc.devRef main_v67) : S384x12x32.Idx → EReal) (ix3 k ⟨C.val / 128, by omega⟩ ⟨C.val % 128 - 64 - 32, by omega⟩) : EReal) := by
  have hC := C.isLt
  unfold hostOps0_4
  simp only [List.drop_succ_cons, List.drop_zero]
  entry_read
  pointwise

/-- The queries' turned weights in heads of 128. -/
theorem heads_qr (c : Dev nD) (k : Fin 384) (C : Fin 1536) :
    (V m c main_v86 : S384x1536.Idx → EReal) (ix2 k C)
      = if C.val % 128 < 64 then 0 else if C.val % 128 < 96 then turned (col (m ((c : Thread nD τ).loc main_arg5)) k) (C.val / 128 * 96 + 64) (C.val % 128 - 64) else 0 := by
  have hC := C.isLt
  rw [V_at'', laid_q]
  by_cases h : C.val % 128 < 64
  · rw [dif_pos h, if_pos h]
    exact blank_q' m c k _ _
  by_cases h1 : C.val % 128 < 96
  · rw [dif_neg h, if_neg h, dif_pos (show C.val % 128 - 64 < 32 by omega), if_pos h1]
    exact turned_q m c k ⟨C.val / 128, by omega⟩ ⟨C.val % 128 - 64, by omega⟩
  · rw [dif_neg h, if_neg h, dif_neg (show ¬ C.val % 128 - 64 < 32 by omega), if_neg h1]
    exact blank_q m c k _ _

/-- The keys' weights for the latents in heads of 128. -/
theorem heads_k (c : Dev nD) (k : Fin 256) (C : Fin 1536) :
    (V m c main_v91 : S256x1536.Idx → EReal) (ix2 k C) = if C.val % 128 < 64 then col (m ((c : Thread nD τ).loc main_arg6)) k (C.val / 128 * 64 + C.val % 128) else 0 := by
  have hC := C.isLt
  unfold V hostOps0 hostOps0_1 hostOps0_2 hostOps0_3 hostOps0_4
  simp only [List.flatten_cons, List.flatten_nil, List.cons_append, List.nil_append, List.append_nil]
  entry_read
  pointwise
  by_cases h : C.val % 128 < 64
  · simp only [dif_pos h, if_pos h]
    exact col_at _ k _ (by omega)
  · simp only [dif_neg h, if_neg h]

/-- The values' weights. -/
theorem weights_v (c : Dev nD) (k : Fin 256) (C : Fin 768) :
    (V m c main_v146 : S256x768.Idx → EReal) (ix2 k C) = m ((c : Thread nD τ).loc main_arg7) (ix2 k C) := by
  unfold V hostOps0 hostOps0_1 hostOps0_2 hostOps0_3 hostOps0_4
  simp only [List.flatten_cons, List.flatten_nil, List.cons_append, List.nil_append, List.append_nil]
  entry_read
  pointwise

end Cert.Even
-- ==== Proof.Even.Spread.lean ====
module

public import proofs.«01_k».proof.Proof.Even.Weights
public import Idealize.ShloMosaic.Lib.Routing.OpsSet
public import Idealize.ShloMosaic.Lib.Routing.OpsPair

set_option maxRecDepth 16384

/-!
# The weights that spread the shared numbers over the heads

The host scatters ones: number `l` of the 32 shared ones goes to place `64 + l` of every head of the keys.
-/

@[expose] public section
noncomputable section
namespace Cert.Even
open Idealize.ShloMosaic Idealize.ShloMosaic.TcCoe Idealize.SL.Sem

open Cert.Kernel8Ideal Cert.Kernel8Ideal.Gen Idealize.ShloMosaic.Routing

variable (m : (ℓ : Loc nD τ sig) → Buf (Elt Ideal) ℓ)

/-- Where the ones go: number `n` to row `n` and column `64 + n`. -/
def places : IVec S32x2 32 :=
  concatenate S32x2 1
    [⟨S32x1, broadcastInDim S32x1 ![0] bcast_S32_S32x1_0
        (select (cmpi CmpIPredicate.slt (iotaInDim S32 32 0) (broadcastInDim S32 ![] bcast_S_S32 (constantI S_ 32 0#32)))
          (addi (iotaInDim S32 32 0) (broadcastInDim S32 ![] bcast_S_S32 (constantI S_ 32 128#32))) (iotaInDim S32 32 0))⟩,
      ⟨S32x1, broadcastInDim S32x1 ![0] bcast_S32_S32x1_0
        (select (cmpi CmpIPredicate.slt (addi (broadcastInDim S32 ![] bcast_S_S32 (constantI S_ 32 64#32)) (iotaInDim S32 32 0))
            (broadcastInDim S32 ![] bcast_S_S32 (constantI S_ 32 0#32)))
          (addi (addi (broadcastInDim S32 ![] bcast_S_S32 (constantI S_ 32 64#32)) (iotaInDim S32 32 0)) (broadcastInDim S32 ![] bcast_S_S32 (constantI S_ 32 128#32)))
          (addi (broadcastInDim S32 ![] bcast_S_S32 (constantI S_ 32 64#32)) (iotaInDim S32 32 0)))⟩]
    concatenates_S32x1_S32x1_S32x2_d1

theorem places_at : ∀ n : Fin 32,
    scatter_S128x128_S32x2_S32_n_01_01_1.start (ix1 n) places 0 + (scatter_S128x128_S32x2_S32_n_01_01_1.window (ix1 n) 0 : Int) = (n.val : Int)
      ∧ scatter_S128x128_S32x2_S32_n_01_01_1.start (ix1 n) places 1 + (scatter_S128x128_S32x2_S32_n_01_01_1.window (ix1 n) 1 : Int) = ((64 + n.val : ℕ) : Int) := by
  decide +kernel

/-- The scattered square, read in every head. -/
theorem scattered (c : Dev nD) (l : Fin 128) (C : Fin 1536) :
    (V m c main_v115 : S128x1536.Idx → EReal) (ix2 l C)
      = (Host.scatter scatter_S128x128_S32x2_S32_n_01_01_1 (fun _ b => b) (broadcastInDim S128x128 ![] bcast_S_S128x128 (constant S_ FTy.f32 0#32)) places
          (broadcastInDim S32 ![] bcast_S_S32 (constant S_ FTy.f32 1065353216#32)) : FVec Ideal S128x128 .f32) (ix2 l ⟨C.val % 128, by omega⟩) := by
  unfold V hostOps0 hostOps0_1 hostOps0_2 hostOps0_3 hostOps0_4
  simp only [List.flatten_cons, List.flatten_nil, List.cons_append, List.nil_append, List.append_nil]
  entry_read
  pointwise
  rfl

theorem goes (k : S32.Idx) (l j : Fin 128) :
    scatter_S128x128_S32x2_S32_n_01_01_1.resultIdx? k places = some (ix2 l j) ↔ (k 0).val = l.val ∧ 64 + (k 0).val = j.val := by
  obtain ⟨n, rfl⟩ : ∃ n : Fin 32, k = ix1 n := ⟨k 0, by funext a; match a with | ⟨0, _⟩ => rfl⟩
  refine (resultIdx?_ix2 (R := 128) (C := 128) scatter_S128x128_S32x2_S32_n_01_01_1 (ix1 n) places l j).trans ?_
  rw [(places_at n).1, (places_at n).2]
  show _ ↔ n.val = l.val ∧ 64 + n.val = j.val
  omega

/-- One where a shared number belongs, nothing elsewhere. -/
theorem spread (c : Dev nD) (l : Fin 128) (C : Fin 1536) :
    (V m c main_v115 : S128x1536.Idx → EReal) (ix2 l C) = (if l.val < 32 ∧ C.val % 128 = 64 + l.val then 1 else 0 : EReal) := by
  rw [scattered]
  by_cases h : l.val < 32 ∧ C.val % 128 = 64 + l.val
  · rw [if_pos h]
    refine scatter_set_hit _ _ _ _ _ _ (fun k _ => ?_) (ix1 (⟨l.val, h.1⟩ : Fin 32)) ((goes _ _ _).2 ⟨rfl, h.2.symm⟩)
    obtain ⟨n, rfl⟩ : ∃ n : Fin 32, k = ix1 n := ⟨k 0, by funext a; match a with | ⟨0, _⟩ => rfl⟩
    pointwise
  · rw [if_neg h]
    refine (scatter_set_miss _ _ _ _ _ fun k hk => h ?_).trans ?_
    · obtain ⟨h1, h2⟩ := (goes k _ _).1 hk
      have h3 : (k 0).val < 32 := (k 0).isLt
      dsimp only at h2
      omega
    · pointwise

end Cert.Even
-- ==== Proof.Even.Kernel.lean ====
module

public import proofs.«01_k».proof.Proof.Gen.Kernel8Ideal.Value
public import proofs.«01_k».proof.Proof.Even.Spread

set_option maxRecDepth 16384

/-!
# What the kernel of the even layers' projection computes

A grid point normalises 256 rows and multiplies them with the packed weights; two runs of columns are divided by their
own root mean squares and multiplied once more; the rest are runs of columns, or such a run times the cosines plus another
times the sines.
-/

@[expose] public section
noncomputable section
namespace Cert.Even
open Idealize.ShloMosaic Idealize.ShloMosaic.TcCoe Idealize.SL.Sem

open Cert.Kernel8Ideal Cert.Kernel8Ideal.Gen Cert.Kernel8Ideal.Value

/-- The product of the normalised rows with the packed weights. -/
theorem pay_product (X : FVec Ideal S256x1024 .f32) (G : FVec Ideal S1x1024 .f32) (P : FVec Ideal S1024x2176 .bf16) (r : Fin 256) (C : Fin 2176) :
    k0_pay1 (F := Ideal) X G P (ix2 r C) = ∑ k : Fin 1024, rms 0x44800000#32 (fun k => X (ix2 r k)) (fun k => G (ix2 0 k)) k * P (ix2 k C) := by
  unfold rms
  pointwise [k0_pay1]

theorem pay_inner (X : FVec Ideal S256x384 .f32) (G : FVec Ideal S1x384 .f32) (r : Fin 256) (k : Fin 384) :
    k0_pay9 (F := Ideal) X G (ix2 r k) = rms 0x43C00000#32 (fun k => X (ix2 r k)) (fun k => G (ix2 0 k)) k := by
  unfold rms
  pointwise [k0_pay9]

theorem pay_latent (X : FVec Ideal S256x2176 .f32) (G : FVec Ideal S1x256 .f32) (r : Fin 256) (k : Fin 256) :
    k0_pay10 (F := Ideal) X G (ix2 r k) = rms 0x43800000#32 (fun k : Fin 256 => X (ix2 r ⟨384 + k.val, by omega⟩)) (fun k => G (ix2 0 k)) k := by
  unfold rms
  pointwise [k0_pay10]

theorem pay_query (X : FVec Ideal S256x384 .f32) (G : FVec Ideal S1x384 .f32) (P : FVec Ideal S384x1536 .bf16) (r : Fin 256) (C : Fin 1536) :
    k0_pay12 (F := Ideal) X G P (ix2 r C) = ∑ k : Fin 384, k0_pay9 (F := Ideal) X G (ix2 r k) * P (ix2 k C) := by
  pointwise [k0_pay12]

theorem pay_queryr (X : FVec Ideal S256x384 .f32) (G : FVec Ideal S1x384 .f32) (P : FVec Ideal S384x1536 .bf16) (r : Fin 256) (C : Fin 1536) :
    k0_pay13 (F := Ideal) X G P (ix2 r C) = ∑ k : Fin 384, k0_pay9 (F := Ideal) X G (ix2 r k) * P (ix2 k C) := by
  pointwise [k0_pay13]

theorem pay_keys (K : FVec Ideal S256x128 .f32) (L : FVec Ideal S256x256 .bf16) (P : FVec Ideal S256x1536 .bf16) (Q : FVec Ideal S128x1536 .bf16) (r : Fin 256) (C : Fin 1536) :
    k0_pay30 (F := Ideal) K L P Q (ix2 r C) = (∑ k : Fin 256, L (ix2 r k) * P (ix2 k C)) + ∑ l : Fin 128, K (ix2 r l) * Q (ix2 l C) := by
  pointwise [k0_pay30]

theorem pay_values (L : FVec Ideal S256x256 .bf16) (P : FVec Ideal S256x768 .bf16) (r : Fin 256) (C : Fin 768) :
    k0_pay31 (F := Ideal) L P (ix2 r C) = ∑ k : Fin 256, L (ix2 r k) * P (ix2 k C) := by
  pointwise [k0_pay31]

variable (X : FVec Ideal S256x1024 .f32) (G : FVec Ideal S1x1024 .f32) (P : FVec Ideal S1024x2176 .bf16) (U T : FVec Ideal S256x256 .f32)

theorem pay_dq (r : Fin 256) (e : Fin 256) :
    k0_pay4 (F := Ideal) X G P U T (ix2 r e) = k0_pay1 (F := Ideal) X G P (ix2 r ⟨896 + e.val, by omega⟩) * U (ix2 r e)
      + k0_pay1 (F := Ideal) X G P (ix2 r ⟨1536 + e.val, by omega⟩) * T (ix2 r e) := by
  pointwise [k0_pay4, k0_pay2, k0_pay3]

theorem pay_dk (r : Fin 256) (e : Fin 256) :
    k0_pay5 (F := Ideal) X G P U T (ix2 r e) = k0_pay1 (F := Ideal) X G P (ix2 r ⟨1152 + e.val, by omega⟩) * U (ix2 r e)
      + k0_pay1 (F := Ideal) X G P (ix2 r ⟨1792 + e.val, by omega⟩) * T (ix2 r e) := by
  pointwise [k0_pay5, k0_pay2, k0_pay3]

theorem pay_kr (r : Fin 256) (e : Fin 128) :
    k0_pay6 (F := Ideal) X G P U T (ix2 r e) = k0_pay1 (F := Ideal) X G P (ix2 r ⟨1408 + e.val, by omega⟩) * U (ix2 r (⟨e.val, by omega⟩ : Fin 256))
      + k0_pay1 (F := Ideal) X G P (ix2 r ⟨2048 + e.val, by omega⟩) * T (ix2 r (⟨e.val, by omega⟩ : Fin 256)) := by
  pointwise [k0_pay6, k0_pay2, k0_pay3]

theorem pay_dv (r : Fin 256) (e : Fin 256) : k0_pay7 (F := Ideal) X G P (ix2 r e) = k0_pay1 (F := Ideal) X G P (ix2 r ⟨640 + e.val, by omega⟩) := by
  pointwise [k0_pay7]

/-- The tables repeat every 32 columns. -/
theorem cosine_congr (p : ℕ) {a b : ℕ} (h : a % 32 = b % 32) : cosine p a = cosine p b := by
  unfold cosine
  rw [h]

theorem sine_congr (p : ℕ) {a b : ℕ} (h : a % 32 = b % 32) : sine p a = sine p b := by
  unfold sine
  rw [h]

variable (m : (ℓ : Loc nD τ sig) → Buf (Elt Ideal) ℓ)

/-- Which block each window stages at a grid point. -/
theorem idx : ∀ t : Fin cfg0.N,
    win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val % 16, 0] ∧ win0_11.index t = ![t.val % 16, 0] ∧ win0_12.index t = ![t.val % 16, 0] ∧ win0_13.index t = ![t.val % 16, 0] :=
  (by decide +kernel : ∀ t : Fin grid0.N, _)

theorem idx_out : ∀ t : Fin cfg0.N,
    win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] ∧ win0_23.index t = ![t.val, 0] :=
  (by decide +kernel : ∀ t : Fin grid0.N, _)

theorem rows_at (c : Dev nD) (t : Fin cfg0.N) (r : Fin 256) (k : Fin 1024) (R : Fin 32768) (hR : R.val = t.val * 256 + r.val) :
    iblk m c 0 t (ix2 r k) = m ((c : Thread nD τ).loc main_arg0) (ix2 R k) := by
  blk_ext [iblk, V, idx t, hR]

theorem gain_at (c : Dev nD) (t : Fin cfg0.N) (k : Fin 1024) : iblk m c 1 t (ix2 (0 : Fin 1) k) = m ((c : Thread nD τ).loc main_arg1) (ix1 k) := by
  blk_simp [iblk, idx t]
  unfold V hostOps0 hostOps0_1 hostOps0_2 hostOps0_3 hostOps0_4
  simp only [List.flatten_cons, List.flatten_nil, List.cons_append, List.nil_append, List.append_nil]
  entry_read
  pointwise
  blk_ext [idx t]

theorem gain_q_at (c : Dev nD) (t : Fin cfg0.N) (k : Fin 384) : iblk m c 2 t (ix2 (0 : Fin 1) k) = m ((c : Thread nD τ).loc main_arg2) (ix1 k) := by
  blk_simp [iblk, idx t]
  unfold V hostOps0 hostOps0_1 hostOps0_2 hostOps0_3 hostOps0_4
  simp only [List.flatten_cons, List.flatten_nil, List.cons_append, List.nil_append, List.append_nil]
  entry_read
  pointwise
  blk_ext [idx t]

theorem gain_kv_at (c : Dev nD) (t : Fin cfg0.N) (k : Fin 256) : iblk m c 3 t (ix2 (0 : Fin 1) k) = m ((c : Thread nD τ).loc main_arg3) (ix1 k) := by
  blk_simp [iblk, idx t]
  unfold V hostOps0 hostOps0_1 hostOps0_2 hostOps0_3 hostOps0_4
  simp only [List.flatten_cons, List.flatten_nil, List.cons_append, List.nil_append, List.append_nil]
  entry_read
  pointwise
  blk_ext [idx t]

theorem packed_at (c : Dev nD) (t : Fin cfg0.N) (k : Fin 1024) (C : Fin 2176) : iblk m c 4 t (ix2 k C) = (V m c main_v65 : S1024x2176.Idx → EReal) (ix2 k C) := by
  blk_simp [iblk, idx t]
  generalize V m c main_v65 = w
  blk_ext [idx t]

theorem heads_q_at (c : Dev nD) (t : Fin cfg0.N) (k : Fin 384) (C : Fin 1536) : iblk m c 5 t (ix2 k C) = (V m c main_v70 : S384x1536.Idx → EReal) (ix2 k C) := by
  blk_simp [iblk, idx t]
  generalize V m c main_v70 = w
  blk_ext [idx t]

theorem heads_qr_at (c : Dev nD) (t : Fin cfg0.N) (k : Fin 384) (C : Fin 1536) : iblk m c 6 t (ix2 k C) = (V m c main_v86 : S384x1536.Idx → EReal) (ix2 k C) := by
  blk_simp [iblk, idx t]
  generalize V m c main_v86 = w
  blk_ext [idx t]

theorem heads_k_at (c : Dev nD) (t : Fin cfg0.N) (k : Fin 256) (C : Fin 1536) : iblk m c 7 t (ix2 k C) = (V m c main_v91 : S256x1536.Idx → EReal) (ix2 k C) := by
  blk_simp [iblk, idx t]
  generalize V m c main_v91 = w
  blk_ext [idx t]

theorem spread_at (c : Dev nD) (t : Fin cfg0.N) (k : Fin 128) (C : Fin 1536) : iblk m c 8 t (ix2 k C) = (V m c main_v115 : S128x1536.Idx → EReal) (ix2 k C) := by
  blk_simp [iblk, idx t]
  generalize V m c main_v115 = w
  blk_ext [idx t]

theorem weights_v_at (c : Dev nD) (t : Fin cfg0.N) (k : Fin 256) (C : Fin 768) : iblk m c 9 t (ix2 k C) = (V m c main_v146 : S256x768.Idx → EReal) (ix2 k C) := by
  blk_simp [iblk, idx t]
  generalize V m c main_v146 = w
  blk_ext [idx t]

theorem cos_at (c : Dev nD) (t : Fin cfg0.N) (r : Fin 256) (e : Fin 256) (R : Fin 32768) (hR : R.val = t.val * 256 + r.val) :
    iblk m c 10 t (ix2 r e) = cosine (R.val % 4096) e.val := by
  have hr := r.isLt
  refine Eq.trans ?_ (table_cos m c ⟨R.val % 4096, by omega⟩ e)
  have hp : R.val % 4096 = t.val % 16 * 256 + r.val := by omega
  blk_ext [iblk, idx t, hp]

theorem sin_at (c : Dev nD) (t : Fin cfg0.N) (r : Fin 256) (e : Fin 256) (R : Fin 32768) (hR : R.val = t.val * 256 + r.val) :
    iblk m c 11 t (ix2 r e) = sine (R.val % 4096) e.val := by
  have hr := r.isLt
  refine Eq.trans ?_ (table_sin m c ⟨R.val % 4096, by omega⟩ e)
  have hp : R.val % 4096 = t.val % 16 * 256 + r.val := by omega
  blk_ext [iblk, idx t, hp]

theorem cosq_at (c : Dev nD) (t : Fin cfg0.N) (r : Fin 256) (e : Fin 128) (R : Fin 32768) (hR : R.val = t.val * 256 + r.val) :
    iblk m c 12 t (ix2 r e) = if e.val < 64 then 1 else if e.val < 96 then cosine (R.val % 4096) (e.val - 64) else 0 := by
  have hr := r.isLt
  refine Eq.trans ?_ (table_cosq m c ⟨R.val % 4096, by omega⟩ e)
  have hp : R.val % 4096 = t.val % 16 * 256 + r.val := by omega
  blk_ext [iblk, idx t, hp]

theorem sinq_at (c : Dev nD) (t : Fin cfg0.N) (r : Fin 256) (e : Fin 128) (R : Fin 32768) (hR : R.val = t.val * 256 + r.val) :
    iblk m c 13 t (ix2 r e) = if e.val < 64 then 0 else if e.val < 96 then sine (R.val % 4096) (e.val - 64) else 0 := by
  have hr := r.isLt
  refine Eq.trans ?_ (table_sinq m c ⟨R.val % 4096, by omega⟩ e)
  have hp : R.val % 4096 = t.val % 16 * 256 + r.val := by omega
  blk_ext [iblk, idx t, hp]

/-- A column of the product, of the whole arrays. -/
theorem product_at (c : Dev nD) (t : Fin cfg0.N) (r : Fin 256) (R : Fin 32768) (hR : R.val = t.val * 256 + r.val) (C : Fin 2176) (f : Fin 1024 → EReal)
    (hf : ∀ k : Fin 1024, (V m c main_v65 : S1024x2176.Idx → EReal) (ix2 k C) = f k) :
    (k0_pay1 (F := Ideal) (iblk m c 0 t) (iblk m c 1 t) (iblk m c 4 t)) (ix2 r C) = ∑ k : Fin 1024, normal (m ((c : Thread nD τ).loc main_arg0)) (m ((c : Thread nD τ).loc main_arg1)) R k * f k := by
  rw [pay_product]
  refine Finset.sum_congr rfl fun k _ => ?_
  unfold normal
  rw [packed_at m c t k C, hf k]
  rw [show (fun k : Fin 1024 => (iblk m c 0 t (ix2 r k) : EReal)) = _ from funext fun k => rows_at m c t r k R hR,
    show (fun k : Fin 1024 => (iblk m c 1 t (ix2 (0 : Fin 1) k) : EReal)) = _ from funext fun k => gain_at m c t k]

/-- The arguments of a core are real numbers: the rows, the gains and weights before a turned product. -/
def RealArgs (c : Dev nD) : Prop :=
  (∀ i, Finite.IsReal ((m ((c : Thread nD τ).loc main_arg0) : FVec Ideal S32768x1024 .f32) i)) ∧ (∀ i, Finite.IsReal ((m ((c : Thread nD τ).loc main_arg1) : FVec Ideal S1024 .f32) i))
    ∧ (∀ i, Finite.IsReal ((m ((c : Thread nD τ).loc main_arg2) : FVec Ideal S384 .f32) i)) ∧ (∀ i, Finite.IsReal ((m ((c : Thread nD τ).loc main_arg4) : FVec Ideal S1024x1440 .f32) i))
    ∧ (∀ i, Finite.IsReal ((m ((c : Thread nD τ).loc main_arg5) : FVec Ideal S384x1152 .f32) i))

/-- A run of columns times the cosines plus the turned run times the sines. -/
theorem rotated_at (c : Dev nD) (hm : RealArgs m c) (t : Fin cfg0.N) (r : Fin 256) (R : Fin 32768) (hR : R.val = t.val * 256 + r.val) (A B : Fin 2176) (u : Fin 256) (b e : ℕ) (hu : u.val % 32 = e % 32)
    (hA : ∀ k : Fin 1024, (V m c main_v65 : S1024x2176.Idx → EReal) (ix2 k A) = col (m ((c : Thread nD τ).loc main_arg4)) k (b + e))
    (hB : ∀ k : Fin 1024, (V m c main_v65 : S1024x2176.Idx → EReal) (ix2 k B) = turned (col (m ((c : Thread nD τ).loc main_arg4)) k) b e) :
    ((k0_pay1 (F := Ideal) (iblk m c 0 t) (iblk m c 1 t) (iblk m c 4 t)) (ix2 r A) * iblk m c 10 t (ix2 r u) + (k0_pay1 (F := Ideal) (iblk m c 0 t) (iblk m c 1 t) (iblk m c 4 t)) (ix2 r B) * iblk m c 11 t (ix2 r u) : EReal) = rotated (m ((c : Thread nD τ).loc main_arg0)) (m ((c : Thread nD τ).loc main_arg1)) (m ((c : Thread nD τ).loc main_arg4)) R b e := by
  rw [product_at m c t r R hR A _ hA, product_at m c t r R hR B _ hB, cos_at m c t r u R hR, sin_at m c t r u R hR, cosine_congr _ hu, sine_congr _ hu]
  exact turn _ _ (normal_real hm.1 hm.2.1 R) (col_real hm.2.2.2.1) _ b e

/-- The queries' part, divided by its root mean square. -/
theorem inner_at (c : Dev nD) (t : Fin cfg0.N) (r : Fin 256) (k : Fin 384) (R : Fin 32768) (hR : R.val = t.val * 256 + r.val) :
    k0_pay9 (F := Ideal) (extractStridedSlice S256x384 ![0, 0] (k0_pay1 (F := Ideal) (iblk m c 0 t) (iblk m c 1 t) (iblk m c 4 t)) slices_S256x2176_o0_0_S256x384) (iblk m c 2 t) (ix2 r k)
      = inner (m ((c : Thread nD τ).loc main_arg0)) (m ((c : Thread nD τ).loc main_arg1)) (m ((c : Thread nD τ).loc main_arg2)) (m ((c : Thread nD τ).loc main_arg4)) R k := by
  rw [pay_inner]
  unfold inner
  rw [show (fun k : Fin 384 => (iblk m c 2 t (ix2 (0 : Fin 1) k) : EReal)) = _ from funext fun k => gain_q_at m c t k]
  refine congrArg (fun f : Fin 384 → EReal => rms 0x43C00000#32 f _ k) (funext fun k => ?_)
  refine Eq.trans (b := (k0_pay1 (F := Ideal) (iblk m c 0 t) (iblk m c 1 t) (iblk m c 4 t)) (ix2 r ⟨k.val, by omega⟩)) (by pointwise) ?_
  refine (product_at m c t r R hR _ _ (fun j => (piece_v32 m c j k _ (by dsimp only; omega)).trans (v32 m c j k))).trans ?_
  rw [Nat.zero_add]
  rfl

/-- The latents. -/
theorem latent_at (c : Dev nD) (t : Fin cfg0.N) (r : Fin 256) (k : Fin 256) (R : Fin 32768) (hR : R.val = t.val * 256 + r.val) :
    k0_pay10 (F := Ideal) (k0_pay1 (F := Ideal) (iblk m c 0 t) (iblk m c 1 t) (iblk m c 4 t)) (iblk m c 3 t) (ix2 r k) = latent (m ((c : Thread nD τ).loc main_arg0)) (m ((c : Thread nD τ).loc main_arg1)) (m ((c : Thread nD τ).loc main_arg3)) (m ((c : Thread nD τ).loc main_arg4)) R k := by
  rw [pay_latent]
  unfold latent
  rw [show (fun k : Fin 256 => (iblk m c 3 t (ix2 (0 : Fin 1) k) : EReal)) = _ from funext fun k => gain_kv_at m c t k]
  refine congrArg (fun f : Fin 256 → EReal => rms 0x43800000#32 f _ k) (funext fun k => ?_)
  exact product_at m c t r R hR _ _ (fun j => (piece_v33 m c j k _ (by dsimp only)).trans (v33 m c j k))

theorem dq_at (c : Dev nD) (hm : RealArgs m c) (t : Fin cfg0.N) (r : Fin 256) (e : Fin 256) (R : Fin 32768) (hR : R.val = t.val * 256 + r.val) :
    k0_pay4 (F := Ideal) (iblk m c 0 t) (iblk m c 1 t) (iblk m c 4 t) (iblk m c 10 t) (iblk m c 11 t) (ix2 r e) = rotated (m ((c : Thread nD τ).loc main_arg0)) (m ((c : Thread nD τ).loc main_arg1)) (m ((c : Thread nD τ).loc main_arg4)) R 672 e.val := by
  rw [pay_dq]
  exact rotated_at m c hm t r R hR _ _ e 672 e.val rfl
    (fun k => (piece_v35 m c k e _ (by dsimp only)).trans (v35 m c k e))
    (fun k => (piece_v46 m c k e _ (by dsimp only)).trans (v46 m c k e))

theorem dk_at (c : Dev nD) (hm : RealArgs m c) (t : Fin cfg0.N) (r : Fin 256) (e : Fin 256) (R : Fin 32768) (hR : R.val = t.val * 256 + r.val) :
    k0_pay5 (F := Ideal) (iblk m c 0 t) (iblk m c 1 t) (iblk m c 4 t) (iblk m c 10 t) (iblk m c 11 t) (ix2 r e) = rotated (m ((c : Thread nD τ).loc main_arg0)) (m ((c : Thread nD τ).loc main_arg1)) (m ((c : Thread nD τ).loc main_arg4)) R 928 e.val := by
  rw [pay_dk]
  exact rotated_at m c hm t r R hR _ _ e 928 e.val rfl
    (fun k => (piece_v36 m c k e _ (by dsimp only)).trans (v36 m c k e))
    (fun k => (piece_v54 m c k e _ (by dsimp only)).trans (v54 m c k e))

theorem shared_at (c : Dev nD) (hm : RealArgs m c) (t : Fin cfg0.N) (r : Fin 256) (e : Fin 128) (R : Fin 32768) (hR : R.val = t.val * 256 + r.val) :
    k0_pay6 (F := Ideal) (iblk m c 0 t) (iblk m c 1 t) (iblk m c 4 t) (iblk m c 10 t) (iblk m c 11 t) (ix2 r e) = shared (m ((c : Thread nD τ).loc main_arg0)) (m ((c : Thread nD τ).loc main_arg1)) (m ((c : Thread nD τ).loc main_arg4)) R e.val := by
  rw [pay_kr]
  unfold shared
  by_cases h : e.val < 32
  · rw [if_pos h]
    exact rotated_at m c hm t r R hR _ _ _ 640 e.val rfl
      (fun k => ((piece_v38 m c k e _ (by dsimp only)).trans (v38 m c k e)).trans (if_pos h))
      (fun k => ((piece_v63 m c k e _ (by dsimp only)).trans (v63 m c k e)).trans (if_pos h))
  · rw [if_neg h]
    rw [product_at m c t r R hR _ (fun _ => 0) (fun k => ((piece_v38 m c k e _ (by dsimp only)).trans (v38 m c k e)).trans (if_neg h)),
      product_at m c t r R hR _ (fun _ => 0) (fun k => ((piece_v63 m c k e _ (by dsimp only)).trans (v63 m c k e)).trans (if_neg h))]
    simp only [mul_zero, Finset.sum_const_zero, zero_mul, add_zero]

theorem dv_at (c : Dev nD) (t : Fin cfg0.N) (r : Fin 256) (e : Fin 256) (R : Fin 32768) (hR : R.val = t.val * 256 + r.val) :
    k0_pay7 (F := Ideal) (iblk m c 0 t) (iblk m c 1 t) (iblk m c 4 t) (ix2 r e) = projected (m ((c : Thread nD τ).loc main_arg0)) (m ((c : Thread nD τ).loc main_arg1)) (m ((c : Thread nD τ).loc main_arg4)) R (1184 + e.val) := by
  rw [pay_dv]
  exact product_at m c t r R hR _ _ (fun k => (piece_v37 m c k e _ (by dsimp only)).trans (v37 m c k e))

/-- The queries. -/
theorem queries_at (c : Dev nD) (hm : RealArgs m c) (t : Fin cfg0.N) (r : Fin 256) (e : Fin 1536) (u : Fin 128) (hu : u.val = e.val % 128) (R : Fin 32768) (hR : R.val = t.val * 256 + r.val) :
    (k0_pay12 (F := Ideal) (extractStridedSlice S256x384 ![0, 0] (k0_pay1 (F := Ideal) (iblk m c 0 t) (iblk m c 1 t) (iblk m c 4 t)) slices_S256x2176_o0_0_S256x384) (iblk m c 2 t) (iblk m c 5 t) (ix2 r e) * iblk m c 12 t (ix2 r u)
      + k0_pay13 (F := Ideal) (extractStridedSlice S256x384 ![0, 0] (k0_pay1 (F := Ideal) (iblk m c 0 t) (iblk m c 1 t) (iblk m c 4 t)) slices_S256x2176_o0_0_S256x384) (iblk m c 2 t) (iblk m c 6 t) (ix2 r e) * iblk m c 13 t (ix2 r u) : EReal)
      = queries (m ((c : Thread nD τ).loc main_arg0)) (m ((c : Thread nD τ).loc main_arg1)) (m ((c : Thread nD τ).loc main_arg2)) (m ((c : Thread nD τ).loc main_arg4)) (m ((c : Thread nD τ).loc main_arg5)) R e.val := by
  have he := e.isLt
  have hp : ∀ k : Fin 384, (iblk m c 5 t (ix2 k e) : EReal) = _ := fun k => (heads_q_at m c t k e).trans (heads_q m c k e)
  have hq : ∀ k : Fin 384, (iblk m c 6 t (ix2 k e) : EReal) = _ := fun k => (heads_qr_at m c t k e).trans (heads_qr m c k e)
  rw [pay_query, pay_queryr, cosq_at m c t r u R hR, sinq_at m c t r u R hR]
  simp only [inner_at m c t r _ R hR, hp, hq, hu]
  unfold queries
  by_cases h : e.val % 128 < 64
  · simp only [if_pos h, if_pos (show e.val % 128 < 96 by omega), mul_one, mul_zero, add_zero]
    rfl
  by_cases h1 : e.val % 128 < 96
  · simp only [if_neg h, if_pos h1]
    refine Eq.trans ?_ (turn _ _ (inner_real hm.1 hm.2.1 hm.2.2.2.1 hm.2.2.1 R) (col_real hm.2.2.2.2) _ (e.val / 128 * 96 + 64) (e.val % 128 - 64))
    rw [show e.val / 128 * 96 + 64 + (e.val % 128 - 64) = e.val / 128 * 96 + e.val % 128 by omega]
  · simp only [if_neg h, if_neg h1, mul_zero, add_zero]

/-- The keys. -/
theorem keys_at (c : Dev nD) (hm : RealArgs m c) (t : Fin cfg0.N) (r : Fin 256) (e : Fin 1536) (R : Fin 32768) (hR : R.val = t.val * 256 + r.val) :
    k0_pay30 (F := Ideal) (k0_pay6 (F := Ideal) (iblk m c 0 t) (iblk m c 1 t) (iblk m c 4 t) (iblk m c 10 t) (iblk m c 11 t)) (k0_pay11 (F := Ideal) (k0_pay1 (F := Ideal) (iblk m c 0 t) (iblk m c 1 t) (iblk m c 4 t)) (iblk m c 3 t)) (iblk m c 7 t) (iblk m c 8 t) (ix2 r e)
      = keys (m ((c : Thread nD τ).loc main_arg0)) (m ((c : Thread nD τ).loc main_arg1)) (m ((c : Thread nD τ).loc main_arg3)) (m ((c : Thread nD τ).loc main_arg4)) (m ((c : Thread nD τ).loc main_arg6)) R e.val := by
  have he := e.isLt
  have hp : ∀ k : Fin 256, (iblk m c 7 t (ix2 k e) : EReal) = _ := fun k => (heads_k_at m c t k e).trans (heads_k m c k e)
  have hq : ∀ k : Fin 128, (iblk m c 8 t (ix2 k e) : EReal) = _ := fun k => (spread_at m c t k e).trans (spread m c k e)
  have hl : ∀ k : Fin 256, (k0_pay11 (F := Ideal) (k0_pay1 (F := Ideal) (iblk m c 0 t) (iblk m c 1 t) (iblk m c 4 t)) (iblk m c 3 t) (ix2 r k) : EReal) = _ := fun k => latent_at m c t r k R hR
  rw [pay_keys]
  simp only [hl, shared_at m c hm t r _ R hR, hp, hq]
  unfold keys
  by_cases h : e.val % 128 < 64
  · simp only [if_pos h]
    rw [Finset.sum_eq_zero (s := (Finset.univ : Finset (Fin 128))) fun l _ => by rw [if_neg (by omega), mul_zero], add_zero]
  by_cases h1 : e.val % 128 < 96
  · simp only [if_neg h, if_pos h1, mul_zero, Finset.sum_const_zero, zero_add]
    refine (Finset.sum_eq_single (⟨e.val % 128 - 64, by omega⟩ : Fin 128) (fun l _ hne => ?_) (fun hno => absurd (Finset.mem_univ _) hno)).trans ?_
    · rw [if_neg fun hc => hne (Fin.ext (by dsimp only; omega)), mul_zero]
    · rw [if_pos (by dsimp only; omega), mul_one]
      exact if_pos (show e.val % 128 - 64 < 32 by omega)
  · simp only [if_neg h, if_neg h1, mul_zero, Finset.sum_const_zero, zero_add]
    exact Finset.sum_eq_zero fun l _ => by rw [if_neg (by omega), mul_zero]

/-- The values. -/
theorem values_at (c : Dev nD) (t : Fin cfg0.N) (r : Fin 256) (e : Fin 768) (R : Fin 32768) (hR : R.val = t.val * 256 + r.val) :
    k0_pay31 (F := Ideal) (k0_pay11 (F := Ideal) (k0_pay1 (F := Ideal) (iblk m c 0 t) (iblk m c 1 t) (iblk m c 4 t)) (iblk m c 3 t)) (iblk m c 9 t) (ix2 r e) = values (m ((c : Thread nD τ).loc main_arg0)) (m ((c : Thread nD τ).loc main_arg1)) (m ((c : Thread nD τ).loc main_arg3)) (m ((c : Thread nD τ).loc main_arg4)) (m ((c : Thread nD τ).loc main_arg7)) R e := by
  have hp : ∀ k : Fin 256, (iblk m c 9 t (ix2 k e) : EReal) = _ := fun k => (weights_v_at m c t k e).trans (weights_v m c k e)
  have hl : ∀ k : Fin 256, (k0_pay11 (F := Ideal) (k0_pay1 (F := Ideal) (iblk m c 0 t) (iblk m c 1 t) (iblk m c 4 t)) (iblk m c 3 t) (ix2 r k) : EReal) = _ := fun k => latent_at m c t r k R hR
  rw [pay_values]
  simp only [hl, hp]
  rfl

end Cert.Even
-- ==== Proof.Even.Final.lean ====
module

public import proofs.«01_k».proof.Proof.Even.Kernel

set_option maxRecDepth 16384

/-!
# The ten results of the even layers' projection

What every grid point stores, and that the blocks together are the arrays.
-/

@[expose] public section
noncomputable section
namespace Cert.Even
open Idealize.ShloMosaic Idealize.ShloMosaic.TcCoe Idealize.SL.Sem

open Cert.Kernel8Ideal Cert.Kernel8Ideal.Gen Cert.Kernel8Ideal.Value

variable (m : (ℓ : Loc nD τ sig) → Buf (Elt Ideal) ℓ)

theorem stored_q (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x1536.Idx) :
    out0_14 (F := Ideal) x0 x1 x2 x3 x4 x5 x6 x7 x8 x9 x10 x11 x12 x13 y = E14 (F := Ideal) x0 x1 x4 x2 x5 x12 x6 x13 y := by
  unfold_out out0_14
  refine (canon14_eq _ _ _ _ _ _ _ _ y).trans ?_
  frame_out

theorem point_q (c : Dev nD) (hm : RealArgs m c) (t : Fin cfg0.N) (r : Fin 256) (e : Fin 1536) (R : Fin 32768) (hR : R.val = t.val * 256 + r.val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = queries (m ((c : Thread nD τ).loc main_arg0)) (m ((c : Thread nD τ).loc main_arg1)) (m ((c : Thread nD τ).loc main_arg2)) (m ((c : Thread nD τ).loc main_arg4)) (m ((c : Thread nD τ).loc main_arg5)) R e.val := by
  rw [stored_q]
  have h0 : ix14_0 (ix2 r e) = ix2 r e := by
    funext a
    match a with
    | ⟨0, _⟩ => rfl
    | ⟨1, _⟩ => rfl
  have h1 : ix14_1 (ix2 r e) = ix2 r (⟨e.val % 128, by omega⟩ : Fin 128) := by
    funext a
    match a with
    | ⟨0, _⟩ => rfl
    | ⟨1, _⟩ => rfl
  have h2 : ix14_2 (ix2 r e) = ix2 r e := by
    funext a
    match a with
    | ⟨0, _⟩ => rfl
    | ⟨1, _⟩ => rfl
  have h3 : ix14_3 (ix2 r e) = ix2 r (⟨e.val % 128, by omega⟩ : Fin 128) := by
    funext a
    match a with
    | ⟨0, _⟩ => rfl
    | ⟨1, _⟩ => rfl
  show (k0_pay12 (F := Ideal) (extractStridedSlice S256x384 ![0, 0] (k0_pay1 (F := Ideal) (iblk m c 0 t) (iblk m c 1 t) (iblk m c 4 t)) slices_S256x2176_o0_0_S256x384) (iblk m c 2 t) (iblk m c 5 t) (ix14_0 (ix2 r e)) * iblk m c 12 t (ix14_1 (ix2 r e))
      + k0_pay13 (F := Ideal) (extractStridedSlice S256x384 ![0, 0] (k0_pay1 (F := Ideal) (iblk m c 0 t) (iblk m c 1 t) (iblk m c 4 t)) slices_S256x2176_o0_0_S256x384) (iblk m c 2 t) (iblk m c 6 t) (ix14_2 (ix2 r e)) * iblk m c 13 t (ix14_3 (ix2 r e)) : EReal) = _
  rw [h0, h1, h2, h3]
  exact queries_at m c hm t r e _ rfl R hR

theorem covers_q : (cfg0.win 14).Covers := by decide +kernel

theorem final_q (c : Dev nD) (hm : RealArgs m c) : (dats m 0 c).arrAt 14 (cfgs 0).N = fun i : S32768x1536.Idx => queries (m ((c : Thread nD τ).loc main_arg0)) (m ((c : Thread nD τ).loc main_arg1)) (m ((c : Thread nD τ).loc main_arg2)) (m ((c : Thread nD τ).loc main_arg4)) (m ((c : Thread nD τ).loc main_arg5)) (i 0) (i 1).val := by
  refine (dats m 0 c).arrAt_eq_of_covers 14 _ covers_q fun t hf y => ?_
  blk_simp
  rw [after0_14]
  obtain ⟨r, e, rfl⟩ : ∃ (r : Fin 256) (e : Fin 1536), y = ix2 r e := ⟨y 0, y 1, by funext a; match a with | ⟨0, _⟩ => rfl | ⟨1, _⟩ => rfl⟩
  refine (point_q m c hm t r e ((((cfg0.win 14).blk t).view.emb (ix2 r e)) 0) (by blk_simp [idx_out t])).trans ?_
  refine congrArg (fun z : ℕ => queries (m ((c : Thread nD τ).loc main_arg0)) (m ((c : Thread nD τ).loc main_arg1)) (m ((c : Thread nD τ).loc main_arg2)) (m ((c : Thread nD τ).loc main_arg4)) (m ((c : Thread nD τ).loc main_arg5)) ((((cfg0.win 14).blk t).view.emb (ix2 r e)) 0) z) ?_
  blk_simp [idx_out t]

theorem stored_k (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x1536.Idx) :
    out0_15 (F := Ideal) x0 x1 x2 x3 x4 x5 x6 x7 x8 x9 x10 x11 x12 x13 y = k0_pay30 (F := Ideal) (k0_pay6 (F := Ideal) x0 x1 x4 x10 x11) (k0_pay11 (F := Ideal) (k0_pay1 (F := Ideal) x0 x1 x4) x3) x7 x8 y := by
  unfold_out out0_15
  frame_out

theorem point_k (c : Dev nD) (hm : RealArgs m c) (t : Fin cfg0.N) (r : Fin 256) (e : Fin 1536) (R : Fin 32768) (hR : R.val = t.val * 256 + r.val) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = keys (m ((c : Thread nD τ).loc main_arg0)) (m ((c : Thread nD τ).loc main_arg1)) (m ((c : Thread nD τ).loc main_arg3)) (m ((c : Thread nD τ).loc main_arg4)) (m ((c : Thread nD τ).loc main_arg6)) R e.val := by
  rw [stored_k]
  exact keys_at m c hm t r e R hR

theorem covers_k : (cfg0.win 15).Covers := by decide +kernel

theorem final_k (c : Dev nD) (hm : RealArgs m c) : (dats m 0 c).arrAt 15 (cfgs 0).N = fun i : S32768x1536.Idx => keys (m ((c : Thread nD τ).loc main_arg0)) (m ((c : Thread nD τ).loc main_arg1)) (m ((c : Thread nD τ).loc main_arg3)) (m ((c : Thread nD τ).loc main_arg4)) (m ((c : Thread nD τ).loc main_arg6)) (i 0) (i 1).val := by
  refine (dats m 0 c).arrAt_eq_of_covers 15 _ covers_k fun t hf y => ?_
  blk_simp
  rw [after0_15]
  obtain ⟨r, e, rfl⟩ : ∃ (r : Fin 256) (e : Fin 1536), y = ix2 r e := ⟨y 0, y 1, by funext a; match a with | ⟨0, _⟩ => rfl | ⟨1, _⟩ => rfl⟩
  refine (point_k m c hm t r e ((((cfg0.win 15).blk t).view.emb (ix2 r e)) 0) (by blk_simp [idx_out t])).trans ?_
  refine congrArg (fun z : ℕ => keys (m ((c : Thread nD τ).loc main_arg0)) (m ((c : Thread nD τ).loc main_arg1)) (m ((c : Thread nD τ).loc main_arg3)) (m ((c : Thread nD τ).loc main_arg4)) (m ((c : Thread nD τ).loc main_arg6)) ((((cfg0.win 15).blk t).view.emb (ix2 r e)) 0) z) ?_
  blk_simp [idx_out t]

theorem stored_v (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x768.Idx) :
    out0_16 (F := Ideal) x0 x1 x2 x3 x4 x5 x6 x7 x8 x9 x10 x11 x12 x13 y = k0_pay31 (F := Ideal) (k0_pay11 (F := Ideal) (k0_pay1 (F := Ideal) x0 x1 x4) x3) x9 y := by
  unfold_out out0_16
  frame_out

theorem point_v (c : Dev nD) (t : Fin cfg0.N) (r : Fin 256) (e : Fin 768) (R : Fin 32768) (hR : R.val = t.val * 256 + r.val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = values (m ((c : Thread nD τ).loc main_arg0)) (m ((c : Thread nD τ).loc main_arg1)) (m ((c : Thread nD τ).loc main_arg3)) (m ((c : Thread nD τ).loc main_arg4)) (m ((c : Thread nD τ).loc main_arg7)) R e := by
  rw [stored_v]
  exact values_at m c t r e R hR

theorem covers_v : (cfg0.win 16).Covers := by decide +kernel

theorem final_v (c : Dev nD) : (dats m 0 c).arrAt 16 (cfgs 0).N = fun i : S32768x768.Idx => values (m ((c : Thread nD τ).loc main_arg0)) (m ((c : Thread nD τ).loc main_arg1)) (m ((c : Thread nD τ).loc main_arg3)) (m ((c : Thread nD τ).loc main_arg4)) (m ((c : Thread nD τ).loc main_arg7)) (i 0) (i 1) := by
  refine (dats m 0 c).arrAt_eq_of_covers 16 _ covers_v fun t hf y => ?_
  blk_simp
  rw [after0_16]
  obtain ⟨r, e, rfl⟩ : ∃ (r : Fin 256) (e : Fin 768), y = ix2 r e := ⟨y 0, y 1, by funext a; match a with | ⟨0, _⟩ => rfl | ⟨1, _⟩ => rfl⟩
  refine (point_v m c t r e ((((cfg0.win 16).blk t).view.emb (ix2 r e)) 0) (by blk_simp [idx_out t])).trans ?_
  refine congrArg (fun z : Fin 768 => values (m ((c : Thread nD τ).loc main_arg0)) (m ((c : Thread nD τ).loc main_arg1)) (m ((c : Thread nD τ).loc main_arg3)) (m ((c : Thread nD τ).loc main_arg4)) (m ((c : Thread nD τ).loc main_arg7)) ((((cfg0.win 16).blk t).view.emb (ix2 r e)) 0) z) (Fin.ext ?_)
  blk_simp [idx_out t]

theorem stored_ckv (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x256.Idx) :
    out0_17 (F := Ideal) x0 x1 x2 x3 x4 x5 x6 x7 x8 x9 x10 x11 x12 x13 y = k0_pay10 (F := Ideal) (k0_pay1 (F := Ideal) x0 x1 x4) x3 y := by
  unfold_out out0_17
  frame_out

theorem point_ckv (c : Dev nD) (t : Fin cfg0.N) (r : Fin 256) (e : Fin 256) (R : Fin 32768) (hR : R.val = t.val * 256 + r.val) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = latent (m ((c : Thread nD τ).loc main_arg0)) (m ((c : Thread nD τ).loc main_arg1)) (m ((c : Thread nD τ).loc main_arg3)) (m ((c : Thread nD τ).loc main_arg4)) R e := by
  rw [stored_ckv]
  exact latent_at m c t r e R hR

theorem covers_ckv : (cfg0.win 17).Covers := by decide +kernel

theorem final_ckv (c : Dev nD) : (dats m 0 c).arrAt 17 (cfgs 0).N = fun i : S32768x256.Idx => latent (m ((c : Thread nD τ).loc main_arg0)) (m ((c : Thread nD τ).loc main_arg1)) (m ((c : Thread nD τ).loc main_arg3)) (m ((c : Thread nD τ).loc main_arg4)) (i 0) (i 1) := by
  refine (dats m 0 c).arrAt_eq_of_covers 17 _ covers_ckv fun t hf y => ?_
  blk_simp
  rw [after0_17]
  obtain ⟨r, e, rfl⟩ : ∃ (r : Fin 256) (e : Fin 256), y = ix2 r e := ⟨y 0, y 1, by funext a; match a with | ⟨0, _⟩ => rfl | ⟨1, _⟩ => rfl⟩
  refine (point_ckv m c t r e ((((cfg0.win 17).blk t).view.emb (ix2 r e)) 0) (by blk_simp [idx_out t])).trans ?_
  refine congrArg (fun z : Fin 256 => latent (m ((c : Thread nD τ).loc main_arg0)) (m ((c : Thread nD τ).loc main_arg1)) (m ((c : Thread nD τ).loc main_arg3)) (m ((c : Thread nD τ).loc main_arg4)) ((((cfg0.win 17).blk t).view.emb (ix2 r e)) 0) z) (Fin.ext ?_)
  blk_simp [idx_out t]

theorem stored_kr (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x128.Idx) :
    out0_18 (F := Ideal) x0 x1 x2 x3 x4 x5 x6 x7 x8 x9 x10 x11 x12 x13 y = k0_pay6 (F := Ideal) x0 x1 x4 x10 x11 y := by
  unfold_out out0_18
  frame_out

theorem point_kr (c : Dev nD) (hm : RealArgs m c) (t : Fin cfg0.N) (r : Fin 256) (e : Fin 128) (R : Fin 32768) (hR : R.val = t.val * 256 + r.val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = shared (m ((c : Thread nD τ).loc main_arg0)) (m ((c : Thread nD τ).loc main_arg1)) (m ((c : Thread nD τ).loc main_arg4)) R e.val := by
  rw [stored_kr]
  exact shared_at m c hm t r e R hR

theorem covers_kr : (cfg0.win 18).Covers := by decide +kernel

theorem final_kr (c : Dev nD) (hm : RealArgs m c) : (dats m 0 c).arrAt 18 (cfgs 0).N = fun i : S32768x128.Idx => shared (m ((c : Thread nD τ).loc main_arg0)) (m ((c : Thread nD τ).loc main_arg1)) (m ((c : Thread nD τ).loc main_arg4)) (i 0) (i 1).val := by
  refine (dats m 0 c).arrAt_eq_of_covers 18 _ covers_kr fun t hf y => ?_
  blk_simp
  rw [after0_18]
  obtain ⟨r, e, rfl⟩ : ∃ (r : Fin 256) (e : Fin 128), y = ix2 r e := ⟨y 0, y 1, by funext a; match a with | ⟨0, _⟩ => rfl | ⟨1, _⟩ => rfl⟩
  refine (point_kr m c hm t r e ((((cfg0.win 18).blk t).view.emb (ix2 r e)) 0) (by blk_simp [idx_out t])).trans ?_
  refine congrArg (fun z : ℕ => shared (m ((c : Thread nD τ).loc main_arg0)) (m ((c : Thread nD τ).loc main_arg1)) (m ((c : Thread nD τ).loc main_arg4)) ((((cfg0.win 18).blk t).view.emb (ix2 r e)) 0) z) ?_
  blk_simp [idx_out t]

theorem stored_dq (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x256.Idx) :
    out0_19 (F := Ideal) x0 x1 x2 x3 x4 x5 x6 x7 x8 x9 x10 x11 x12 x13 y = k0_pay32 (F := Ideal) (k0_pay4 (F := Ideal) x0 x1 x4 x10 x11) y := by
  unfold_out out0_19
  frame_out

theorem point_dq (c : Dev nD) (hm : RealArgs m c) (t : Fin cfg0.N) (r : Fin 256) (e : Fin 256) (R : Fin 32768) (hR : R.val = t.val * 256 + r.val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = rotated (m ((c : Thread nD τ).loc main_arg0)) (m ((c : Thread nD τ).loc main_arg1)) (m ((c : Thread nD τ).loc main_arg4)) R 672 e.val := by
  rw [stored_dq]
  exact dq_at m c hm t r e R hR

theorem covers_dq : (cfg0.win 19).Covers := by decide +kernel

theorem final_dq (c : Dev nD) (hm : RealArgs m c) : (dats m 0 c).arrAt 19 (cfgs 0).N = fun i : S32768x256.Idx => rotated (m ((c : Thread nD τ).loc main_arg0)) (m ((c : Thread nD τ).loc main_arg1)) (m ((c : Thread nD τ).loc main_arg4)) (i 0) 672 (i 1).val := by
  refine (dats m 0 c).arrAt_eq_of_covers 19 _ covers_dq fun t hf y => ?_
  blk_simp
  rw [after0_19]
  obtain ⟨r, e, rfl⟩ : ∃ (r : Fin 256) (e : Fin 256), y = ix2 r e := ⟨y 0, y 1, by funext a; match a with | ⟨0, _⟩ => rfl | ⟨1, _⟩ => rfl⟩
  refine (point_dq m c hm t r e ((((cfg0.win 19).blk t).view.emb (ix2 r e)) 0) (by blk_simp [idx_out t])).trans ?_
  refine congrArg (fun z : ℕ => rotated (m ((c : Thread nD τ).loc main_arg0)) (m ((c : Thread nD τ).loc main_arg1)) (m ((c : Thread nD τ).loc main_arg4)) ((((cfg0.win 19).blk t).view.emb (ix2 r e)) 0) 672 z) ?_
  blk_simp [idx_out t]

theorem stored_dk (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x256.Idx) :
    out0_20 (F := Ideal) x0 x1 x2 x3 x4 x5 x6 x7 x8 x9 x10 x11 x12 x13 y = k0_pay5 (F := Ideal) x0 x1 x4 x10 x11 y := by
  unfold_out out0_20
  frame_out

theorem point_dk (c : Dev nD) (hm : RealArgs m c) (t : Fin cfg0.N) (r : Fin 256) (e : Fin 256) (R : Fin 32768) (hR : R.val = t.val * 256 + r.val) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = rotated (m ((c : Thread nD τ).loc main_arg0)) (m ((c : Thread nD τ).loc main_arg1)) (m ((c : Thread nD τ).loc main_arg4)) R 928 e.val := by
  rw [stored_dk]
  exact dk_at m c hm t r e R hR

theorem covers_dk : (cfg0.win 20).Covers := by decide +kernel

theorem final_dk (c : Dev nD) (hm : RealArgs m c) : (dats m 0 c).arrAt 20 (cfgs 0).N = fun i : S32768x256.Idx => rotated (m ((c : Thread nD τ).loc main_arg0)) (m ((c : Thread nD τ).loc main_arg1)) (m ((c : Thread nD τ).loc main_arg4)) (i 0) 928 (i 1).val := by
  refine (dats m 0 c).arrAt_eq_of_covers 20 _ covers_dk fun t hf y => ?_
  blk_simp
  rw [after0_20]
  obtain ⟨r, e, rfl⟩ : ∃ (r : Fin 256) (e : Fin 256), y = ix2 r e := ⟨y 0, y 1, by funext a; match a with | ⟨0, _⟩ => rfl | ⟨1, _⟩ => rfl⟩
  refine (point_dk m c hm t r e ((((cfg0.win 20).blk t).view.emb (ix2 r e)) 0) (by blk_simp [idx_out t])).trans ?_
  refine congrArg (fun z : ℕ => rotated (m ((c : Thread nD τ).loc main_arg0)) (m ((c : Thread nD τ).loc main_arg1)) (m ((c : Thread nD τ).loc main_arg4)) ((((cfg0.win 20).blk t).view.emb (ix2 r e)) 0) 928 z) ?_
  blk_simp [idx_out t]

theorem stored_dkb (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x256.Idx) :
    out0_21 (F := Ideal) x0 x1 x2 x3 x4 x5 x6 x7 x8 x9 x10 x11 x12 x13 y = k0_pay33 (F := Ideal) (k0_pay5 (F := Ideal) x0 x1 x4 x10 x11) y := by
  unfold_out out0_21
  frame_out

theorem point_dkb (c : Dev nD) (hm : RealArgs m c) (t : Fin cfg0.N) (r : Fin 256) (e : Fin 256) (R : Fin 32768) (hR : R.val = t.val * 256 + r.val) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = rotated (m ((c : Thread nD τ).loc main_arg0)) (m ((c : Thread nD τ).loc main_arg1)) (m ((c : Thread nD τ).loc main_arg4)) R 928 e.val := by
  rw [stored_dkb]
  exact dk_at m c hm t r e R hR

theorem covers_dkb : (cfg0.win 21).Covers := by decide +kernel

theorem final_dkb (c : Dev nD) (hm : RealArgs m c) : (dats m 0 c).arrAt 21 (cfgs 0).N = fun i : S32768x256.Idx => rotated (m ((c : Thread nD τ).loc main_arg0)) (m ((c : Thread nD τ).loc main_arg1)) (m ((c : Thread nD τ).loc main_arg4)) (i 0) 928 (i 1).val := by
  refine (dats m 0 c).arrAt_eq_of_covers 21 _ covers_dkb fun t hf y => ?_
  blk_simp
  rw [after0_21]
  obtain ⟨r, e, rfl⟩ : ∃ (r : Fin 256) (e : Fin 256), y = ix2 r e := ⟨y 0, y 1, by funext a; match a with | ⟨0, _⟩ => rfl | ⟨1, _⟩ => rfl⟩
  refine (point_dkb m c hm t r e ((((cfg0.win 21).blk t).view.emb (ix2 r e)) 0) (by blk_simp [idx_out t])).trans ?_
  refine congrArg (fun z : ℕ => rotated (m ((c : Thread nD τ).loc main_arg0)) (m ((c : Thread nD τ).loc main_arg1)) (m ((c : Thread nD τ).loc main_arg4)) ((((cfg0.win 21).blk t).view.emb (ix2 r e)) 0) 928 z) ?_
  blk_simp [idx_out t]

theorem stored_dv (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x256.Idx) :
    out0_22 (F := Ideal) x0 x1 x2 x3 x4 x5 x6 x7 x8 x9 x10 x11 x12 x13 y = k0_pay7 (F := Ideal) x0 x1 x4 y := by
  unfold_out out0_22
  frame_out

theorem point_dv (c : Dev nD) (t : Fin cfg0.N) (r : Fin 256) (e : Fin 256) (R : Fin 32768) (hR : R.val = t.val * 256 + r.val) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = projected (m ((c : Thread nD τ).loc main_arg0)) (m ((c : Thread nD τ).loc main_arg1)) (m ((c : Thread nD τ).loc main_arg4)) R (1184 + e.val) := by
  rw [stored_dv]
  exact dv_at m c t r e R hR

theorem covers_dv : (cfg0.win 22).Covers := by decide +kernel

theorem final_dv (c : Dev nD) : (dats m 0 c).arrAt 22 (cfgs 0).N = fun i : S32768x256.Idx => projected (m ((c : Thread nD τ).loc main_arg0)) (m ((c : Thread nD τ).loc main_arg1)) (m ((c : Thread nD τ).loc main_arg4)) (i 0) (1184 + (i 1).val) := by
  refine (dats m 0 c).arrAt_eq_of_covers 22 _ covers_dv fun t hf y => ?_
  blk_simp
  rw [after0_22]
  obtain ⟨r, e, rfl⟩ : ∃ (r : Fin 256) (e : Fin 256), y = ix2 r e := ⟨y 0, y 1, by funext a; match a with | ⟨0, _⟩ => rfl | ⟨1, _⟩ => rfl⟩
  refine (point_dv m c t r e ((((cfg0.win 22).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg4)) ((((cfg0.win 22).blk t).view.emb (ix2 r e)) 0) (1184 + z)) ?_
  blk_simp [idx_out t]

theorem stored_dvb (x0 : FVec Ideal S256x1024 .f32) (x1 : FVec Ideal S1x1024 .f32) (x2 : FVec Ideal S1x384 .f32) (x3 : FVec Ideal S1x256 .f32) (x4 : FVec Ideal S1024x2176 .bf16) (x5 x6 : FVec Ideal S384x1536 .bf16)
    (x7 : FVec Ideal S256x1536 .bf16) (x8 : FVec Ideal S128x1536 .bf16) (x9 : FVec Ideal S256x768 .bf16) (x10 x11 : FVec Ideal S256x256 .f32) (x12 x13 : FVec Ideal S256x128 .f32) (y : S256x256.Idx) :
    out0_23 (F := Ideal) x0 x1 x2 x3 x4 x5 x6 x7 x8 x9 x10 x11 x12 x13 y = k0_pay34 (F := Ideal) (k0_pay7 (F := Ideal) x0 x1 x4) y := by
  unfold_out out0_23
  frame_out

theorem point_dvb (c : Dev nD) (t : Fin cfg0.N) (r : Fin 256) (e : Fin 256) (R : Fin 32768) (hR : R.val = t.val * 256 + r.val) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r e) = projected (m ((c : Thread nD τ).loc main_arg0)) (m ((c : Thread nD τ).loc main_arg1)) (m ((c : Thread nD τ).loc main_arg4)) R (1184 + e.val) := by
  rw [stored_dvb]
  exact dv_at m c t r e R hR

theorem covers_dvb : (cfg0.win 23).Covers := by decide +kernel

theorem final_dvb (c : Dev nD) : (dats m 0 c).arrAt 23 (cfgs 0).N = fun i : S32768x256.Idx => projected (m ((c : Thread nD τ).loc main_arg0)) (m ((c : Thread nD τ).loc main_arg1)) (m ((c : Thread nD τ).loc main_arg4)) (i 0) (1184 + (i 1).val) := by
  refine (dats m 0 c).arrAt_eq_of_covers 23 _ covers_dvb fun t hf y => ?_
  blk_simp
  rw [after0_23]
  obtain ⟨r, e, rfl⟩ : ∃ (r : Fin 256) (e : Fin 256), y = ix2 r e := ⟨y 0, y 1, by funext a; match a with | ⟨0, _⟩ => rfl | ⟨1, _⟩ => rfl⟩
  refine (point_dvb m c t r e ((((cfg0.win 23).blk t).view.emb (ix2 r e)) 0) (by blk_simp [idx_out t])).trans ?_
  refine congrArg (fun z : ℕ => projected (m ((c : Thread nD τ).loc main_arg0)) (m ((c : Thread nD τ).loc main_arg1)) (m ((c : Thread nD τ).loc main_arg4)) ((((cfg0.win 23).blk t).view.emb (ix2 r e)) 0) (1184 + z)) ?_
  blk_simp [idx_out t]

end Cert.Even
-- ==== Proof.Even.Reference.lean ====
module

public import proofs.«01_k».proof.Proof.Gen.Reference8Ideal.Read
public import proofs.«01_k».proof.Proof.Even.Rows

set_option maxRecDepth 16384

/-!
# What the reference of the even layers' projection computes

Each of the ten results at one row and column, through the projection, the two parts divided by their own root mean
squares, and the turned columns.
-/

@[expose] public section
noncomputable section
namespace Cert.Even.Ref
open Idealize.ShloMosaic Idealize.ShloMosaic.TcCoe Idealize.SL.Sem

open Cert.Reference8Ideal Cert.Reference8Ideal.Gen Cert.Reference8Ideal.Read

variable (x : FVec Ideal S32768x1024 .f32) (g : FVec Ideal S1024 .f32) (qg : FVec Ideal S384 .f32) (kg : FVec Ideal S256 .f32)
  (w : FVec Ideal S1024x1440 .f32) (uq : FVec Ideal S384x1152 .f32) (uk uv : FVec Ideal S256x768 .f32)

/-- The whole projection. -/
theorem product (R : Fin 32768) (C : Fin 1440) : val_main_v13 (F := Ideal) x g w (ix2 R C) = projected x g w R C.val := by
  unfold projected normal rms
  simp only [fun k : Fin 1024 => col_of w k C.val C.isLt]
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem part_q (R : Fin 32768) (k : Fin 384) : val_main_v14 (F := Ideal) x g w (ix2 R k) = projected x g w R k.val := by
  pointwise [val_main_v14]
  exact product x g w R ⟨k.val, _⟩

theorem part_kv (R : Fin 32768) (k : Fin 256) : val_main_v15 (F := Ideal) x g w (ix2 R k) = projected x g w R (384 + k.val) := by
  pointwise [val_main_v15]
  exact product x g w R ⟨384 + k.val, _⟩

theorem part_dv (R : Fin 32768) (k : Fin 256) : val_main_v19 (F := Ideal) x g w (ix2 R k) = projected x g w R (1184 + k.val) := by
  pointwise [val_main_v19]
  exact product x g w R ⟨1184 + k.val, _⟩

theorem normed_q (R : Fin 32768) (k : Fin 384) : val_main_v32 (F := Ideal) x g qg w (ix2 R k) = inner x g qg w R k := by
  unfold inner rms
  simp only [← part_q]
  pointwise [val_main_v32, val_main_v31, val_main_v30, val_main_v29, val_main_v28, val_main_v27, val_main_v26, val_main_v25, val_main_v24, val_main_v23, val_main_v22, val_main_v21, val_main_v20, val_main_cst_2, val_main_cst_3, val_main_cst_4]

theorem res_ckv (R : Fin 32768) (k : Fin 256) : val_main_v47 (F := Ideal) x g kg w (ix2 R k) = latent x g kg w R k := by
  unfold latent rms
  simp only [← part_kv]
  pointwise [val_main_v47, val_main_v46, val_main_v45, val_main_v44, val_main_v43, val_main_v42, val_main_v41, val_main_v40, val_main_v39, val_main_v38, val_main_v37, val_main_v36, val_main_v35, val_main_cst_5, val_main_cst_6, val_main_cst_7]

/-- The numbers of the queries before they are turned. -/
theorem product_q (R : Fin 32768) (C : Fin 1152) : val_main_v33 (F := Ideal) x g qg w uq (ix2 R C) = query x g qg w uq R C.val := by
  unfold query
  simp only [fun k : Fin 384 => col_of uq k C.val C.isLt, ← normed_q]
  pointwise [val_main_v33]

/-- The keys' numbers from the latents. -/
theorem product_k (R : Fin 32768) (C : Fin 768) : val_main_v194 (F := Ideal) x g kg w uk (ix2 R C) = ∑ k : Fin 256, latent x g kg w R k * col uk k C.val := by
  simp only [fun k : Fin 256 => col_of uk k C.val C.isLt, ← res_ckv]
  pointwise [val_main_v194]

theorem res_v (R : Fin 32768) (e : Fin 768) : val_main_v206 (F := Ideal) x g kg w uv (ix2 R e) = values x g kg w uv R e := by
  unfold values
  simp only [← res_ckv]
  pointwise [val_main_v206, val_main_v205]

theorem cos_kr (p : Fin 4096) (j : Fin 16) : val_main_v62 (F := Ideal) (ix2 p j) = Ideal.cos (angle p.val j.val) := by
  unfold angle
  pointwise [val_main_v62, val_main_v61, val_main_v60, val_main_v59, val_main_v58, val_main_v57, val_main_v56, val_main_v55, val_main_v54, val_main_v53, val_main_v52, val_main_v51, val_main_v50, val_main_v49, val_main_cst_8, val_main_cst_9]

theorem sin_kr (p : Fin 4096) (j : Fin 16) : val_main_v64 (F := Ideal) (ix2 p j) = Ideal.sin (angle p.val j.val) := by
  unfold angle
  pointwise [val_main_v64, val_main_v61, val_main_v60, val_main_v59, val_main_v58, val_main_v57, val_main_v56, val_main_v55, val_main_v54, val_main_v53, val_main_v52, val_main_v51, val_main_v50, val_main_v49, val_main_cst_8, val_main_cst_9]

theorem cos_dq (p : Fin 4096) (j : Fin 16) : val_main_v98 (F := Ideal) (ix2 p j) = Ideal.cos (angle p.val j.val) := by
  unfold angle
  pointwise [val_main_v98, val_main_v97, val_main_v96, val_main_v95, val_main_v94, val_main_v93, val_main_v92, val_main_v91, val_main_v90, val_main_v89, val_main_v88, val_main_v87, val_main_v86, val_main_v85, val_main_cst_10, val_main_cst_11]

theorem sin_dq (p : Fin 4096) (j : Fin 16) : val_main_v100 (F := Ideal) (ix2 p j) = Ideal.sin (angle p.val j.val) := by
  unfold angle
  pointwise [val_main_v100, val_main_v97, val_main_v96, val_main_v95, val_main_v94, val_main_v93, val_main_v92, val_main_v91, val_main_v90, val_main_v89, val_main_v88, val_main_v87, val_main_v86, val_main_v85, val_main_cst_10, val_main_cst_11]

theorem cos_dk (p : Fin 4096) (j : Fin 16) : val_main_v134 (F := Ideal) (ix2 p j) = Ideal.cos (angle p.val j.val) := by
  unfold angle
  pointwise [val_main_v134, val_main_v133, val_main_v132, val_main_v131, val_main_v130, val_main_v129, val_main_v128, val_main_v127, val_main_v126, val_main_v125, val_main_v124, val_main_v123, val_main_v122, val_main_v121, val_main_cst_12, val_main_cst_13]

theorem sin_dk (p : Fin 4096) (j : Fin 16) : val_main_v136 (F := Ideal) (ix2 p j) = Ideal.sin (angle p.val j.val) := by
  unfold angle
  pointwise [val_main_v136, val_main_v133, val_main_v132, val_main_v131, val_main_v130, val_main_v129, val_main_v128, val_main_v127, val_main_v126, val_main_v125, val_main_v124, val_main_v123, val_main_v122, val_main_v121, val_main_cst_12, val_main_cst_13]

theorem cos_q (p : Fin 4096) (j : Fin 16) : val_main_v172 (F := Ideal) (ix2 p j) = Ideal.cos (angle p.val j.val) := by
  unfold angle
  pointwise [val_main_v172, val_main_v171, val_main_v170, val_main_v169, val_main_v168, val_main_v167, val_main_v166, val_main_v165, val_main_v164, val_main_v163, val_main_v162, val_main_v161, val_main_v160, val_main_v159, val_main_cst_15, val_main_cst_16]

theorem sin_q (p : Fin 4096) (j : Fin 16) : val_main_v174 (F := Ideal) (ix2 p j) = Ideal.sin (angle p.val j.val) := by
  unfold angle
  pointwise [val_main_v174, val_main_v171, val_main_v170, val_main_v169, val_main_v168, val_main_v167, val_main_v166, val_main_v165, val_main_v164, val_main_v163, val_main_v162, val_main_v161, val_main_v160, val_main_v159, val_main_cst_15, val_main_cst_16]

/-- The columns from 640 on, turned. -/
theorem turned_kr (R : Fin 32768) (e : Fin 32) : val_main_v83 (F := Ideal) x g w (ix2 R e) = rotated x g w R 640 e.val := by
  have he := e.isLt
  have hR := R.isLt
  unfold rotated rot
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v63, val_main_v48, val_main_v16]
  by_cases h : e.val % 32 < 16
  · have h' : e.val < 16 := by omega
    simp only [dif_pos h', if_pos h, product, cos_kr, sin_kr]
    exact pair_sub (projected x g w R) (by omega) (by omega) (by omega) (by omega) (by omega)
  · have h' : ¬ e.val < 16 := by omega
    simp only [dif_neg h', if_neg h, product, cos_kr, sin_kr]
    exact pair_add (projected x g w R) (by omega) (by omega) (by omega) (by omega) (by omega)

/-- The columns from 672 on, turned. -/
theorem turned_dq (R : Fin 32768) (e : Fin 256) : val_main_v119 (F := Ideal) x g w (ix2 R e) = rotated x g w R 672 e.val := by
  have he := e.isLt
  have hR := R.isLt
  unfold rotated rot
  pointwise [val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v99, val_main_v84, val_main_v17]
  by_cases h : e.val % 32 < 16
  · have h' : e.val % 32 < 16 := by omega
    simp only [dif_pos h', if_pos h, product, cos_dq, sin_dq]
    exact pair_sub (projected x g w R) (by omega) (by omega) (by omega) (by omega) (by omega)
  · have h' : ¬ e.val % 32 < 16 := by omega
    simp only [dif_neg h', if_neg h, product, cos_dq, sin_dq]
    exact pair_add (projected x g w R) (by omega) (by omega) (by omega) (by omega) (by omega)

/-- The columns from 928 on, turned. -/
theorem turned_dk (R : Fin 32768) (e : Fin 256) : val_main_v155 (F := Ideal) x g w (ix2 R e) = rotated x g w R 928 e.val := by
  have he := e.isLt
  have hR := R.isLt
  unfold rotated rot
  pointwise [val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v135, val_main_v120, val_main_v18]
  by_cases h : e.val % 32 < 16
  · have h' : e.val % 32 < 16 := by omega
    simp only [dif_pos h', if_pos h, product, cos_dk, sin_dk]
    exact pair_sub (projected x g w R) (by omega) (by omega) (by omega) (by omega) (by omega)
  · have h' : ¬ e.val % 32 < 16 := by omega
    simp only [dif_neg h', if_neg h, product, cos_dk, sin_dk]
    exact pair_add (projected x g w R) (by omega) (by omega) (by omega) (by omega) (by omega)

theorem res_dq (R : Fin 32768) (e : Fin 256) : val_main_v207 (F := Ideal) x g w (ix2 R e) = rotated x g w R 672 e.val := turned_dq x g w R e

theorem res_dkb (R : Fin 32768) (e : Fin 256) : val_main_v208 (F := Ideal) x g w (ix2 R e) = rotated x g w R 928 e.val := turned_dk x g w R e

theorem res_dvb (R : Fin 32768) (e : Fin 256) : val_main_v209 (F := Ideal) x g w (ix2 R e) = projected x g w R (1184 + e.val) := part_dv x g w R e

theorem res_kr (R : Fin 32768) (e : Fin 128) : val_main_v200 (F := Ideal) x g w (ix2 R e) = shared x g w R e.val := by
  unfold shared
  pointwise [val_main_v200, val_main_v199, val_main_cst_17]
  by_cases h : e.val < 32
  · simp only [dif_pos h, if_pos h, turned_kr]
  · simp only [dif_neg h, if_neg h]

/-- The turned numbers of a query. -/
theorem turned_q (B : Fin 8) (p : Fin 4096) (h : Fin 12) (j : Fin 32) (R : Fin 32768) (hR : R.val = B.val * 4096 + p.val) :
    val_main_v192 (F := Ideal) x g qg w uq (ix4 B p h j) = rot (query x g qg w uq R) (R.val % 4096) (h.val * 96 + 64) j.val := by
  have hj := j.isLt
  have hh := h.isLt
  have hp := p.isLt
  have hRR : ∀ q : (B.val * 4096 + p.val) < 32768, (⟨B.val * 4096 + p.val, q⟩ : Fin 32768) = R := fun q => Fin.ext hR.symm
  unfold rot
  pointwise [val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v173, val_main_v158, val_main_v34]
  by_cases hl : j.val % 32 < 16
  · have h' : j.val < 16 := by omega
    simp only [dif_pos h', if_pos hl, product_q, cos_q, sin_q, hRR]
    exact pair_sub (query x g qg w uq R) (by omega) (by omega) (by omega) (by omega) (by omega)
  · have h' : ¬ j.val < 16 := by omega
    simp only [dif_neg h', if_neg hl, product_q, cos_q, sin_q, hRR]
    exact pair_add (query x g qg w uq R) (by omega) (by omega) (by omega) (by omega) (by omega)

theorem res_q (R : Fin 32768) (e : Fin 1536) : val_main_v202 (F := Ideal) x g qg w uq (ix2 R e) = queries x g qg w uq R e.val := by
  have he := e.isLt
  have hR := R.isLt
  unfold queries
  pointwise [val_main_v202, val_main_v201, val_main_v193, val_main_v157, val_main_v34, val_main_v156, val_main_cst_14]
  by_cases h : e.val % 128 < 64
  · rw [dif_pos h, if_pos h, product_q]
  by_cases h1 : e.val % 128 < 96
  · rw [dif_neg h, if_neg h, dif_pos (show e.val % 128 - 64 < 32 by omega), if_pos h1]
    exact turned_q x g qg w uq ⟨R.val / 4096, by omega⟩ ⟨R.val % 4096, by omega⟩ ⟨e.val / 128, by omega⟩ ⟨e.val % 128 - 64, by omega⟩ R (by dsimp only; omega)
  · rw [dif_neg h, if_neg h, dif_neg (show ¬ e.val % 128 - 64 < 32 by omega), if_neg h1]

theorem res_k (R : Fin 32768) (e : Fin 1536) : val_main_v204 (F := Ideal) x g kg w uk (ix2 R e) = keys x g kg w uk R e.val := by
  have he := e.isLt
  have hR := R.isLt
  unfold keys
  pointwise [val_main_v204, val_main_v203, val_main_v198, val_main_v195, val_main_v197, val_main_v196, val_main_v156, val_main_cst_14]
  by_cases h : e.val % 128 < 64
  · rw [dif_pos h, if_pos h, product_k]
  by_cases h1 : e.val % 128 < 96
  · rw [dif_neg h, if_neg h, dif_pos (show e.val % 128 - 64 < 32 by omega), if_pos h1, turned_kr]
  · rw [dif_neg h, if_neg h, dif_neg (show ¬ e.val % 128 - 64 < 32 by omega), if_neg h1]

end Cert.Even.Ref
-- ==== Proof.Even.Claims.lean ====
module

public import proofs.«01_k».proof.Defs
public import proofs.«01_k».proof.Proof.Even.Final
public import proofs.«01_k».proof.Proof.Even.Reference
public import proofs.«01_k».proof.Proof.Gen.Kernel8.Frame
public import proofs.«01_k».proof.Proof.Gen.Reference8Ideal.Run
public import Idealize.ShloMosaic.Lib.Quiescent

set_option maxRecDepth 16384

/-!
# The claims about the even layers' projection

Kernel and reference were each shown to compute the same functions of the arguments; here they meet, result by result.
-/

@[expose] public section
noncomputable section
namespace Cert.Even
open Idealize.ShloMosaic Idealize.ShloMosaic.TcCoe Idealize.SL.Sem

theorem preFacts : Cert.Pre_finite8.Facts := ⟨by decide, by decide, by decide, by decide, by decide⟩

/-- An extended real strictly between the infinities is a real number. -/
theorem real_of_between (x : EReal) (h : (Ideal.cmp .ogt x (Ideal.ofBits .f32 0xFF800000#32) &&& Ideal.cmp .olt x (Ideal.ofBits .f32 0x7F800000#32)) = 1#1) :
    Finite.IsReal x := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  have h1 : ⊥ < x := by
    by_contra hc
    simp [Ideal.cmp, hc] at h
  have h2 : x < ⊤ := by
    by_contra hc
    simp [Ideal.cmp, hc] at h
  exact ⟨x.toReal, (EReal.coe_toReal h2.ne h1.ne').symm⟩

/-- The precondition says that five of the arguments are real numbers. -/
theorem real_of_pre (m : (ℓ : Loc Cert.Kernel8Ideal.nD Cert.Kernel8Ideal.τ Cert.Kernel8Ideal.sig) → Buf (Elt Ideal) ℓ) (h : Cert.Pre_Kernel8Ideal_finite8 (hPre_finite8 := preFacts) m)
    (c : Dev Cert.Kernel8Ideal.nD) : RealArgs m c :=
  ⟨fun i => real_of_between _ (congrFun (h c).1 i), fun i => real_of_between _ (congrFun (h c).2.1 i), fun i => real_of_between _ (congrFun (h c).2.2.1 i),
    fun i => real_of_between _ (congrFun (h c).2.2.2.1 i), fun i => real_of_between _ (congrFun (h c).2.2.2.2 i)⟩

/-- The kernel runs and keeps its arguments. -/
theorem frame_p : Cert.quiescent_Kernel8 (hKernel8 := Cert.Kernel8.Gen.facts) := fun m ρ _ => Cert.Kernel8.Gen.frame m ρ

theorem frame_pi : Cert.quiescent_Kernel8Ideal (hKernel8Ideal := Cert.Kernel8Ideal.Gen.facts) := fun m ρ _ => Cert.Kernel8Ideal.Gen.frame m ρ

theorem frame_pi_pre : Cert.quiescent_Kernel8Ideal_pre_finite8 (hKernel8Ideal := Cert.Kernel8Ideal.Gen.facts) (hPre_finite8 := preFacts) :=
  fun m ρ _ => Cert.Kernel8Ideal.Gen.frame m ρ

theorem frame_ri : Cert.quiescent_Reference8Ideal (hReference8Ideal := Cert.Reference8Ideal.Gen.facts) := fun m ρ _ =>
  (θ_run Cert.Reference8Ideal.defs _ _).mono (fun r h => ⟨fun c => (h c).2.2.2.2.2.2.2.2.2.2, sem_eq_zero_of_no_sems (by decide) r.2⟩)
    (Cert.Reference8Ideal.Value.run (F := Ideal) m ρ)

theorem frame_ri_pre : Cert.quiescent_Reference8Ideal_pre_finite8 (hReference8Ideal := Cert.Reference8Ideal.Gen.facts) (hPre_finite8 := preFacts) :=
  fun m ρ _ => frame_ri m ρ trivial

/-- No constant is renamed here. -/
theorem preserves : Cert.preserves_Kernel8_Kernel8Ideal := trivial

variable (m : (ℓ : Loc Cert.Kernel8Ideal.nD Cert.Kernel8Ideal.τ Cert.Kernel8Ideal.sig) → Buf (Elt Ideal) ℓ)

theorem meet_q (c : Dev Cert.Kernel8Ideal.nD) (hm : RealArgs m c) :
    Cert.Reference8Ideal.Read.val_main_v202 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg4)) (m ((c : Thread Cert.Kernel8Ideal.nD Cert.Kernel8Ideal.τ).loc Cert.Kernel8Ideal.main_arg5))
      = (Cert.Kernel8Ideal.Gen.dats m 0 c).arrAt 14 (Cert.Kernel8Ideal.cfgs 0).N := by
  refine Eq.trans ?_ (final_q m c hm).symm
  funext i
  obtain ⟨r, d, rfl⟩ : ∃ (r : Fin 32768) (d : Fin 1536), i = ix2 r d := ⟨i 0, i 1, by funext a; match a with | ⟨0, _⟩ => rfl | ⟨1, _⟩ => rfl⟩
  exact Ref.res_q _ _ _ _ _ r d

theorem meet_k (c : Dev Cert.Kernel8Ideal.nD) (hm : RealArgs m c) :
    Cert.Reference8Ideal.Read.val_main_v204 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4)) (m ((c : Thread Cert.Kernel8Ideal.nD Cert.Kernel8Ideal.τ).loc Cert.Kernel8Ideal.main_arg6))
      = (Cert.Kernel8Ideal.Gen.dats m 0 c).arrAt 15 (Cert.Kernel8Ideal.cfgs 0).N := by
  refine Eq.trans ?_ (final_k m c hm).symm
  funext i
  obtain ⟨r, d, rfl⟩ : ∃ (r : Fin 32768) (d : Fin 1536), i = ix2 r d := ⟨i 0, i 1, by funext a; match a with | ⟨0, _⟩ => rfl | ⟨1, _⟩ => rfl⟩
  exact Ref.res_k _ _ _ _ _ r d

theorem meet_v (c : Dev Cert.Kernel8Ideal.nD) :
    Cert.Reference8Ideal.Read.val_main_v206 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4)) (m ((c : Thread Cert.Kernel8Ideal.nD Cert.Kernel8Ideal.τ).loc Cert.Kernel8Ideal.main_arg7))
      = (Cert.Kernel8Ideal.Gen.dats m 0 c).arrAt 16 (Cert.Kernel8Ideal.cfgs 0).N := by
  refine Eq.trans ?_ (final_v m c).symm
  funext i
  obtain ⟨r, d, rfl⟩ : ∃ (r : Fin 32768) (d : Fin 768), i = ix2 r d := ⟨i 0, i 1, by funext a; match a with | ⟨0, _⟩ => rfl | ⟨1, _⟩ => rfl⟩
  exact Ref.res_v _ _ _ _ _ r d

theorem meet_ckv (c : Dev Cert.Kernel8Ideal.nD) :
    Cert.Reference8Ideal.Read.val_main_v47 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4))
      = (Cert.Kernel8Ideal.Gen.dats m 0 c).arrAt 17 (Cert.Kernel8Ideal.cfgs 0).N := by
  refine Eq.trans ?_ (final_ckv m c).symm
  funext i
  obtain ⟨r, d, rfl⟩ : ∃ (r : Fin 32768) (d : Fin 256), i = ix2 r d := ⟨i 0, i 1, by funext a; match a with | ⟨0, _⟩ => rfl | ⟨1, _⟩ => rfl⟩
  exact Ref.res_ckv _ _ _ _ r d

theorem meet_kr (c : Dev Cert.Kernel8Ideal.nD) (hm : RealArgs m c) :
    Cert.Reference8Ideal.Read.val_main_v200 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg4))
      = (Cert.Kernel8Ideal.Gen.dats m 0 c).arrAt 18 (Cert.Kernel8Ideal.cfgs 0).N := by
  refine Eq.trans ?_ (final_kr m c hm).symm
  funext i
  obtain ⟨r, d, rfl⟩ : ∃ (r : Fin 32768) (d : Fin 128), i = ix2 r d := ⟨i 0, i 1, by funext a; match a with | ⟨0, _⟩ => rfl | ⟨1, _⟩ => rfl⟩
  exact Ref.res_kr _ _ _ r d

theorem meet_dq (c : Dev Cert.Kernel8Ideal.nD) (hm : RealArgs m c) :
    Cert.Reference8Ideal.Read.val_main_v207 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg4))
      = (Cert.Kernel8Ideal.Gen.dats m 0 c).arrAt 19 (Cert.Kernel8Ideal.cfgs 0).N := by
  refine Eq.trans ?_ (final_dq m c hm).symm
  funext i
  obtain ⟨r, d, rfl⟩ : ∃ (r : Fin 32768) (d : Fin 256), i = ix2 r d := ⟨i 0, i 1, by funext a; match a with | ⟨0, _⟩ => rfl | ⟨1, _⟩ => rfl⟩
  exact Ref.res_dq _ _ _ r d

theorem meet_dk (c : Dev Cert.Kernel8Ideal.nD) (hm : RealArgs m c) :
    Cert.Reference8Ideal.Read.val_main_v155 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg4))
      = (Cert.Kernel8Ideal.Gen.dats m 0 c).arrAt 20 (Cert.Kernel8Ideal.cfgs 0).N := by
  refine Eq.trans ?_ (final_dk m c hm).symm
  funext i
  obtain ⟨r, d, rfl⟩ : ∃ (r : Fin 32768) (d : Fin 256), i = ix2 r d := ⟨i 0, i 1, by funext a; match a with | ⟨0, _⟩ => rfl | ⟨1, _⟩ => rfl⟩
  exact Ref.turned_dk _ _ _ r d

theorem meet_dkb (c : Dev Cert.Kernel8Ideal.nD) (hm : RealArgs m c) :
    Cert.Reference8Ideal.Read.val_main_v208 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg4))
      = (Cert.Kernel8Ideal.Gen.dats m 0 c).arrAt 21 (Cert.Kernel8Ideal.cfgs 0).N := by
  refine Eq.trans ?_ (final_dkb m c hm).symm
  funext i
  obtain ⟨r, d, rfl⟩ : ∃ (r : Fin 32768) (d : Fin 256), i = ix2 r d := ⟨i 0, i 1, by funext a; match a with | ⟨0, _⟩ => rfl | ⟨1, _⟩ => rfl⟩
  exact Ref.res_dkb _ _ _ r d

theorem meet_dv (c : Dev Cert.Kernel8Ideal.nD) :
    Cert.Reference8Ideal.Read.val_main_v19 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg4))
      = (Cert.Kernel8Ideal.Gen.dats m 0 c).arrAt 22 (Cert.Kernel8Ideal.cfgs 0).N := by
  refine Eq.trans ?_ (final_dv m c).symm
  funext i
  obtain ⟨r, d, rfl⟩ : ∃ (r : Fin 32768) (d : Fin 256), i = ix2 r d := ⟨i 0, i 1, by funext a; match a with | ⟨0, _⟩ => rfl | ⟨1, _⟩ => rfl⟩
  exact Ref.part_dv _ _ _ r d

theorem meet_dvb (c : Dev Cert.Kernel8Ideal.nD) :
    Cert.Reference8Ideal.Read.val_main_v209 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg4))
      = (Cert.Kernel8Ideal.Gen.dats m 0 c).arrAt 23 (Cert.Kernel8Ideal.cfgs 0).N := by
  refine Eq.trans ?_ (final_dvb m c).symm
  funext i
  obtain ⟨r, d, rfl⟩ : ∃ (r : Fin 32768) (d : Fin 256), i = ix2 r d := ⟨i 0, i 1, by funext a; match a with | ⟨0, _⟩ => rfl | ⟨1, _⟩ => rfl⟩
  exact Ref.res_dvb _ _ _ r d

/-- On real arguments each of the kernel's results is the reference's. -/
theorem algebraic : Cert.algebraic_Kernel8Ideal_Reference8Ideal_pre_finite8 (hKernel8Ideal := Cert.Kernel8Ideal.Gen.facts)
    (hReference8Ideal := Cert.Reference8Ideal.Gen.facts) (hPre_finite8 := preFacts) := by
  intro m ρ m' ρ' hpre hagree
  refine ⟨_, _, _, _, _, _, _, _, _, _, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨h0, h1, h2, h3, h4, h5, h6, h7⟩ := hagree c
  have hm := real_of_pre m hpre c
  have k0 : StableHlo.launchContents m' c (Proc.devRef .tc Cert.Reference8Ideal.main_arg0) = _ := h0
  have k1 : StableHlo.launchContents m' c (Proc.devRef .tc Cert.Reference8Ideal.main_arg1) = _ := h1
  have k2 : StableHlo.launchContents m' c (Proc.devRef .tc Cert.Reference8Ideal.main_arg2) = _ := h2
  have k3 : StableHlo.launchContents m' c (Proc.devRef .tc Cert.Reference8Ideal.main_arg3) = _ := h3
  have k4 : StableHlo.launchContents m' c (Proc.devRef .tc Cert.Reference8Ideal.main_arg4) = _ := h4
  have k5 : StableHlo.launchContents m' c (Proc.devRef .tc Cert.Reference8Ideal.main_arg5) = _ := h5
  have k6 : StableHlo.launchContents m' c (Proc.devRef .tc Cert.Reference8Ideal.main_arg6) = _ := h6
  have k7 : StableHlo.launchContents m' c (Proc.devRef .tc Cert.Reference8Ideal.main_arg7) = _ := h7
  obtain ⟨r0, r1, r2, r3, r4, r5, r6, r7, r8, r9, hargs⟩ := h c
  rw [Cert.Reference8Ideal.Read.val_main_v202_eq, k0, k1, k2, k4, k5, meet_q m c hm] at r0
  rw [Cert.Reference8Ideal.Read.val_main_v204_eq, k0, k1, k3, k4, k6, meet_k m c hm] at r1
  rw [Cert.Reference8Ideal.Read.val_main_v206_eq, k0, k1, k3, k4, k7, meet_v m c] at r2
  rw [Cert.Reference8Ideal.Read.val_main_v47_eq, k0, k1, k3, k4, meet_ckv m c] at r3
  rw [Cert.Reference8Ideal.Read.val_main_v200_eq, k0, k1, k4, meet_kr m c hm] at r4
  rw [Cert.Reference8Ideal.Read.val_main_v207_eq, k0, k1, k4, meet_dq m c hm] at r5
  rw [Cert.Reference8Ideal.Read.val_main_v155_eq, k0, k1, k4, meet_dk m c hm] at r6
  rw [Cert.Reference8Ideal.Read.val_main_v208_eq, k0, k1, k4, meet_dkb m c hm] at r7
  rw [Cert.Reference8Ideal.Read.val_main_v19_eq, k0, k1, k4, meet_dv m c] at r8
  rw [Cert.Reference8Ideal.Read.val_main_v209_eq, k0, k1, k4, meet_dvb m c] at r9
  exact ⟨r0, r1, r2, r3, r4, r5, r6, r7, r8, r9, hargs⟩

end Cert.Even
-- ==== Proof.lean ====
module

public import proofs.«01_k».proof.Defs
public import proofs.«01_k».proof.Proof.Claims
public import proofs.«01_k».proof.Proof.Ffn.Claims
public import proofs.«01_k».proof.Proof.Mem.Claims
public import proofs.«01_k».proof.Proof.Out.Claims
public import proofs.«01_k».proof.Proof.Query.Claims
public import proofs.«01_k».proof.Proof.Odd.Claims
public import proofs.«01_k».proof.Proof.Even.Claims
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Attention.preFacts, Odd.preFacts, Even.preFacts,
    Attention.frame_p, Attention.frame_pi, Attention.frame_pi_pre, Attention.frame_ri, Attention.frame_ri_pre,
    Ffn.frame_p, Ffn.frame_pi, Ffn.frame_ri,
    Mem.frame_p, Mem.frame_pi, Mem.frame_ri,
    Out.frame_p, Out.frame_pi, Out.frame_ri,
    Query.frame_p, Query.frame_pi, Query.frame_ri,
    Odd.frame_p, Odd.frame_pi, Odd.frame_pi_pre, Odd.frame_ri, Odd.frame_ri_pre,
    Even.frame_p, Even.frame_pi, Even.frame_pi_pre, Even.frame_ri, Even.frame_ri_pre,
    Attention.preserves, Attention.algebraic,
    Ffn.preserves, Ffn.algebraic,
    Mem.preserves, Mem.algebraic,
    Out.preserves, Out.algebraic,
    Query.preserves, Query.algebraic,
    Odd.preserves, Odd.algebraic,
    Even.preserves, Even.algebraic⟩

end Cert.Proof

end
